-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_drawn [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_drawn [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_drawn [hKernelIdeal : Cert.KernelIdeal.Facts] [hReferenceIdeal : Cert.ReferenceIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v39)) (v1 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_v38) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v184) = v0 c
          ∧ r.2.mem ((c.tc : Thread Cert.ReferenceIdeal.nD Cert.ReferenceIdeal.τ).loc Cert.ReferenceIdeal.main_v183) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_drawn : Cert.Pre_drawn.Facts),
    quiescent_Kernel (hKernel := hKernel)
    ∧ quiescent_KernelIdeal (hKernelIdeal := hKernelIdeal)
    ∧ quiescent_KernelIdeal_pre_drawn (hKernelIdeal := hKernelIdeal) (hPre_drawn := hPre_drawn)
    ∧ quiescent_ReferenceIdeal (hReferenceIdeal := hReferenceIdeal)
    ∧ quiescent_ReferenceIdeal_pre_drawn (hReferenceIdeal := hReferenceIdeal) (hPre_drawn := hPre_drawn)
    ∧ preserves_Kernel_KernelIdeal
    ∧ algebraic_KernelIdeal_ReferenceIdeal_pre_drawn (hKernelIdeal := hKernelIdeal) (hReferenceIdeal := hReferenceIdeal) (hPre_drawn := hPre_drawn)
-- ==== Pre_drawn.lean ====
abbrev S1024x4096 : Shape := ⟨2, ![1024, 4096]⟩
abbrev S2048x4096 : Shape := ⟨2, ![2048, 4096]⟩
abbrev S16x4096 : Shape := ⟨2, ![16, 4096]⟩
abbrev S2040 : Shape := ⟨1, ![2040]⟩
abbrev S2040x4096 : Shape := ⟨2, ![2040, 4096]⟩
abbrev S_ : Shape := ⟨0, ![]⟩

class Facts : Prop where
  bcast_S_S1024x4096 : S_.BroadcastsInDim S1024x4096 (![] : Fin 0 → Fin S1024x4096.rank)
  bcast_S_S2048x4096 : S_.BroadcastsInDim S2048x4096 (![] : Fin 0 → Fin S2048x4096.rank)
  bcast_S_S2040 : S_.BroadcastsInDim S2040 (![] : Fin 0 → Fin S2040.rank)

variable [Facts]

def fn_part1 {F : FTy → Type} [FloatOps F] (main_arg4 : IVec S2048x4096 32) (main_arg7 : IVec S2040 32) (main_arg8 : IVec S2040 32) (main_v2 : IVec S1024x4096 1) (main_v7 : IVec S1024x4096 1) (main_v12 : IVec S1024x4096 1) (main_v14 : IVec S2048x4096 1) (main_v16 : IVec S2048x4096 1) : IVec S1024x4096 1 × IVec S1024x4096 1 × IVec S1024x4096 1 × IVec S2048x4096 1 × IVec S2048x4096 1 × IVec S2040 1 × IVec S2040 1 :=
  let main_v17 : IVec S2048x4096 1 := andi main_v14 main_v16
  let main_c_5 : IVec S_ 32 := constantI S_ 32 0#32
  let main_v18 : IVec S2048x4096 32 := broadcastInDim S2048x4096 ![] bcast_S_S2048x4096 main_c_5
  let main_v19 : IVec S2048x4096 1 := cmpi .sge main_arg4 main_v18
  let main_c_6 : IVec S_ 32 := constantI S_ 32 2#32
  let main_v20 : IVec S2048x4096 32 := broadcastInDim S2048x4096 ![] bcast_S_S2048x4096 main_c_6
  let main_v21 : IVec S2048x4096 1 := cmpi .slt main_arg4 main_v20
  let main_v22 : IVec S2048x4096 1 := andi main_v19 main_v21
  let main_c_7 : IVec S_ 32 := constantI S_ 32 0#32
  let main_v23 : IVec S2040 32 := broadcastInDim S2040 ![] bcast_S_S2040 main_c_7
  let main_v24 : IVec S2040 1 := cmpi .sge main_arg7 main_v23
  let main_c_8 : IVec S_ 32 := constantI S_ 32 2048#32
  let main_v25 : IVec S2040 32 := broadcastInDim S2040 ![] bcast_S_S2040 main_c_8
  let main_v26 : IVec S2040 1 := cmpi .slt main_arg7 main_v25
  let main_v27 : IVec S2040 1 := andi main_v24 main_v26
  let main_c_9 : IVec S_ 32 := constantI S_ 32 0#32
  let main_v28 : IVec S2040 32 := broadcastInDim S2040 ![] bcast_S_S2040 main_c_9
  let main_v29 : IVec S2040 1 := cmpi .sge main_arg8 main_v28
  let main_c_10 : IVec S_ 32 := constantI S_ 32 2048#32
  let main_v30 : IVec S2040 32 := broadcastInDim S2040 ![] bcast_S_S2040 main_c_10
  let main_v31 : IVec S2040 1 := cmpi .slt main_arg8 main_v30
  let main_v32 : IVec S2040 1 := andi main_v29 main_v31
  (main_v2, main_v7, main_v12, main_v17, main_v22, main_v27, main_v32)

def fn {F : FTy → Type} [FloatOps F] (main_arg0 : IVec S1024x4096 32) (main_arg1 : IVec S1024x4096 32) (main_arg2 : FVec F S1024x4096 .f32) (main_arg3 : IVec S2048x4096 32) (main_arg4 : IVec S2048x4096 32) (main_arg5 : IVec S16x4096 32) (main_arg6 : IVec S16x4096 32) (main_arg7 : IVec S2040 32) (main_arg8 : IVec S2040 32) (main_arg9 : IVec S2040x4096 32) (main_arg10 : IVec S2040x4096 32) : IVec S1024x4096 1 × IVec S1024x4096 1 × IVec S1024x4096 1 × IVec S2048x4096 1 × IVec S2048x4096 1 × IVec S2040 1 × IVec S2040 1 :=
  let main_v0 : FVec F S1024x4096 .f32 := Host.absf main_arg2
  let main_cst : FVec F S_ .f32 := constant S_ .f32 0x7F800000#32
  let main_v1 : FVec F S1024x4096 .f32 := broadcastInDim S1024x4096 ![] bcast_S_S1024x4096 main_cst
  let main_v2 : IVec S1024x4096 1 := cmpf .olt main_v0 main_v1
  let main_c : IVec S_ 32 := constantI S_ 32 0#32
  let main_v3 : IVec S1024x4096 32 := broadcastInDim S1024x4096 ![] bcast_S_S1024x4096 main_c
  let main_v4 : IVec S1024x4096 1 := cmpi .sge main_arg0 main_v3
  let main_c_0 : IVec S_ 32 := constantI S_ 32 2#32
  let main_v5 : IVec S1024x4096 32 := broadcastInDim S1024x4096 ![] bcast_S_S1024x4096 main_c_0
  let main_v6 : IVec S1024x4096 1 := cmpi .slt main_arg0 main_v5
  let main_v7 : IVec S1024x4096 1 := andi main_v4 main_v6
  let main_c_1 : IVec S_ 32 := constantI S_ 32 0#32
  let main_v8 : IVec S1024x4096 32 := broadcastInDim S1024x4096 ![] bcast_S_S1024x4096 main_c_1
  let main_v9 : IVec S1024x4096 1 := cmpi .sge main_arg1 main_v8
  let main_c_2 : IVec S_ 32 := constantI S_ 32 2#32
  let main_v10 : IVec S1024x4096 32 := broadcastInDim S1024x4096 ![] bcast_S_S1024x4096 main_c_2
  let main_v11 : IVec S1024x4096 1 := cmpi .slt main_arg1 main_v10
  let main_v12 : IVec S1024x4096 1 := andi main_v9 main_v11
  let main_c_3 : IVec S_ 32 := constantI S_ 32 0#32
  let main_v13 : IVec S2048x4096 32 := broadcastInDim S2048x4096 ![] bcast_S_S2048x4096 main_c_3
  let main_v14 : IVec S2048x4096 1 := cmpi .sge main_arg3 main_v13
  let main_c_4 : IVec S_ 32 := constantI S_ 32 2#32
  let main_v15 : IVec S2048x4096 32 := broadcastInDim S2048x4096 ![] bcast_S_S2048x4096 main_c_4
  let main_v16 : IVec S2048x4096 1 := cmpi .slt main_arg3 main_v15
  fn_part1 (F := F) main_arg4 main_arg7 main_arg8 main_v2 main_v7 main_v12 main_v14 main_v16
-- ==== Kernel.lean ====
abbrev S1024x4096 : Shape := ⟨2, ![1024, 4096]⟩
abbrev S2048x4096 : Shape := ⟨2, ![2048, 4096]⟩
abbrev S16x4096 : Shape := ⟨2, ![16, 4096]⟩
abbrev S2040 : Shape := ⟨1, ![2040]⟩
abbrev S2040x4096 : Shape := ⟨2, ![2040, 4096]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S2048x6144 : Shape := ⟨2, ![2048, 6144]⟩
abbrev S128x4096 : Shape := ⟨2, ![128, 4096]⟩
abbrev S1024x2048 : Shape := ⟨2, ![1024, 2048]⟩
abbrev S1024x1024 : Shape := ⟨2, ![1024, 1024]⟩
abbrev S2048x1024 : Shape := ⟨2, ![2048, 1024]⟩
abbrev S1024x128 : Shape := ⟨2, ![1024, 128]⟩
abbrev S1024 : Shape := ⟨1, ![1024]⟩
abbrev S1024x1 : Shape := ⟨2, ![1024, 1]⟩
abbrev S1024x6144 : Shape := ⟨2, ![1024, 6144]⟩
abbrev S128x1024 : Shape := ⟨2, ![128, 1024]⟩
abbrev S1024x16 : Shape := ⟨2, ![1024, 16]⟩
abbrev S1024x32 : Shape := ⟨2, ![1024, 32]⟩

abbrev nBuf : Space → Nat
  | .hbm => 72
  | .vmem => 76
  | .smem => 0
  | _ => 0

abbrev bufTy : (tb : Table) → Fin (tcTables nBuf tb) → BufTy
  | .hbm, ⟨0, _⟩ => ⟨S1024x4096, .i32⟩
  | .hbm, ⟨1, _⟩ => ⟨S1024x4096, .i32⟩
  | .hbm, ⟨2, _⟩ => ⟨S1024x4096, .f32⟩
  | .hbm, ⟨3, _⟩ => ⟨S2048x4096, .i32⟩
  | .hbm, ⟨4, _⟩ => ⟨S2048x4096, .i32⟩
  | .hbm, ⟨5, _⟩ => ⟨S16x4096, .i32⟩
  | .hbm, ⟨6, _⟩ => ⟨S16x4096, .i32⟩
  | .hbm, ⟨7, _⟩ => ⟨S2040, .i32⟩
  | .hbm, ⟨8, _⟩ => ⟨S2040, .i32⟩
  | .hbm, ⟨9, _⟩ => ⟨S2040x4096, .i32⟩
  | .hbm, ⟨10, _⟩ => ⟨S2040x4096, .i32⟩
  | .hbm, ⟨11, _⟩ => ⟨S1024x4096, .i8⟩
  | .hbm, ⟨12, _⟩ => ⟨S1024x4096, .i8⟩
  | .hbm, ⟨13, _⟩ => ⟨S2048x4096, .i8⟩
  | .hbm, ⟨14, _⟩ => ⟨S2048x4096, .i8⟩
  | .hbm, ⟨15, _⟩ => ⟨S_, .i32⟩
  | .hbm, ⟨16, _⟩ => ⟨S_, .i32⟩
  | .hbm, ⟨17, _⟩ => ⟨S2048x4096, .i32⟩
  | .hbm, ⟨18, _⟩ => ⟨S2048x4096, .i8⟩
  | .hbm, ⟨19, _⟩ => ⟨S_, .i32⟩
  | .hbm, ⟨20, _⟩ => ⟨S_, .i32⟩
  | .hbm, ⟨21, _⟩ => ⟨S2048x4096, .i32⟩
  | .hbm, ⟨22, _⟩ => ⟨S2048x4096, .i8⟩
  | .hbm, ⟨23, _⟩ => ⟨S_, .i32⟩
  | .hbm, ⟨24, _⟩ => ⟨S_, .i32⟩
  | .hbm, ⟨25, _⟩ => ⟨S2048, .i32⟩
  | .hbm, ⟨26, _⟩ => ⟨S_, .i32⟩
  | .hbm, ⟨27, _⟩ => ⟨S_, .i32⟩
  | .hbm, ⟨28, _⟩ => ⟨S2048, .i32⟩
  | .hbm, ⟨29, _⟩ => ⟨S2048, .i32⟩
  | .hbm, ⟨30, _⟩ => ⟨S2048x1, .i32⟩
  | .hbm, ⟨31, _⟩ => ⟨S1x2048, .i32⟩
  | .hbm, ⟨32, _⟩ => ⟨S2048x2048, .i32⟩
  | .hbm, ⟨33, _⟩ => ⟨S2048x2048, .i32⟩
  | .hbm, ⟨34, _⟩ => ⟨S2048x2048, .i1⟩
  | .hbm, ⟨35, _⟩ => ⟨S2048x2048, .i8⟩
  | .hbm, ⟨36, _⟩ => ⟨S2048x1, .i32⟩
  | .hbm, ⟨37, _⟩ => ⟨S1x2048, .i32⟩
  | .hbm, ⟨38, _⟩ => ⟨S2048x2048, .i32⟩
  | .hbm, ⟨39, _⟩ => ⟨S2048x2048, .i32⟩
  | .hbm, ⟨40, _⟩ => ⟨S2048x2048, .i1⟩
  | .hbm, ⟨41, _⟩ => ⟨S2048x2048, .i8⟩
  | .hbm, ⟨42, _⟩ => ⟨S2048x6144, .i8⟩
  | .hbm, ⟨43, _⟩ => ⟨S2048x6144, .i8⟩
  | .hbm, ⟨44, _⟩ => ⟨S_, .i32⟩
  | .hbm, ⟨45, _⟩ => ⟨S_, .i32⟩
  | .hbm, ⟨46, _⟩ => ⟨S128x4096, .i32⟩
  | .hbm, ⟨47, _⟩ => ⟨S128x4096, .i8⟩
  | .hbm, ⟨48, _⟩ => ⟨S_, .i32⟩
  | .hbm, ⟨49, _⟩ => ⟨S_, .i32⟩
  | .hbm, ⟨50, _⟩ => ⟨S128x4096, .i32⟩
  | .hbm, ⟨51, _⟩ => ⟨S128x4096, .i8⟩
  | .hbm, ⟨52, _⟩ => ⟨S1024x2048, .i8⟩
  | .hbm, ⟨53, _⟩ => ⟨S1024x2048, .i8⟩
  | .hbm, ⟨54, _⟩ => ⟨S1024x2048, .i8⟩
  | .hbm, ⟨55, _⟩ => ⟨S1024x2048, .i8⟩
  | .hbm, ⟨56, _⟩ => ⟨S1024x4096, .i8⟩
  | .hbm, ⟨57, _⟩ => ⟨S1024x4096, .i8⟩
  | .hbm, ⟨58, _⟩ => ⟨S1024x4096, .i8⟩
  | .hbm, ⟨59, _⟩ => ⟨S1024x4096, .i8⟩
  | .hbm, ⟨60, _⟩ => ⟨S1024x128, .i32⟩
  | .hbm, ⟨61, _⟩ => ⟨S1024x6144, .i8⟩
  | .hbm, ⟨62, _⟩ => ⟨S1024x6144, .i8⟩
  | .hbm, ⟨63, _⟩ => ⟨S1024x2048, .i8⟩
  | .hbm, ⟨64, _⟩ => ⟨S1024x2048, .i8⟩
  | .hbm, ⟨65, _⟩ => ⟨S1024x128, .i32⟩
  | .hbm, ⟨66, _⟩ => ⟨S1024x128, .i32⟩
  | .hbm, ⟨67, _⟩ => ⟨S1024x16, .i32⟩
  | .hbm, ⟨68, _⟩ => ⟨S1024x16, .i32⟩
  | .hbm, ⟨69, _⟩ => ⟨S1024x32, .i32⟩
  | .hbm, ⟨70, _⟩ => ⟨S_, .i32⟩
  | .hbm, ⟨71, _⟩ => ⟨S1024x32, .i32⟩
  | .local _ .vmem, ⟨0, _⟩ => ⟨S1024x4096, .i8⟩
  | .local _ .vmem, ⟨1, _⟩ => ⟨S1024x4096, .i8⟩
  | .local _ .vmem, ⟨2, _⟩ => ⟨S1024x4096, .i8⟩
  | .local _ .vmem, ⟨3, _⟩ => ⟨S1024x4096, .i8⟩
  | .local _ .vmem, ⟨4, _⟩ => ⟨S1024x4096, .i8⟩
  | .local _ .vmem, ⟨5, _⟩ => ⟨S1024x4096, .i8⟩
  | .local _ .vmem, ⟨6, _⟩ => ⟨S1024x1024, .i8⟩
  | .local _ .vmem, ⟨7, _⟩ => ⟨S1024x1024, .i8⟩
  | .local _ .vmem, ⟨8, _⟩ => ⟨S1024x1024, .i8⟩
  | .local _ .vmem, ⟨9, _⟩ => ⟨S1024x1024, .i8⟩
  | .local _ .vmem, ⟨10, _⟩ => ⟨S1024x1024, .i8⟩
  | .local _ .vmem, ⟨11, _⟩ => ⟨S1024x1024, .i8⟩
  | .local _ .vmem, ⟨12, _⟩ => ⟨S1024x1024, .i8⟩
  | .local _ .vmem, ⟨13, _⟩ => ⟨S1024x1024, .i8⟩
  | .local _ .vmem, ⟨14, _⟩ => ⟨S1024x2048, .i8⟩
  | .local _ .vmem, ⟨15, _⟩ => ⟨S2048x1024, .i8⟩
  | .local _ .vmem, ⟨16, _⟩ => ⟨S2048x1024, .i8⟩
  | .local _ .vmem, ⟨17, _⟩ => ⟨S1024x2048, .i8⟩
  | .local _ .vmem, ⟨18, _⟩ => ⟨S2048x1024, .i8⟩
  | .local _ .vmem, ⟨19, _⟩ => ⟨S2048x1024, .i8⟩
  | .local _ .vmem, ⟨20, _⟩ => ⟨S1024x1024, .f32⟩
  | .local _ .vmem, ⟨21, _⟩ => ⟨S1024x1024, .f32⟩
  | .local _ .vmem, ⟨22, _⟩ => ⟨S1024x1024, .i8⟩
  | .local _ .vmem, ⟨23, _⟩ => ⟨S1024x1024, .i8⟩
  | .local _ .vmem, ⟨24, _⟩ => ⟨S1024x1024, .i8⟩
  | .local _ .vmem, ⟨25, _⟩ => ⟨S1024x1024, .i8⟩
  | .local _ .vmem, ⟨26, _⟩ => ⟨S1024x1024, .i8⟩
  | .local _ .vmem, ⟨27, _⟩ => ⟨S1024x1024, .i8⟩
  | .local _ .vmem, ⟨28, _⟩ => ⟨S1024x1024, .i8⟩
  | .local _ .vmem, ⟨29, _⟩ => ⟨S1024x1024, .i8⟩
  | .local _ .vmem, ⟨30, _⟩ => ⟨S1024x1024, .i8⟩
  | .local _ .vmem, ⟨31, _⟩ => ⟨S1024x1024, .i8⟩
  | .local _ .vmem, ⟨32, _⟩ => ⟨S1024x1024, .i8⟩
  | .local _ .vmem, ⟨33, _⟩ => ⟨S1024x1024, .i8⟩
  | .local _ .vmem, ⟨34, _⟩ => ⟨S1024x4096, .i8⟩
  | .local _ .vmem, ⟨35, _⟩ => ⟨S1024x4096, .i8⟩
  | .local _ .vmem, ⟨36, _⟩ => ⟨S1024x4096, .i8⟩
  | .local _ .vmem, ⟨37, _⟩ => ⟨S1024x4096, .i8⟩
  | .local _ .vmem, ⟨38, _⟩ => ⟨S1024x4096, .i8⟩
  | .local _ .vmem, ⟨39, _⟩ => ⟨S1024x4096, .i8⟩
  | .local _ .vmem, ⟨40, _⟩ => ⟨S1024x128, .i32⟩
  | .local _ .vmem, ⟨41, _⟩ => ⟨S1024x6144, .i8⟩
  | .local _ .vmem, ⟨42, _⟩ => ⟨S1024x6144, .i8⟩
  | .local _ .vmem, ⟨43, _⟩ => ⟨S1024x6144, .i8⟩
  | .local _ .vmem, ⟨44, _⟩ => ⟨S1024x6144, .i8⟩
  | .local _ .vmem, ⟨45, _⟩ => ⟨S1024x6144, .i8⟩
  | .local _ .vmem, ⟨46, _⟩ => ⟨S1024x6144, .i8⟩
  | .local _ .vmem, ⟨47, _⟩ => ⟨S1024x1024, .i8⟩
  | .local _ .vmem, ⟨48, _⟩ => ⟨S1024x1024, .i8⟩
  | .local _ .vmem, ⟨49, _⟩ => ⟨S1024x1024, .i8⟩
  | .local _ .vmem, ⟨50, _⟩ => ⟨S1024x1024, .i8⟩
  | .local _ .vmem, ⟨51, _⟩ => ⟨S1024x2048, .i8⟩
  | .local _ .vmem, ⟨52, _⟩ => ⟨S2048x1024, .i8⟩
  | .local _ .vmem, ⟨53, _⟩ => ⟨S2048x1024, .i8⟩
  | .local _ .vmem, ⟨54, _⟩ => ⟨S1024x2048, .i8⟩
  | .local _ .vmem, ⟨55, _⟩ => ⟨S2048x1024, .i8⟩
  | .local _ .vmem, ⟨56, _⟩ => ⟨S2048x1024, .i8⟩
  | .local _ .vmem, ⟨57, _⟩ => ⟨S1024x1024, .i8⟩
  | .local _ .vmem, ⟨58, _⟩ => ⟨S1024x1024, .i8⟩
  | .local _ .vmem, ⟨59, _⟩ => ⟨S1024x1024, .i8⟩
  | .local _ .vmem, ⟨60, _⟩ => ⟨S1024x1024, .i8⟩
  | .local _ .vmem, ⟨61, _⟩ => ⟨S1024x1024, .i8⟩
  | .local _ .vmem, ⟨62, _⟩ => ⟨S1024x1024, .i8⟩
  | .local _ .vmem, ⟨63, _⟩ => ⟨S1024x1024, .i8⟩
  | .local _ .vmem, ⟨64, _⟩ => ⟨S1024x1024, .i8⟩
  | .local _ .vmem, ⟨65, _⟩ => ⟨S1024x1024, .i8⟩
  | .local _ .vmem, ⟨66, _⟩ => ⟨S1024x1024, .i8⟩
  | .local _ .vmem, ⟨67, _⟩ => ⟨S1024x1024, .i8⟩
  | .local _ .vmem, ⟨68, _⟩ => ⟨S1024x1024, .i8⟩
  | .local _ .vmem, ⟨69, _⟩ => ⟨S1024x128, .i32⟩
  | .local _ .vmem, ⟨70, _⟩ => ⟨S128x1024, .i8⟩
  | .local _ .vmem, ⟨71, _⟩ => ⟨S128x1024, .i8⟩
  | .local _ .vmem, ⟨72, _⟩ => ⟨S128x1024, .i8⟩
  | .local _ .vmem, ⟨73, _⟩ => ⟨S128x1024, .i8⟩
  | .local _ .vmem, ⟨74, _⟩ => ⟨S1024x128, .i32⟩
  | .local _ .vmem, ⟨75, _⟩ => ⟨S1024x128, .i32⟩
  | _, _ => ⟨S1024x4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | _, _ => false

abbrev semScoped : Fin 0 → Bool
  | ⟨_, h⟩ => absurd h (Nat.not_lt_zero _)

abbrev dmaSemScoped : Fin 76 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | _ => false

abbrev sig : RefSig :=
  ofTc nBuf bufTy 0 76 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_call0_v0 : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_call1_v0 : Ref sig .tc := ⟨.hbm, 20, rfl⟩
abbrev main_v6 : Ref sig .tc := ⟨.hbm, 21, rfl⟩
abbrev main_v7 : Ref sig .tc := ⟨.hbm, 22, rfl⟩
abbrev main_c_1 : Ref sig .tc := ⟨.hbm, 23, rfl⟩
abbrev main_call2_v0 : Ref sig .tc := ⟨.hbm, 24, rfl⟩
abbrev main_v8 : Ref sig .tc := ⟨.hbm, 25, rfl⟩
abbrev main_c_2 : Ref sig .tc := ⟨.hbm, 26, rfl⟩
abbrev main_call3_v0 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_c_3 : Ref sig .tc := ⟨.hbm, 44, rfl⟩
abbrev main_call4_v0 : Ref sig .tc := ⟨.hbm, 45, rfl⟩
abbrev main_v25 : Ref sig .tc := ⟨.hbm, 46, rfl⟩
abbrev main_v26 : Ref sig .tc := ⟨.hbm, 47, rfl⟩
abbrev main_c_4 : Ref sig .tc := ⟨.hbm, 48, rfl⟩
abbrev main_call5_v0 : Ref sig .tc := ⟨.hbm, 49, rfl⟩
abbrev main_v27 : Ref sig .tc := ⟨.hbm, 50, rfl⟩
abbrev main_v28 : Ref sig .tc := ⟨.hbm, 51, rfl⟩
abbrev main_v29_0 : Ref sig .tc := ⟨.hbm, 52, rfl⟩
abbrev main_v29_1 : Ref sig .tc := ⟨.hbm, 53, rfl⟩
abbrev main_v29_2 : Ref sig .tc := ⟨.hbm, 54, rfl⟩
abbrev main_v29_3 : Ref sig .tc := ⟨.hbm, 55, rfl⟩
abbrev main_v30_0 : Ref sig .tc := ⟨.hbm, 56, rfl⟩
abbrev main_v30_1 : Ref sig .tc := ⟨.hbm, 57, rfl⟩
abbrev main_v30_2 : Ref sig .tc := ⟨.hbm, 58, rfl⟩
abbrev main_v30_3 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34_0 : Ref sig .tc := ⟨.hbm, 63, rfl⟩
abbrev main_v34_1 : Ref sig .tc := ⟨.hbm, 64, rfl⟩
abbrev main_v35_0 : Ref sig .tc := ⟨.hbm, 65, rfl⟩
abbrev main_v35_1 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_c_5 : Ref sig .tc := ⟨.hbm, 70, rfl⟩
abbrev main_v39 : Ref sig .tc := ⟨.hbm, 71, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc1_stg0_0 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc1_stg6_0 : Ref sig .tc := ⟨.vmem, 24, rfl⟩
abbrev cc1_stg6_1 : Ref sig .tc := ⟨.vmem, 25, rfl⟩
abbrev cc1_stg7_0 : Ref sig .tc := ⟨.vmem, 26, rfl⟩
abbrev cc1_stg7_1 : Ref sig .tc := ⟨.vmem, 27, rfl⟩
abbrev cc1_stg8_0 : Ref sig .tc := ⟨.vmem, 28, rfl⟩
abbrev cc1_stg8_1 : Ref sig .tc := ⟨.vmem, 29, rfl⟩
abbrev cc1_stg9_0 : Ref sig .tc := ⟨.vmem, 30, rfl⟩
abbrev cc1_stg9_1 : Ref sig .tc := ⟨.vmem, 31, rfl⟩
abbrev cc1_stg10_0 : Ref sig .tc := ⟨.vmem, 32, rfl⟩
abbrev cc1_stg10_1 : Ref sig .tc := ⟨.vmem, 33, rfl⟩
abbrev cc2_stg0_0 : Ref sig .tc := ⟨.vmem, 34, rfl⟩
abbrev cc2_stg1_0 : Ref sig .tc := ⟨.vmem, 35, rfl⟩
abbrev cc2_stg1_1 : Ref sig .tc := ⟨.vmem, 36, rfl⟩
abbrev cc2_stg2_0 : Ref sig .tc := ⟨.vmem, 37, rfl⟩
abbrev cc2_stg3_0 : Ref sig .tc := ⟨.vmem, 38, rfl⟩
abbrev cc2_stg3_1 : Ref sig .tc := ⟨.vmem, 39, rfl⟩
abbrev cc2_stg4_0 : Ref sig .tc := ⟨.vmem, 40, rfl⟩
abbrev cc3_stg0_0 : Ref sig .tc := ⟨.vmem, 41, rfl⟩
abbrev cc3_stg1_0 : Ref sig .tc := ⟨.vmem, 42, rfl⟩
abbrev cc3_stg1_1 : Ref sig .tc := ⟨.vmem, 43, rfl⟩
abbrev cc3_stg2_0 : Ref sig .tc := ⟨.vmem, 44, rfl⟩
abbrev cc3_stg3_0 : Ref sig .tc := ⟨.vmem, 45, rfl⟩
abbrev cc3_stg3_1 : Ref sig .tc := ⟨.vmem, 46, rfl⟩
abbrev cc3_stg4_0 : Ref sig .tc := ⟨.vmem, 47, rfl⟩
abbrev cc3_stg4_1 : Ref sig .tc := ⟨.vmem, 48, rfl⟩
abbrev cc3_stg5_0 : Ref sig .tc := ⟨.vmem, 49, rfl⟩
abbrev cc3_stg5_1 : Ref sig .tc := ⟨.vmem, 50, rfl⟩
abbrev cc4_stg0_0 : Ref sig .tc := ⟨.vmem, 51, rfl⟩
abbrev cc4_stg1_0 : Ref sig .tc := ⟨.vmem, 52, rfl⟩
abbrev cc4_stg1_1 : Ref sig .tc := ⟨.vmem, 53, rfl⟩
abbrev cc4_stg2_0 : Ref sig .tc := ⟨.vmem, 54, rfl⟩
abbrev cc4_stg3_0 : Ref sig .tc := ⟨.vmem, 55, rfl⟩
abbrev cc4_stg3_1 : Ref sig .tc := ⟨.vmem, 56, rfl⟩
abbrev cc4_stg4_0 : Ref sig .tc := ⟨.vmem, 57, rfl⟩
abbrev cc4_stg4_1 : Ref sig .tc := ⟨.vmem, 58, rfl⟩
abbrev cc4_stg5_0 : Ref sig .tc := ⟨.vmem, 59, rfl⟩
abbrev cc4_stg5_1 : Ref sig .tc := ⟨.vmem, 60, rfl⟩
abbrev cc4_stg6_0 : Ref sig .tc := ⟨.vmem, 61, rfl⟩
abbrev cc4_stg6_1 : Ref sig .tc := ⟨.vmem, 62, rfl⟩
abbrev cc4_stg7_0 : Ref sig .tc := ⟨.vmem, 63, rfl⟩
abbrev cc4_stg7_1 : Ref sig .tc := ⟨.vmem, 64, rfl⟩
abbrev cc4_stg8_0 : Ref sig .tc := ⟨.vmem, 65, rfl⟩
abbrev cc4_stg8_1 : Ref sig .tc := ⟨.vmem, 66, rfl⟩
abbrev cc4_stg9_0 : Ref sig .tc := ⟨.vmem, 67, rfl⟩
abbrev cc4_stg9_1 : Ref sig .tc := ⟨.vmem, 68, rfl⟩
abbrev cc4_stg10_0 : Ref sig .tc := ⟨.vmem, 69, rfl⟩
abbrev cc4_stg11_0 : Ref sig .tc := ⟨.vmem, 70, rfl⟩
abbrev cc4_stg11_1 : Ref sig .tc := ⟨.vmem, 71, rfl⟩
abbrev cc4_stg12_0 : Ref sig .tc := ⟨.vmem, 72, rfl⟩
abbrev cc4_stg12_1 : Ref sig .tc := ⟨.vmem, 73, rfl⟩
abbrev cc4_stg13_0 : Ref sig .tc := ⟨.vmem, 74, rfl⟩
abbrev cc4_stg14_0 : Ref sig .tc := ⟨.vmem, 75, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc1_sem0_0 : DmaSem sig := 14
abbrev cc1_sem1_0 : DmaSem sig := 15
abbrev cc1_sem1_1 : DmaSem sig := 16
abbrev cc1_sem2_0 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc1_sem6_0 : DmaSem sig := 24
abbrev cc1_sem6_1 : DmaSem sig := 25
abbrev cc1_sem7_0 : DmaSem sig := 26
abbrev cc1_sem7_1 : DmaSem sig := 27
abbrev cc1_sem8_0 : DmaSem sig := 28
abbrev cc1_sem8_1 : DmaSem sig := 29
abbrev cc1_sem9_0 : DmaSem sig := 30
abbrev cc1_sem9_1 : DmaSem sig := 31
abbrev cc1_sem10_0 : DmaSem sig := 32
abbrev cc1_sem10_1 : DmaSem sig := 33
abbrev cc2_sem0_0 : DmaSem sig := 34
abbrev cc2_sem1_0 : DmaSem sig := 35
abbrev cc2_sem1_1 : DmaSem sig := 36
abbrev cc2_sem2_0 : DmaSem sig := 37
abbrev cc2_sem3_0 : DmaSem sig := 38
abbrev cc2_sem3_1 : DmaSem sig := 39
abbrev cc2_sem4_0 : DmaSem sig := 40
abbrev cc3_sem0_0 : DmaSem sig := 41
abbrev cc3_sem1_0 : DmaSem sig := 42
abbrev cc3_sem1_1 : DmaSem sig := 43
abbrev cc3_sem2_0 : DmaSem sig := 44
abbrev cc3_sem3_0 : DmaSem sig := 45
abbrev cc3_sem3_1 : DmaSem sig := 46
abbrev cc3_sem4_0 : DmaSem sig := 47
abbrev cc3_sem4_1 : DmaSem sig := 48
abbrev cc3_sem5_0 : DmaSem sig := 49
abbrev cc3_sem5_1 : DmaSem sig := 50
abbrev cc4_sem0_0 : DmaSem sig := 51
abbrev cc4_sem1_0 : DmaSem sig := 52
abbrev cc4_sem1_1 : DmaSem sig := 53
abbrev cc4_sem2_0 : DmaSem sig := 54
abbrev cc4_sem3_0 : DmaSem sig := 55
abbrev cc4_sem3_1 : DmaSem sig := 56
abbrev cc4_sem4_0 : DmaSem sig := 57
abbrev cc4_sem4_1 : DmaSem sig := 58
abbrev cc4_sem5_0 : DmaSem sig := 59
abbrev cc4_sem5_1 : DmaSem sig := 60
abbrev cc4_sem6_0 : DmaSem sig := 61
abbrev cc4_sem6_1 : DmaSem sig := 62
abbrev cc4_sem7_0 : DmaSem sig := 63
abbrev cc4_sem7_1 : DmaSem sig := 64
abbrev cc4_sem8_0 : DmaSem sig := 65
abbrev cc4_sem8_1 : DmaSem sig := 66
abbrev cc4_sem9_0 : DmaSem sig := 67
abbrev cc4_sem9_1 : DmaSem sig := 68
abbrev cc4_sem10_0 : DmaSem sig := 69
abbrev cc4_sem11_0 : DmaSem sig := 70
abbrev cc4_sem11_1 : DmaSem sig := 71
abbrev cc4_sem12_0 : DmaSem sig := 72
abbrev cc4_sem12_1 : DmaSem sig := 73
abbrev cc4_sem13_0 : DmaSem sig := 74
abbrev cc4_sem14_0 : DmaSem sig := 75

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x4096 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x4096 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x4096 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x4096 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S1024x2048 .i8 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S2048x1024 .i8 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1024x2048 .i8 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2048x1024 .i8 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1024x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1024x1024 .i8 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1024x1024 .i8 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1024x1024 .i8 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1024x1024 .i8 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S1024x1024 .i8 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S1024x1024 .i8 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨1, ![2], ![false]⟩

def k2_cond1 (i : grid2.Coords) : BitVec 1 :=
  let arg0 : BitVec 32 := BitVec.ofNat 32 (i 0).val
  let c0_i32 : BitVec 32 := 0#32
  let v19 : BitVec 1 := Scalar.cmpi .eq arg0 c0_i32
  let v20 : BitVec 32 := Scalar.extui v19
  let c0_i32_10 : BitVec 32 := 0#32
  let v21 : BitVec 1 := Scalar.cmpi .ne v20 c0_i32_10
  v21

def k2_cond2 (i : grid2.Coords) : BitVec 1 :=
  let arg0 : BitVec 32 := BitVec.ofNat 32 (i 0).val
  let c0_i32_11 : BitVec 32 := 0#32
  let v22 : BitVec 1 := Scalar.cmpi .ne arg0 c0_i32_11
  let v23 : BitVec 32 := Scalar.extui v22
  let c0_i32_12 : BitVec 32 := 0#32
  let v24 : BitVec 1 := Scalar.cmpi .ne v23 c0_i32_12
  v24

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S1024x4096 .i8 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S1024x4096 .i8 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1024x4096 .i8 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1024x4096 .i8 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S1024x128 .i32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev grid3 : Pipeline.Grid := ⟨1, ![2], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage3_0 : Fin 1 → Memref sig .tc .vmem S1024x6144 .i8 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 2 → Memref sig .tc .vmem S1024x6144 .i8 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1024x6144 .i8 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S1024x6144 .i8 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S1024x1024 .i8 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S1024x1024 .i8 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![4], ![false]⟩

def k4_cond1 (i : grid4.Coords) : BitVec 1 :=
  let arg0 : BitVec 32 := BitVec.ofNat 32 (i 0).val
  let c0_i32_29 : BitVec 32 := 0#32
  let v55 : BitVec 1 := Scalar.cmpi .eq arg0 c0_i32_29
  let v56 : BitVec 32 := Scalar.extui v55
  let c0_i32_30 : BitVec 32 := 0#32
  let v57 : BitVec 1 := Scalar.cmpi .ne v56 c0_i32_30
  v57

def k4_cond2 (i : grid4.Coords) : BitVec 1 :=
  let arg0 : BitVec 32 := BitVec.ofNat 32 (i 0).val
  let c0_i32_31 : BitVec 32 := 0#32
  let v58 : BitVec 1 := Scalar.cmpi .ne arg0 c0_i32_31
  let v59 : BitVec 32 := Scalar.extui v58
  let c0_i32_32 : BitVec 32 := 0#32
  let v60 : BitVec 1 := Scalar.cmpi .ne v59 c0_i32_32
  v60

def k4_cond3 (i : grid4.Coords) : BitVec 1 :=
  let arg0 : BitVec 32 := BitVec.ofNat 32 (i 0).val
  let c3_i32 : BitVec 32 := 3#32
  let v61 : BitVec 1 := Scalar.cmpi .eq arg0 c3_i32
  let v62 : BitVec 32 := Scalar.extui v61
  let c0_i32_33 : BitVec 32 := 0#32
  let v63 : BitVec 1 := Scalar.cmpi .ne v62 c0_i32_33
  v63

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_8 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_9 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_10 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_11 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_12 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_13 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_14 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S1024x2048 .i8 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 2 → Memref sig .tc .vmem S2048x1024 .i8 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1024x2048 .i8 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2048x1024 .i8 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S1024x1024 .i8 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S1024x1024 .i8 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S1024x1024 .i8 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 2 → Memref sig .tc .vmem S1024x1024 .i8 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev stage4_8 : Fin 2 → Memref sig .tc .vmem S1024x1024 .i8 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

abbrev stage4_9 : Fin 2 → Memref sig .tc .vmem S1024x1024 .i8 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true]

abbrev stage4_10 : Fin 1 → Memref sig .tc .vmem S1024x128 .i32 := fun | 0 => Memref.whole cc4_stg10_0 | ⟨_ + 1, h⟩ => absurd h (Nat.not_lt.2 (Nat.le_add_left _ _))
abbrev sem4_10 : Fin 1 → DmaSem sig := fun | 0 => cc4_sem10_0 | ⟨_ + 1, h⟩ => absurd h (Nat.not_lt.2 (Nat.le_add_left _ _))
abbrev reads4_10 : Fin grid4.rank → Bool := ![false]

abbrev stage4_11 : Fin 2 → Memref sig .tc .vmem S128x1024 .i8 := fun | 0 => Memref.whole cc4_stg11_0 | 1 => Memref.whole cc4_stg11_1 | ⟨_ + 2, h⟩ => absurd h (Nat.not_lt.2 (Nat.le_add_left _ _))
abbrev sem4_11 : Fin 2 → DmaSem sig := fun | 0 => cc4_sem11_0 | 1 => cc4_sem11_1 | ⟨_ + 2, h⟩ => absurd h (Nat.not_lt.2 (Nat.le_add_left _ _))
abbrev reads4_11 : Fin grid4.rank → Bool := ![true]

abbrev stage4_12 : Fin 2 → Memref sig .tc .vmem S128x1024 .i8 := fun | 0 => Memref.whole cc4_stg12_0 | 1 => Memref.whole cc4_stg12_1 | ⟨_ + 2, h⟩ => absurd h (Nat.not_lt.2 (Nat.le_add_left _ _))
abbrev sem4_12 : Fin 2 → DmaSem sig := fun | 0 => cc4_sem12_0 | 1 => cc4_sem12_1 | ⟨_ + 2, h⟩ => absurd h (Nat.not_lt.2 (Nat.le_add_left _ _))
abbrev reads4_12 : Fin grid4.rank → Bool := ![true]

abbrev stage4_13 : Fin 1 → Memref sig .tc .vmem S1024x128 .i32 := fun | 0 => Memref.whole cc4_stg13_0 | ⟨_ + 1, h⟩ => absurd h (Nat.not_lt.2 (Nat.le_add_left _ _))
abbrev sem4_13 : Fin 1 → DmaSem sig := fun | 0 => cc4_sem13_0 | ⟨_ + 1, h⟩ => absurd h (Nat.not_lt.2 (Nat.le_add_left _ _))
abbrev reads4_13 : Fin grid4.rank → Bool := ![false]

abbrev stage4_14 : Fin 1 → Memref sig .tc .vmem S1024x128 .i32 := fun | 0 => Memref.whole cc4_stg14_0 | ⟨_ + 1, h⟩ => absurd h (Nat.not_lt.2 (Nat.le_add_left _ _))
abbrev sem4_14 : Fin 1 → DmaSem sig := fun | 0 => cc4_sem14_0 | ⟨_ + 1, h⟩ => absurd h (Nat.not_lt.2 (Nat.le_add_left _ _))
abbrev reads4_14 : Fin grid4.rank → Bool := ![false]
-- ==== ReferenceIdeal.lean ====
abbrev S1024x4096 : Shape := ⟨2, ![1024, 4096]⟩
abbrev S2048x4096 : Shape := ⟨2, ![2048, 4096]⟩
abbrev S16x4096 : Shape := ⟨2, ![16, 4096]⟩
abbrev S2040 : Shape := ⟨1, ![2040]⟩
abbrev S2040x4096 : Shape := ⟨2, ![2040, 4096]⟩
abbrev S4096x1024 : Shape := ⟨2, ![4096, 1024]⟩
abbrev S2048x4096x1 : Shape := ⟨3, ![2048, 4096, 1]⟩
abbrev S1x4096x1024 : Shape := ⟨3, ![1, 4096, 1024]⟩
abbrev S2048x4096x1024 : Shape := ⟨3, ![2048, 4096, 1024]⟩
abbrev S_ : Shape := ⟨0, ![]⟩
abbrev S2048x1024 : Shape := ⟨2, ![2048, 1024]⟩
abbrev S4096x2048 : Shape := ⟨2, ![4096, 2048]⟩
abbrev S1024 : Shape := ⟨1, ![1024]⟩
abbrev S1024x4096x1 : Shape := ⟨3, ![1024, 4096, 1]⟩
abbrev S1024x4096x2 : Shape := ⟨3, ![1024, 4096, 2]⟩
abbrev S2040x1 : Shape := ⟨2, ![2040, 1]⟩
abbrev S1 : Shape := ⟨1, ![1]⟩
abbrev S1x1 : Shape := ⟨2, ![1, 1]⟩
abbrev S2040x1024 : Shape := ⟨2, ![2040, 1024]⟩
abbrev S2040x4096x1 : Shape := ⟨3, ![2040, 4096, 1]⟩
abbrev S2040x4096x1024 : Shape := ⟨3, ![2040, 4096, 1024]⟩
abbrev S4096x2040 : Shape := ⟨2, ![4096, 2040]⟩
abbrev S4096x2040x1 : Shape := ⟨3, ![4096, 2040, 1]⟩
abbrev S1x2040x1024 : Shape := ⟨3, ![1, 2040, 1024]⟩
abbrev S4096x2040x1024 : Shape := ⟨3, ![4096, 2040, 1024]⟩
abbrev S1x1x1 : Shape := ⟨3, ![1, 1, 1]⟩
abbrev S1024x1 : Shape := ⟨2, ![1024, 1]⟩
abbrev S16x4096x1 : Shape := ⟨3, ![16, 4096, 1]⟩
abbrev S16x4096x1024 : Shape := ⟨3, ![16, 4096, 1024]⟩
abbrev S16x1024 : Shape := ⟨2, ![16, 1024]⟩
abbrev S32x1024 : Shape := ⟨2, ![32, 1024]⟩
abbrev S1024x32 : Shape := ⟨2, ![1024, 32]⟩

abbrev nBuf : Space → Nat
  | .hbm => 598
  | .vmem => 0
  | .smem => 0
  | _ => 0

abbrev hbmTy0_0 (i : Nat) : BufTy := match i % 128 with
  | 0 => ⟨S1024x4096, .i32⟩
  | 1 => ⟨S1024x4096, .i32⟩
  | 2 => ⟨S1024x4096, .f32⟩
  | 3 => ⟨S2048x4096, .i32⟩
  | 4 => ⟨S2048x4096, .i32⟩
  | 5 => ⟨S16x4096, .i32⟩
  | 6 => ⟨S16x4096, .i32⟩
  | 7 => ⟨S2040, .i32⟩
  | 8 => ⟨S2040, .i32⟩
  | 9 => ⟨S2040x4096, .i32⟩
  | 10 => ⟨S2040x4096, .i32⟩
  | 11 => ⟨S4096x1024, .i32⟩
  | 12 => ⟨S2048x4096x1, .i32⟩
  | 13 => ⟨S1x4096x1024, .i32⟩
  | 14 => ⟨S2048x4096x1024, .i32⟩
  | 15 => ⟨S2048x4096x1024, .i32⟩
  | 16 => ⟨S2048x4096x1024, .i32⟩
  | 17 => ⟨S_, .i32⟩
  | 18 => ⟨S2048x1024, .i32⟩
  | 19 => ⟨S_, .i32⟩
  | 20 => ⟨S_, .i32⟩
  | 21 => ⟨S_, .i32⟩
  | 22 => ⟨S_, .i1⟩
  | 23 => ⟨S_, .i32⟩
  | 24 => ⟨S_, .i32⟩
  | 25 => ⟨S2048x1024, .i32⟩
  | 26 => ⟨S2048x1024, .i32⟩
  | 27 => ⟨S_, .i32⟩
  | 28 => ⟨S2048x1024, .i32⟩
  | 29 => ⟨S2048x1024, .i1⟩
  | 30 => ⟨S_, .i32⟩
  | 31 => ⟨S2048x1024, .i32⟩
  | 32 => ⟨S2048x1024, .i1⟩
  | 33 => ⟨S_, .i32⟩
  | 34 => ⟨S_, .i1⟩
  | 35 => ⟨S2048x1024, .i1⟩
  | 36 => ⟨S2048x1024, .i1⟩
  | 37 => ⟨S2048x1024, .i1⟩
  | 38 => ⟨S2048x1024, .i32⟩
  | 39 => ⟨S2048x1024, .i32⟩
  | 40 => ⟨S2048x1024, .i32⟩
  | 41 => ⟨S4096x1024, .i32⟩
  | 42 => ⟨S2048x4096x1, .i32⟩
  | 43 => ⟨S1x4096x1024, .i32⟩
  | 44 => ⟨S2048x4096x1024, .i32⟩
  | 45 => ⟨S2048x4096x1024, .i32⟩
  | 46 => ⟨S2048x4096x1024, .i32⟩
  | 47 => ⟨S_, .i32⟩
  | 48 => ⟨S2048x1024, .i32⟩
  | 49 => ⟨S_, .i32⟩
  | 50 => ⟨S_, .i32⟩
  | 51 => ⟨S_, .i32⟩
  | 52 => ⟨S_, .i1⟩
  | 53 => ⟨S_, .i32⟩
  | 54 => ⟨S_, .i32⟩
  | 55 => ⟨S2048x1024, .i32⟩
  | 56 => ⟨S2048x1024, .i32⟩
  | 57 => ⟨S_, .i32⟩
  | 58 => ⟨S2048x1024, .i32⟩
  | 59 => ⟨S2048x1024, .i1⟩
  | 60 => ⟨S_, .i32⟩
  | 61 => ⟨S2048x1024, .i32⟩
  | 62 => ⟨S2048x1024, .i1⟩
  | 63 => ⟨S_, .i32⟩
  | 64 => ⟨S_, .i1⟩
  | 65 => ⟨S2048x1024, .i1⟩
  | 66 => ⟨S2048x1024, .i1⟩
  | 67 => ⟨S2048x1024, .i1⟩
  | 68 => ⟨S2048x1024, .i32⟩
  | 69 => ⟨S2048x1024, .i32⟩
  | 70 => ⟨S2048x1024, .i32⟩
  | 71 => ⟨S2048x1024, .f32⟩
  | 72 => ⟨S_, .f32⟩
  | 73 => ⟨S2048x1024, .f32⟩
  | 74 => ⟨S2048x1024, .f32⟩
  | 75 => ⟨S_, .f32⟩
  | 76 => ⟨S2048x1024, .f32⟩
  | 77 => ⟨S2048x1024, .f32⟩
  | 78 => ⟨S2048x1024, .f32⟩
  | 79 => ⟨S_, .f32⟩
  | 80 => ⟨S2048x1024, .f32⟩
  | 81 => ⟨S2048x1024, .f32⟩
  | 82 => ⟨S_, .f32⟩
  | 83 => ⟨S2048x1024, .f32⟩
  | 84 => ⟨S2048x1024, .f32⟩
  | 85 => ⟨S2048x4096, .f32⟩
  | 86 => ⟨S4096x2048, .f32⟩
  | 87 => ⟨S4096x1024, .f32⟩
  | 88 => ⟨S1024x4096, .f32⟩
  | 89 => ⟨S_, .f32⟩
  | 90 => ⟨S1024x4096, .f32⟩
  | 91 => ⟨S1024x4096, .f32⟩
  | 92 => ⟨S1024x4096, .f32⟩
  | 93 => ⟨S2048x4096, .f32⟩
  | 94 => ⟨S4096x2048, .f32⟩
  | 95 => ⟨S4096x1024, .f32⟩
  | 96 => ⟨S1024x4096, .f32⟩
  | 97 => ⟨S_, .f32⟩
  | 98 => ⟨S1024x4096, .f32⟩
  | 99 => ⟨S1024x4096, .f32⟩
  | 100 => ⟨S1024x4096, .f32⟩
  | 101 => ⟨S1024x4096, .f32⟩
  | 102 => ⟨S_, .f32⟩
  | 103 => ⟨S1024x4096, .f32⟩
  | 104 => ⟨S1024x4096, .f32⟩
  | 105 => ⟨S_, .f32⟩
  | 106 => ⟨S1024x4096, .f32⟩
  | 107 => ⟨S1024x4096, .i1⟩
  | 108 => ⟨S_, .f32⟩
  | 109 => ⟨S1024x4096, .f32⟩
  | 110 => ⟨S1024x4096, .i1⟩
  | 111 => ⟨S1024x4096, .i32⟩
  | 112 => ⟨S1024x4096, .i32⟩
  | 113 => ⟨S1024x4096, .i32⟩
  | 114 => ⟨S1024x4096, .i32⟩
  | 115 => ⟨S4096x1024, .i32⟩
  | 116 => ⟨S2048x4096x1, .i32⟩
  | 117 => ⟨S1x4096x1024, .i32⟩
  | 118 => ⟨S2048x4096x1024, .i32⟩
  | 119 => ⟨S2048x4096x1024, .i32⟩
  | 120 => ⟨S2048x4096x1024, .i32⟩
  | 121 => ⟨S_, .i32⟩
  | 122 => ⟨S2048x1024, .i32⟩
  | 123 => ⟨S_, .i32⟩
  | 124 => ⟨S_, .i32⟩
  | 125 => ⟨S_, .i32⟩
  | 126 => ⟨S_, .i1⟩
  | 127 => ⟨S_, .i32⟩
  | _ => ⟨S1024x4096, .i32⟩

abbrev hbmTy0_1 (i : Nat) : BufTy := match i % 128 with
  | 0 => ⟨S_, .i32⟩
  | 1 => ⟨S2048x1024, .i32⟩
  | 2 => ⟨S2048x1024, .i32⟩
  | 3 => ⟨S_, .i32⟩
  | 4 => ⟨S2048x1024, .i32⟩
  | 5 => ⟨S2048x1024, .i1⟩
  | 6 => ⟨S_, .i32⟩
  | 7 => ⟨S2048x1024, .i32⟩
  | 8 => ⟨S2048x1024, .i1⟩
  | 9 => ⟨S_, .i32⟩
  | 10 => ⟨S_, .i1⟩
  | 11 => ⟨S2048x1024, .i1⟩
  | 12 => ⟨S2048x1024, .i1⟩
  | 13 => ⟨S2048x1024, .i1⟩
  | 14 => ⟨S2048x1024, .i32⟩
  | 15 => ⟨S2048x1024, .i32⟩
  | 16 => ⟨S2048x1024, .i32⟩
  | 17 => ⟨S4096x1024, .i32⟩
  | 18 => ⟨S2048x4096x1, .i32⟩
  | 19 => ⟨S1x4096x1024, .i32⟩
  | 20 => ⟨S2048x4096x1024, .i32⟩
  | 21 => ⟨S2048x4096x1024, .i32⟩
  | 22 => ⟨S2048x4096x1024, .i32⟩
  | 23 => ⟨S_, .i32⟩
  | 24 => ⟨S2048x1024, .i32⟩
  | 25 => ⟨S_, .i32⟩
  | 26 => ⟨S_, .i32⟩
  | 27 => ⟨S_, .i32⟩
  | 28 => ⟨S_, .i1⟩
  | 29 => ⟨S_, .i32⟩
  | 30 => ⟨S_, .i32⟩
  | 31 => ⟨S2048x1024, .i32⟩
  | 32 => ⟨S2048x1024, .i32⟩
  | 33 => ⟨S_, .i32⟩
  | 34 => ⟨S2048x1024, .i32⟩
  | 35 => ⟨S2048x1024, .i1⟩
  | 36 => ⟨S_, .i32⟩
  | 37 => ⟨S2048x1024, .i32⟩
  | 38 => ⟨S2048x1024, .i1⟩
  | 39 => ⟨S_, .i32⟩
  | 40 => ⟨S_, .i1⟩
  | 41 => ⟨S2048x1024, .i1⟩
  | 42 => ⟨S2048x1024, .i1⟩
  | 43 => ⟨S2048x1024, .i1⟩
  | 44 => ⟨S2048x1024, .i32⟩
  | 45 => ⟨S2048x1024, .i32⟩
  | 46 => ⟨S2048x1024, .i32⟩
  | 47 => ⟨S4096x1024, .i32⟩
  | 48 => ⟨S1024x4096, .i32⟩
  | 49 => ⟨S_, .i32⟩
  | 50 => ⟨S1024x4096, .i32⟩
  | 51 => ⟨S1024x4096, .i1⟩
  | 52 => ⟨S_, .i1⟩
  | 53 => ⟨S1024, .i1⟩
  | 54 => ⟨S1024x4096, .f32⟩
  | 55 => ⟨S_, .f32⟩
  | 56 => ⟨S1024x4096, .f32⟩
  | 57 => ⟨S1024x4096, .f32⟩
  | 58 => ⟨S1024x4096, .f32⟩
  | 59 => ⟨S1024x4096, .f32⟩
  | 60 => ⟨S1024x4096, .i1⟩
  | 61 => ⟨S1024x4096, .f32⟩
  | 62 => ⟨S1024x4096, .f32⟩
  | 63 => ⟨S1024x4096, .f32⟩
  | 64 => ⟨S1024x4096, .f32⟩
  | 65 => ⟨S1024x4096, .f32⟩
  | 66 => ⟨S1024x4096, .f32⟩
  | 67 => ⟨S1024x4096, .f32⟩
  | 68 => ⟨S1024x4096, .f32⟩
  | 69 => ⟨S1024x4096, .f32⟩
  | 70 => ⟨S1024x4096, .f32⟩
  | 71 => ⟨S1024x4096x1, .f32⟩
  | 72 => ⟨S1024x4096x1, .f32⟩
  | 73 => ⟨S1024x4096x2, .f32⟩
  | 74 => ⟨S1024x4096x2, .f32⟩
  | 75 => ⟨S_, .f32⟩
  | 76 => ⟨S1024x4096, .f32⟩
  | 77 => ⟨S1024x4096, .f32⟩
  | 78 => ⟨S1024x4096, .f32⟩
  | 79 => ⟨S1024x4096, .f32⟩
  | 80 => ⟨S_, .f32⟩
  | 81 => ⟨S1024x4096, .f32⟩
  | 82 => ⟨S1024x4096, .f32⟩
  | 83 => ⟨S1024x4096, .f32⟩
  | 84 => ⟨S1024x4096, .f32⟩
  | 85 => ⟨S1024x4096, .i1⟩
  | 86 => ⟨S1024x4096, .f32⟩
  | 87 => ⟨S1024x4096, .f32⟩
  | 88 => ⟨S1024x4096, .f32⟩
  | 89 => ⟨S1024x4096, .f32⟩
  | 90 => ⟨S1024x4096, .f32⟩
  | 91 => ⟨S1024x4096, .f32⟩
  | 92 => ⟨S1024x4096, .f32⟩
  | 93 => ⟨S1024x4096, .f32⟩
  | 94 => ⟨S1024x4096, .f32⟩
  | 95 => ⟨S1024x4096, .f32⟩
  | 96 => ⟨S1024x4096x1, .f32⟩
  | 97 => ⟨S1024x4096x1, .f32⟩
  | 98 => ⟨S1024x4096x2, .f32⟩
  | 99 => ⟨S1024x4096x2, .f32⟩
  | 100 => ⟨S_, .f32⟩
  | 101 => ⟨S1024x4096, .f32⟩
  | 102 => ⟨S1024x4096, .f32⟩
  | 103 => ⟨S1024x4096, .f32⟩
  | 104 => ⟨S_, .i32⟩
  | 105 => ⟨S2040, .i32⟩
  | 106 => ⟨S2040, .i1⟩
  | 107 => ⟨S_, .i32⟩
  | 108 => ⟨S2040, .i32⟩
  | 109 => ⟨S2040, .i32⟩
  | 110 => ⟨S2040, .i32⟩
  | 111 => ⟨S2040x1, .i32⟩
  | 112 => ⟨S1, .i32⟩
  | 113 => ⟨S_, .i32⟩
  | 114 => ⟨S2040x1, .i32⟩
  | 115 => ⟨S2040x1, .i1⟩
  | 116 => ⟨S1x1, .i32⟩
  | 117 => ⟨S2040x1, .i32⟩
  | 118 => ⟨S2040x1, .i1⟩
  | 119 => ⟨S2040x1, .i1⟩
  | 120 => ⟨S_, .i1⟩
  | 121 => ⟨S2040, .i1⟩
  | 122 => ⟨S2040x1024, .i32⟩
  | 123 => ⟨S2040x1024, .i1⟩
  | 124 => ⟨S_, .i32⟩
  | 125 => ⟨S2040x1024, .i32⟩
  | 126 => ⟨S2040x1024, .i32⟩
  | 127 => ⟨S_, .i32⟩
  | _ => ⟨S1024x4096, .i32⟩

abbrev hbmTy0_2 (i : Nat) : BufTy := match i % 128 with
  | 0 => ⟨S2040, .i32⟩
  | 1 => ⟨S2040, .i1⟩
  | 2 => ⟨S_, .i32⟩
  | 3 => ⟨S2040, .i32⟩
  | 4 => ⟨S2040, .i32⟩
  | 5 => ⟨S2040, .i32⟩
  | 6 => ⟨S2040x1, .i32⟩
  | 7 => ⟨S1, .i32⟩
  | 8 => ⟨S_, .i32⟩
  | 9 => ⟨S2040x1, .i32⟩
  | 10 => ⟨S2040x1, .i1⟩
  | 11 => ⟨S1x1, .i32⟩
  | 12 => ⟨S2040x1, .i32⟩
  | 13 => ⟨S2040x1, .i1⟩
  | 14 => ⟨S2040x1, .i1⟩
  | 15 => ⟨S_, .i1⟩
  | 16 => ⟨S2040, .i1⟩
  | 17 => ⟨S2040x1024, .i32⟩
  | 18 => ⟨S2040x1024, .i1⟩
  | 19 => ⟨S_, .i32⟩
  | 20 => ⟨S2040x1024, .i32⟩
  | 21 => ⟨S2040x1024, .i32⟩
  | 22 => ⟨S1024x4096, .f32⟩
  | 23 => ⟨S1024x4096, .f32⟩
  | 24 => ⟨S1024x4096, .i32⟩
  | 25 => ⟨S1024x4096, .f32⟩
  | 26 => ⟨S1024x4096, .i32⟩
  | 27 => ⟨S1024x4096, .i32⟩
  | 28 => ⟨S1024x4096, .i32⟩
  | 29 => ⟨S1024x4096, .i32⟩
  | 30 => ⟨S_, .f32⟩
  | 31 => ⟨S1024x4096, .f32⟩
  | 32 => ⟨S1024x4096, .i1⟩
  | 33 => ⟨S1024x4096, .i32⟩
  | 34 => ⟨S4096x1024, .i32⟩
  | 35 => ⟨S2040x4096x1, .i32⟩
  | 36 => ⟨S1x4096x1024, .i32⟩
  | 37 => ⟨S2040x4096x1024, .i32⟩
  | 38 => ⟨S2040x4096x1024, .i32⟩
  | 39 => ⟨S2040x4096x1024, .i32⟩
  | 40 => ⟨S_, .i32⟩
  | 41 => ⟨S2040x1024, .i32⟩
  | 42 => ⟨S2040x1024, .i32⟩
  | 43 => ⟨S_, .i32⟩
  | 44 => ⟨S_, .i32⟩
  | 45 => ⟨S_, .i32⟩
  | 46 => ⟨S_, .i1⟩
  | 47 => ⟨S_, .i32⟩
  | 48 => ⟨S_, .i32⟩
  | 49 => ⟨S2040x1024, .i32⟩
  | 50 => ⟨S2040x1024, .i32⟩
  | 51 => ⟨S_, .i32⟩
  | 52 => ⟨S2040x1024, .i32⟩
  | 53 => ⟨S2040x1024, .i1⟩
  | 54 => ⟨S_, .i32⟩
  | 55 => ⟨S2040x1024, .i32⟩
  | 56 => ⟨S2040x1024, .i1⟩
  | 57 => ⟨S_, .i32⟩
  | 58 => ⟨S_, .i1⟩
  | 59 => ⟨S2040x1024, .i1⟩
  | 60 => ⟨S2040x1024, .i1⟩
  | 61 => ⟨S2040x1024, .i1⟩
  | 62 => ⟨S2040x1024, .i32⟩
  | 63 => ⟨S2040x1024, .i32⟩
  | 64 => ⟨S2040x1024, .i32⟩
  | 65 => ⟨S4096x2040, .i32⟩
  | 66 => ⟨S4096x2040x1, .i32⟩
  | 67 => ⟨S1x2040x1024, .i32⟩
  | 68 => ⟨S4096x2040x1024, .i32⟩
  | 69 => ⟨S4096x2040x1024, .i32⟩
  | 70 => ⟨S4096x2040x1024, .i32⟩
  | 71 => ⟨S_, .i32⟩
  | 72 => ⟨S4096x1024, .i32⟩
  | 73 => ⟨S_, .i32⟩
  | 74 => ⟨S_, .i32⟩
  | 75 => ⟨S_, .i32⟩
  | 76 => ⟨S_, .i1⟩
  | 77 => ⟨S_, .i32⟩
  | 78 => ⟨S_, .i32⟩
  | 79 => ⟨S4096x1024, .i32⟩
  | 80 => ⟨S4096x1024, .i32⟩
  | 81 => ⟨S_, .i32⟩
  | 82 => ⟨S4096x1024, .i32⟩
  | 83 => ⟨S4096x1024, .i1⟩
  | 84 => ⟨S_, .i32⟩
  | 85 => ⟨S4096x1024, .i32⟩
  | 86 => ⟨S4096x1024, .i1⟩
  | 87 => ⟨S_, .i32⟩
  | 88 => ⟨S_, .i1⟩
  | 89 => ⟨S4096x1024, .i1⟩
  | 90 => ⟨S4096x1024, .i1⟩
  | 91 => ⟨S4096x1024, .i1⟩
  | 92 => ⟨S4096x1024, .i32⟩
  | 93 => ⟨S4096x1024, .i32⟩
  | 94 => ⟨S4096x1024, .i32⟩
  | 95 => ⟨S1024x4096, .i32⟩
  | 96 => ⟨S1024x4096, .i32⟩
  | 97 => ⟨S_, .i32⟩
  | 98 => ⟨S1024x4096, .i32⟩
  | 99 => ⟨S1024x4096, .i1⟩
  | 100 => ⟨S_, .i32⟩
  | 101 => ⟨S1024x4096, .i32⟩
  | 102 => ⟨S1024x4096, .i32⟩
  | 103 => ⟨S1024x4096, .i32⟩
  | 104 => ⟨S1024x4096x1, .i32⟩
  | 105 => ⟨S1, .i32⟩
  | 106 => ⟨S_, .i32⟩
  | 107 => ⟨S1024x4096x1, .i32⟩
  | 108 => ⟨S1024x4096x1, .i1⟩
  | 109 => ⟨S1x1x1, .i32⟩
  | 110 => ⟨S1024x4096x1, .i32⟩
  | 111 => ⟨S1024x4096x1, .i1⟩
  | 112 => ⟨S1024x4096x1, .i1⟩
  | 113 => ⟨S_, .i1⟩
  | 114 => ⟨S1024x4096, .i1⟩
  | 115 => ⟨S1024x4096, .i32⟩
  | 116 => ⟨S_, .i32⟩
  | 117 => ⟨S1024x4096, .i32⟩
  | 118 => ⟨S1024x4096, .i32⟩
  | 119 => ⟨S_, .i32⟩
  | 120 => ⟨S1024x4096, .i32⟩
  | 121 => ⟨S1024x4096, .i1⟩
  | 122 => ⟨S_, .i32⟩
  | 123 => ⟨S1024x4096, .i32⟩
  | 124 => ⟨S1024x4096, .i32⟩
  | 125 => ⟨S1024x4096, .i32⟩
  | 126 => ⟨S1024x4096x1, .i32⟩
  | 127 => ⟨S1, .i32⟩
  | _ => ⟨S1024x4096, .i32⟩

abbrev hbmTy0_3 (i : Nat) : BufTy := match i % 128 with
  | 0 => ⟨S_, .i32⟩
  | 1 => ⟨S1024x4096x1, .i32⟩
  | 2 => ⟨S1024x4096x1, .i1⟩
  | 3 => ⟨S1x1x1, .i32⟩
  | 4 => ⟨S1024x4096x1, .i32⟩
  | 5 => ⟨S1024x4096x1, .i1⟩
  | 6 => ⟨S1024x4096x1, .i1⟩
  | 7 => ⟨S_, .i1⟩
  | 8 => ⟨S1024x4096, .i1⟩
  | 9 => ⟨S1024x4096, .i32⟩
  | 10 => ⟨S_, .i32⟩
  | 11 => ⟨S1024x4096, .i32⟩
  | 12 => ⟨S1024x4096, .i32⟩
  | 13 => ⟨S_, .i32⟩
  | 14 => ⟨S1024x4096, .i32⟩
  | 15 => ⟨S1024x4096, .i1⟩
  | 16 => ⟨S1024x4096, .i1⟩
  | 17 => ⟨S1024x4096, .f32⟩
  | 18 => ⟨S1024x4096, .f32⟩
  | 19 => ⟨S1024x4096, .i32⟩
  | 20 => ⟨S1024x4096, .f32⟩
  | 21 => ⟨S1024x4096, .i32⟩
  | 22 => ⟨S1024x4096, .i32⟩
  | 23 => ⟨S1024x4096, .i32⟩
  | 24 => ⟨S1024x4096, .i32⟩
  | 25 => ⟨S_, .f32⟩
  | 26 => ⟨S1024x4096, .f32⟩
  | 27 => ⟨S1024x4096, .i1⟩
  | 28 => ⟨S1024x4096, .i32⟩
  | 29 => ⟨S4096x1024, .i32⟩
  | 30 => ⟨S2040x4096x1, .i32⟩
  | 31 => ⟨S1x4096x1024, .i32⟩
  | 32 => ⟨S2040x4096x1024, .i32⟩
  | 33 => ⟨S2040x4096x1024, .i32⟩
  | 34 => ⟨S2040x4096x1024, .i32⟩
  | 35 => ⟨S_, .i32⟩
  | 36 => ⟨S2040x1024, .i32⟩
  | 37 => ⟨S2040x1024, .i32⟩
  | 38 => ⟨S_, .i32⟩
  | 39 => ⟨S_, .i32⟩
  | 40 => ⟨S_, .i32⟩
  | 41 => ⟨S_, .i1⟩
  | 42 => ⟨S_, .i32⟩
  | 43 => ⟨S_, .i32⟩
  | 44 => ⟨S2040x1024, .i32⟩
  | 45 => ⟨S2040x1024, .i32⟩
  | 46 => ⟨S_, .i32⟩
  | 47 => ⟨S2040x1024, .i32⟩
  | 48 => ⟨S2040x1024, .i1⟩
  | 49 => ⟨S_, .i32⟩
  | 50 => ⟨S2040x1024, .i32⟩
  | 51 => ⟨S2040x1024, .i1⟩
  | 52 => ⟨S_, .i32⟩
  | 53 => ⟨S_, .i1⟩
  | 54 => ⟨S2040x1024, .i1⟩
  | 55 => ⟨S2040x1024, .i1⟩
  | 56 => ⟨S2040x1024, .i1⟩
  | 57 => ⟨S2040x1024, .i32⟩
  | 58 => ⟨S2040x1024, .i32⟩
  | 59 => ⟨S2040x1024, .i32⟩
  | 60 => ⟨S4096x2040, .i32⟩
  | 61 => ⟨S4096x2040x1, .i32⟩
  | 62 => ⟨S1x2040x1024, .i32⟩
  | 63 => ⟨S4096x2040x1024, .i32⟩
  | 64 => ⟨S4096x2040x1024, .i32⟩
  | 65 => ⟨S4096x2040x1024, .i32⟩
  | 66 => ⟨S_, .i32⟩
  | 67 => ⟨S4096x1024, .i32⟩
  | 68 => ⟨S_, .i32⟩
  | 69 => ⟨S_, .i32⟩
  | 70 => ⟨S_, .i32⟩
  | 71 => ⟨S_, .i1⟩
  | 72 => ⟨S_, .i32⟩
  | 73 => ⟨S_, .i32⟩
  | 74 => ⟨S4096x1024, .i32⟩
  | 75 => ⟨S4096x1024, .i32⟩
  | 76 => ⟨S_, .i32⟩
  | 77 => ⟨S4096x1024, .i32⟩
  | 78 => ⟨S4096x1024, .i1⟩
  | 79 => ⟨S_, .i32⟩
  | 80 => ⟨S4096x1024, .i32⟩
  | 81 => ⟨S4096x1024, .i1⟩
  | 82 => ⟨S_, .i32⟩
  | 83 => ⟨S_, .i1⟩
  | 84 => ⟨S4096x1024, .i1⟩
  | 85 => ⟨S4096x1024, .i1⟩
  | 86 => ⟨S4096x1024, .i1⟩
  | 87 => ⟨S4096x1024, .i32⟩
  | 88 => ⟨S4096x1024, .i32⟩
  | 89 => ⟨S4096x1024, .i32⟩
  | 90 => ⟨S1024x4096, .i32⟩
  | 91 => ⟨S1024x4096, .i32⟩
  | 92 => ⟨S_, .i32⟩
  | 93 => ⟨S1024x4096, .i32⟩
  | 94 => ⟨S1024x4096, .i1⟩
  | 95 => ⟨S_, .i32⟩
  | 96 => ⟨S1024x4096, .i32⟩
  | 97 => ⟨S1024x4096, .i32⟩
  | 98 => ⟨S1024x4096, .i32⟩
  | 99 => ⟨S1024x4096x1, .i32⟩
  | 100 => ⟨S1, .i32⟩
  | 101 => ⟨S_, .i32⟩
  | 102 => ⟨S1024x4096x1, .i32⟩
  | 103 => ⟨S1024x4096x1, .i1⟩
  | 104 => ⟨S1x1x1, .i32⟩
  | 105 => ⟨S1024x4096x1, .i32⟩
  | 106 => ⟨S1024x4096x1, .i1⟩
  | 107 => ⟨S1024x4096x1, .i1⟩
  | 108 => ⟨S_, .i1⟩
  | 109 => ⟨S1024x4096, .i1⟩
  | 110 => ⟨S1024x4096, .i32⟩
  | 111 => ⟨S_, .i32⟩
  | 112 => ⟨S1024x4096, .i32⟩
  | 113 => ⟨S1024x4096, .i32⟩
  | 114 => ⟨S_, .i32⟩
  | 115 => ⟨S1024x4096, .i32⟩
  | 116 => ⟨S1024x4096, .i1⟩
  | 117 => ⟨S_, .i32⟩
  | 118 => ⟨S1024x4096, .i32⟩
  | 119 => ⟨S1024x4096, .i32⟩
  | 120 => ⟨S1024x4096, .i32⟩
  | 121 => ⟨S1024x4096x1, .i32⟩
  | 122 => ⟨S1, .i32⟩
  | 123 => ⟨S_, .i32⟩
  | 124 => ⟨S1024x4096x1, .i32⟩
  | 125 => ⟨S1024x4096x1, .i1⟩
  | 126 => ⟨S1x1x1, .i32⟩
  | 127 => ⟨S1024x4096x1, .i32⟩
  | _ => ⟨S1024x4096, .i32⟩

abbrev hbmTy0_4 (i : Nat) : BufTy := match i % 128 with
  | 0 => ⟨S1024x4096x1, .i1⟩
  | 1 => ⟨S1024x4096x1, .i1⟩
  | 2 => ⟨S_, .i1⟩
  | 3 => ⟨S1024x4096, .i1⟩
  | 4 => ⟨S1024x4096, .i32⟩
  | 5 => ⟨S_, .i32⟩
  | 6 => ⟨S1024x4096, .i32⟩
  | 7 => ⟨S1024x4096, .i32⟩
  | 8 => ⟨S_, .i32⟩
  | 9 => ⟨S1024x4096, .i32⟩
  | 10 => ⟨S1024x4096, .i1⟩
  | 11 => ⟨S1024x4096, .i1⟩
  | 12 => ⟨S1024x1, .i1⟩
  | 13 => ⟨S1024x4096, .i1⟩
  | 14 => ⟨S1024x4096, .i1⟩
  | 15 => ⟨S1024x1, .i1⟩
  | 16 => ⟨S1024x4096, .i1⟩
  | 17 => ⟨S1024x4096, .i1⟩
  | 18 => ⟨S1024x4096, .i32⟩
  | 19 => ⟨S1024x4096, .i32⟩
  | 20 => ⟨S1024x4096, .i32⟩
  | 21 => ⟨S1024x4096, .i32⟩
  | 22 => ⟨S4096x1024, .i32⟩
  | 23 => ⟨S16x4096x1, .i32⟩
  | 24 => ⟨S1x4096x1024, .i32⟩
  | 25 => ⟨S16x4096x1024, .i32⟩
  | 26 => ⟨S16x4096x1024, .i32⟩
  | 27 => ⟨S16x4096x1024, .i32⟩
  | 28 => ⟨S_, .i32⟩
  | 29 => ⟨S16x1024, .i32⟩
  | 30 => ⟨S_, .i32⟩
  | 31 => ⟨S_, .i32⟩
  | 32 => ⟨S_, .i32⟩
  | 33 => ⟨S_, .i1⟩
  | 34 => ⟨S_, .i32⟩
  | 35 => ⟨S_, .i32⟩
  | 36 => ⟨S16x1024, .i32⟩
  | 37 => ⟨S16x1024, .i32⟩
  | 38 => ⟨S_, .i32⟩
  | 39 => ⟨S16x1024, .i32⟩
  | 40 => ⟨S16x1024, .i1⟩
  | 41 => ⟨S_, .i32⟩
  | 42 => ⟨S16x1024, .i32⟩
  | 43 => ⟨S16x1024, .i1⟩
  | 44 => ⟨S_, .i32⟩
  | 45 => ⟨S_, .i1⟩
  | 46 => ⟨S16x1024, .i1⟩
  | 47 => ⟨S16x1024, .i1⟩
  | 48 => ⟨S16x1024, .i1⟩
  | 49 => ⟨S16x1024, .i32⟩
  | 50 => ⟨S16x1024, .i32⟩
  | 51 => ⟨S16x1024, .i32⟩
  | 52 => ⟨S4096x1024, .i32⟩
  | 53 => ⟨S16x4096x1, .i32⟩
  | 54 => ⟨S1x4096x1024, .i32⟩
  | 55 => ⟨S16x4096x1024, .i32⟩
  | 56 => ⟨S16x4096x1024, .i32⟩
  | 57 => ⟨S16x4096x1024, .i32⟩
  | 58 => ⟨S_, .i32⟩
  | 59 => ⟨S16x1024, .i32⟩
  | 60 => ⟨S_, .i32⟩
  | 61 => ⟨S_, .i32⟩
  | 62 => ⟨S_, .i32⟩
  | 63 => ⟨S_, .i1⟩
  | 64 => ⟨S_, .i32⟩
  | 65 => ⟨S_, .i32⟩
  | 66 => ⟨S16x1024, .i32⟩
  | 67 => ⟨S16x1024, .i32⟩
  | 68 => ⟨S_, .i32⟩
  | 69 => ⟨S16x1024, .i32⟩
  | 70 => ⟨S16x1024, .i1⟩
  | 71 => ⟨S_, .i32⟩
  | 72 => ⟨S16x1024, .i32⟩
  | 73 => ⟨S16x1024, .i1⟩
  | 74 => ⟨S_, .i32⟩
  | 75 => ⟨S_, .i1⟩
  | 76 => ⟨S16x1024, .i1⟩
  | 77 => ⟨S16x1024, .i1⟩
  | 78 => ⟨S16x1024, .i1⟩
  | 79 => ⟨S16x1024, .i32⟩
  | 80 => ⟨S16x1024, .i32⟩
  | 81 => ⟨S16x1024, .i32⟩
  | 82 => ⟨S32x1024, .i32⟩
  | 83 => ⟨S1024x32, .i32⟩
  | 84 => ⟨S_, .i32⟩
  | 85 => ⟨S1024x32, .i32⟩
  | _ => ⟨S1024x4096, .i32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S1024x4096, .i32⟩

abbrev bufTy : (tb : Table) → Fin (tcTables nBuf tb) → BufTy
  | .hbm, ⟨i, _⟩ => hbmTy i
  | _, _ => ⟨S1024x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c : Ref sig .tc := ⟨.hbm, 17, rfl⟩
abbrev main_v6 : Ref sig .tc := ⟨.hbm, 18, rfl⟩
abbrev main_c_0 : Ref sig .tc := ⟨.hbm, 19, rfl⟩
abbrev main_call0_v0 : Ref sig .tc := ⟨.hbm, 20, rfl⟩
abbrev main_call0_c : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_c_1 : Ref sig .tc := ⟨.hbm, 27, rfl⟩
abbrev main_call0_v5 : Ref sig .tc := ⟨.hbm, 28, rfl⟩
abbrev main_call0_v6 : Ref sig .tc := ⟨.hbm, 29, rfl⟩
abbrev main_call0_c_2 : Ref sig .tc := ⟨.hbm, 30, rfl⟩
abbrev main_call0_v7 : Ref sig .tc := ⟨.hbm, 31, rfl⟩
abbrev main_call0_v8 : Ref sig .tc := ⟨.hbm, 32, rfl⟩
abbrev main_call0_c_3 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_v12 : Ref sig .tc := ⟨.hbm, 37, rfl⟩
abbrev main_call0_v13 : Ref sig .tc := ⟨.hbm, 38, rfl⟩
abbrev main_call0_v14 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_c_1 : Ref sig .tc := ⟨.hbm, 47, rfl⟩
abbrev main_v14 : Ref sig .tc := ⟨.hbm, 48, rfl⟩
abbrev main_c_2 : Ref sig .tc := ⟨.hbm, 49, rfl⟩
abbrev main_call1_v0 : Ref sig .tc := ⟨.hbm, 50, rfl⟩
abbrev main_call1_c : Ref sig .tc := ⟨.hbm, 51, rfl⟩
abbrev main_call1_v1 : Ref sig .tc := ⟨.hbm, 52, rfl⟩
abbrev main_call1_c_0 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_call1_c_1 : Ref sig .tc := ⟨.hbm, 57, rfl⟩
abbrev main_call1_v5 : Ref sig .tc := ⟨.hbm, 58, rfl⟩
abbrev main_call1_v6 : Ref sig .tc := ⟨.hbm, 59, rfl⟩
abbrev main_call1_c_2 : Ref sig .tc := ⟨.hbm, 60, rfl⟩
abbrev main_call1_v7 : Ref sig .tc := ⟨.hbm, 61, rfl⟩
abbrev main_call1_v8 : Ref sig .tc := ⟨.hbm, 62, rfl⟩
abbrev main_call1_c_3 : Ref sig .tc := ⟨.hbm, 63, rfl⟩
abbrev main_call1_v9 : Ref sig .tc := ⟨.hbm, 64, rfl⟩
abbrev main_call1_v10 : Ref sig .tc := ⟨.hbm, 65, rfl⟩
abbrev main_call1_v11 : Ref sig .tc := ⟨.hbm, 66, rfl⟩
abbrev main_call1_v12 : Ref sig .tc := ⟨.hbm, 67, rfl⟩
abbrev main_call1_v13 : Ref sig .tc := ⟨.hbm, 68, rfl⟩
abbrev main_call1_v14 : Ref sig .tc := ⟨.hbm, 69, rfl⟩
abbrev main_v15 : Ref sig .tc := ⟨.hbm, 70, rfl⟩
abbrev main_v16 : Ref sig .tc := ⟨.hbm, 71, rfl⟩
abbrev main_cst : Ref sig .tc := ⟨.hbm, 72, rfl⟩
abbrev main_v17 : Ref sig .tc := ⟨.hbm, 73, rfl⟩
abbrev main_v18 : Ref sig .tc := ⟨.hbm, 74, rfl⟩
abbrev main_cst_3 : Ref sig .tc := ⟨.hbm, 75, rfl⟩
abbrev main_v19 : Ref sig .tc := ⟨.hbm, 76, rfl⟩
abbrev main_v20 : Ref sig .tc := ⟨.hbm, 77, rfl⟩
abbrev main_v21 : Ref sig .tc := ⟨.hbm, 78, rfl⟩
abbrev main_cst_4 : Ref sig .tc := ⟨.hbm, 79, rfl⟩
abbrev main_v22 : Ref sig .tc := ⟨.hbm, 80, rfl⟩
abbrev main_v23 : Ref sig .tc := ⟨.hbm, 81, rfl⟩
abbrev main_cst_5 : Ref sig .tc := ⟨.hbm, 82, rfl⟩
abbrev main_v24 : Ref sig .tc := ⟨.hbm, 83, rfl⟩
abbrev main_v25 : Ref sig .tc := ⟨.hbm, 84, rfl⟩
abbrev main_v26 : Ref sig .tc := ⟨.hbm, 85, rfl⟩
abbrev main_v27 : Ref sig .tc := ⟨.hbm, 86, rfl⟩
abbrev main_v28 : Ref sig .tc := ⟨.hbm, 87, rfl⟩
abbrev main_v29 : Ref sig .tc := ⟨.hbm, 88, rfl⟩
abbrev main_cst_6 : Ref sig .tc := ⟨.hbm, 89, rfl⟩
abbrev main_v30 : Ref sig .tc := ⟨.hbm, 90, rfl⟩
abbrev main_v31 : Ref sig .tc := ⟨.hbm, 91, rfl⟩
abbrev main_v32 : Ref sig .tc := ⟨.hbm, 92, rfl⟩
abbrev main_v33 : Ref sig .tc := ⟨.hbm, 93, rfl⟩
abbrev main_v34 : Ref sig .tc := ⟨.hbm, 94, rfl⟩
abbrev main_v35 : Ref sig .tc := ⟨.hbm, 95, rfl⟩
abbrev main_v36 : Ref sig .tc := ⟨.hbm, 96, rfl⟩
abbrev main_cst_7 : Ref sig .tc := ⟨.hbm, 97, rfl⟩
abbrev main_v37 : Ref sig .tc := ⟨.hbm, 98, rfl⟩
abbrev main_v38 : Ref sig .tc := ⟨.hbm, 99, rfl⟩
abbrev main_v39 : Ref sig .tc := ⟨.hbm, 100, rfl⟩
abbrev main_v40 : Ref sig .tc := ⟨.hbm, 101, rfl⟩
abbrev main_cst_8 : Ref sig .tc := ⟨.hbm, 102, rfl⟩
abbrev main_v41 : Ref sig .tc := ⟨.hbm, 103, rfl⟩
abbrev main_v42 : Ref sig .tc := ⟨.hbm, 104, rfl⟩
abbrev main_cst_9 : Ref sig .tc := ⟨.hbm, 105, rfl⟩
abbrev main_v43 : Ref sig .tc := ⟨.hbm, 106, rfl⟩
abbrev main_v44 : Ref sig .tc := ⟨.hbm, 107, rfl⟩
abbrev main_cst_10 : Ref sig .tc := ⟨.hbm, 108, rfl⟩
abbrev main_v45 : Ref sig .tc := ⟨.hbm, 109, rfl⟩
abbrev main_v46 : Ref sig .tc := ⟨.hbm, 110, rfl⟩
abbrev main_v47 : Ref sig .tc := ⟨.hbm, 111, rfl⟩
abbrev main_v48 : Ref sig .tc := ⟨.hbm, 112, rfl⟩
abbrev main_v49 : Ref sig .tc := ⟨.hbm, 113, rfl⟩
abbrev main_v50 : Ref sig .tc := ⟨.hbm, 114, rfl⟩
abbrev main_v51 : Ref sig .tc := ⟨.hbm, 115, rfl⟩
abbrev main_v52 : Ref sig .tc := ⟨.hbm, 116, rfl⟩
abbrev main_v53 : Ref sig .tc := ⟨.hbm, 117, rfl⟩
abbrev main_v54 : Ref sig .tc := ⟨.hbm, 118, rfl⟩
abbrev main_v55 : Ref sig .tc := ⟨.hbm, 119, rfl⟩
abbrev main_v56 : Ref sig .tc := ⟨.hbm, 120, rfl⟩
abbrev main_c_11 : Ref sig .tc := ⟨.hbm, 121, rfl⟩
abbrev main_v57 : Ref sig .tc := ⟨.hbm, 122, rfl⟩
abbrev main_c_12 : Ref sig .tc := ⟨.hbm, 123, rfl⟩
abbrev main_call2_v0 : Ref sig .tc := ⟨.hbm, 124, rfl⟩
abbrev main_call2_c : Ref sig .tc := ⟨.hbm, 125, rfl⟩
abbrev main_call2_v1 : Ref sig .tc := ⟨.hbm, 126, rfl⟩
abbrev main_call2_c_0 : Ref sig .tc := ⟨.hbm, 127, rfl⟩
abbrev main_call2_v2 : Ref sig .tc := ⟨.hbm, 128, rfl⟩
abbrev main_call2_v3 : Ref sig .tc := ⟨.hbm, 129, rfl⟩
abbrev main_call2_v4 : Ref sig .tc := ⟨.hbm, 130, rfl⟩
abbrev main_call2_c_1 : Ref sig .tc := ⟨.hbm, 131, rfl⟩
abbrev main_call2_v5 : Ref sig .tc := ⟨.hbm, 132, rfl⟩
abbrev main_call2_v6 : Ref sig .tc := ⟨.hbm, 133, rfl⟩
abbrev main_call2_c_2 : Ref sig .tc := ⟨.hbm, 134, rfl⟩
abbrev main_call2_v7 : Ref sig .tc := ⟨.hbm, 135, rfl⟩
abbrev main_call2_v8 : Ref sig .tc := ⟨.hbm, 136, rfl⟩
abbrev main_call2_c_3 : Ref sig .tc := ⟨.hbm, 137, rfl⟩
abbrev main_call2_v9 : Ref sig .tc := ⟨.hbm, 138, rfl⟩
abbrev main_call2_v10 : Ref sig .tc := ⟨.hbm, 139, rfl⟩
abbrev main_call2_v11 : Ref sig .tc := ⟨.hbm, 140, rfl⟩
abbrev main_call2_v12 : Ref sig .tc := ⟨.hbm, 141, rfl⟩
abbrev main_call2_v13 : Ref sig .tc := ⟨.hbm, 142, rfl⟩
abbrev main_call2_v14 : Ref sig .tc := ⟨.hbm, 143, rfl⟩
abbrev main_v58 : Ref sig .tc := ⟨.hbm, 144, rfl⟩
abbrev main_v59 : Ref sig .tc := ⟨.hbm, 145, rfl⟩
abbrev main_v60 : Ref sig .tc := ⟨.hbm, 146, rfl⟩
abbrev main_v61 : Ref sig .tc := ⟨.hbm, 147, rfl⟩
abbrev main_v62 : Ref sig .tc := ⟨.hbm, 148, rfl⟩
abbrev main_v63 : Ref sig .tc := ⟨.hbm, 149, rfl⟩
abbrev main_v64 : Ref sig .tc := ⟨.hbm, 150, rfl⟩
abbrev main_c_13 : Ref sig .tc := ⟨.hbm, 151, rfl⟩
abbrev main_v65 : Ref sig .tc := ⟨.hbm, 152, rfl⟩
abbrev main_c_14 : Ref sig .tc := ⟨.hbm, 153, rfl⟩
abbrev main_call3_v0 : Ref sig .tc := ⟨.hbm, 154, rfl⟩
abbrev main_call3_c : Ref sig .tc := ⟨.hbm, 155, rfl⟩
abbrev main_call3_v1 : Ref sig .tc := ⟨.hbm, 156, rfl⟩
abbrev main_call3_c_0 : Ref sig .tc := ⟨.hbm, 157, rfl⟩
abbrev main_call3_v2 : Ref sig .tc := ⟨.hbm, 158, rfl⟩
abbrev main_call3_v3 : Ref sig .tc := ⟨.hbm, 159, rfl⟩
abbrev main_call3_v4 : Ref sig .tc := ⟨.hbm, 160, rfl⟩
abbrev main_call3_c_1 : Ref sig .tc := ⟨.hbm, 161, rfl⟩
abbrev main_call3_v5 : Ref sig .tc := ⟨.hbm, 162, rfl⟩
abbrev main_call3_v6 : Ref sig .tc := ⟨.hbm, 163, rfl⟩
abbrev main_call3_c_2 : Ref sig .tc := ⟨.hbm, 164, rfl⟩
abbrev main_call3_v7 : Ref sig .tc := ⟨.hbm, 165, rfl⟩
abbrev main_call3_v8 : Ref sig .tc := ⟨.hbm, 166, rfl⟩
abbrev main_call3_c_3 : Ref sig .tc := ⟨.hbm, 167, rfl⟩
abbrev main_call3_v9 : Ref sig .tc := ⟨.hbm, 168, rfl⟩
abbrev main_call3_v10 : Ref sig .tc := ⟨.hbm, 169, rfl⟩
abbrev main_call3_v11 : Ref sig .tc := ⟨.hbm, 170, rfl⟩
abbrev main_call3_v12 : Ref sig .tc := ⟨.hbm, 171, rfl⟩
abbrev main_call3_v13 : Ref sig .tc := ⟨.hbm, 172, rfl⟩
abbrev main_call3_v14 : Ref sig .tc := ⟨.hbm, 173, rfl⟩
abbrev main_v66 : Ref sig .tc := ⟨.hbm, 174, rfl⟩
abbrev main_v67 : Ref sig .tc := ⟨.hbm, 175, rfl⟩
abbrev main_v68 : Ref sig .tc := ⟨.hbm, 176, rfl⟩
abbrev main_c_15 : Ref sig .tc := ⟨.hbm, 177, rfl⟩
abbrev main_v69 : Ref sig .tc := ⟨.hbm, 178, rfl⟩
abbrev main_v70 : Ref sig .tc := ⟨.hbm, 179, rfl⟩
abbrev main_c_16 : Ref sig .tc := ⟨.hbm, 180, rfl⟩
abbrev main_v71 : Ref sig .tc := ⟨.hbm, 181, rfl⟩
abbrev main_v72 : Ref sig .tc := ⟨.hbm, 182, rfl⟩
abbrev main_call4_cst : Ref sig .tc := ⟨.hbm, 183, rfl⟩
abbrev main_call4_v0 : Ref sig .tc := ⟨.hbm, 184, rfl⟩
abbrev main_call4_v1 : Ref sig .tc := ⟨.hbm, 185, rfl⟩
abbrev main_call4_v2 : Ref sig .tc := ⟨.hbm, 186, rfl⟩
abbrev main_call4_v3 : Ref sig .tc := ⟨.hbm, 187, rfl⟩
abbrev main_call4_v4 : Ref sig .tc := ⟨.hbm, 188, rfl⟩
abbrev main_call4_v5 : Ref sig .tc := ⟨.hbm, 189, rfl⟩
abbrev main_call4_v6 : Ref sig .tc := ⟨.hbm, 190, rfl⟩
abbrev main_call4_v7 : Ref sig .tc := ⟨.hbm, 191, rfl⟩
abbrev main_call4_v8 : Ref sig .tc := ⟨.hbm, 192, rfl⟩
abbrev main_call4_v9 : Ref sig .tc := ⟨.hbm, 193, rfl⟩
abbrev main_call4_v10 : Ref sig .tc := ⟨.hbm, 194, rfl⟩
abbrev main_call4_v11 : Ref sig .tc := ⟨.hbm, 195, rfl⟩
abbrev main_v73 : Ref sig .tc := ⟨.hbm, 196, rfl⟩
abbrev main_v74 : Ref sig .tc := ⟨.hbm, 197, rfl⟩
abbrev main_v75 : Ref sig .tc := ⟨.hbm, 198, rfl⟩
abbrev main_v76 : Ref sig .tc := ⟨.hbm, 199, rfl⟩
abbrev main_v77 : Ref sig .tc := ⟨.hbm, 200, rfl⟩
abbrev main_v78 : Ref sig .tc := ⟨.hbm, 201, rfl⟩
abbrev main_v79 : Ref sig .tc := ⟨.hbm, 202, rfl⟩
abbrev main_cst_17 : Ref sig .tc := ⟨.hbm, 203, rfl⟩
abbrev main_v80 : Ref sig .tc := ⟨.hbm, 204, rfl⟩
abbrev main_v81 : Ref sig .tc := ⟨.hbm, 205, rfl⟩
abbrev main_v82 : Ref sig .tc := ⟨.hbm, 206, rfl⟩
abbrev main_v83 : Ref sig .tc := ⟨.hbm, 207, rfl⟩
abbrev main_call5_cst : Ref sig .tc := ⟨.hbm, 208, rfl⟩
abbrev main_call5_v0 : Ref sig .tc := ⟨.hbm, 209, rfl⟩
abbrev main_call5_v1 : Ref sig .tc := ⟨.hbm, 210, rfl⟩
abbrev main_call5_v2 : Ref sig .tc := ⟨.hbm, 211, rfl⟩
abbrev main_call5_v3 : Ref sig .tc := ⟨.hbm, 212, rfl⟩
abbrev main_call5_v4 : Ref sig .tc := ⟨.hbm, 213, rfl⟩
abbrev main_call5_v5 : Ref sig .tc := ⟨.hbm, 214, rfl⟩
abbrev main_call5_v6 : Ref sig .tc := ⟨.hbm, 215, rfl⟩
abbrev main_call5_v7 : Ref sig .tc := ⟨.hbm, 216, rfl⟩
abbrev main_call5_v8 : Ref sig .tc := ⟨.hbm, 217, rfl⟩
abbrev main_call5_v9 : Ref sig .tc := ⟨.hbm, 218, rfl⟩
abbrev main_call5_v10 : Ref sig .tc := ⟨.hbm, 219, rfl⟩
abbrev main_call5_v11 : Ref sig .tc := ⟨.hbm, 220, rfl⟩
abbrev main_v84 : Ref sig .tc := ⟨.hbm, 221, rfl⟩
abbrev main_v85 : Ref sig .tc := ⟨.hbm, 222, rfl⟩
abbrev main_v86 : Ref sig .tc := ⟨.hbm, 223, rfl⟩
abbrev main_v87 : Ref sig .tc := ⟨.hbm, 224, rfl⟩
abbrev main_v88 : Ref sig .tc := ⟨.hbm, 225, rfl⟩
abbrev main_v89 : Ref sig .tc := ⟨.hbm, 226, rfl⟩
abbrev main_v90 : Ref sig .tc := ⟨.hbm, 227, rfl⟩
abbrev main_cst_18 : Ref sig .tc := ⟨.hbm, 228, rfl⟩
abbrev main_v91 : Ref sig .tc := ⟨.hbm, 229, rfl⟩
abbrev main_v92 : Ref sig .tc := ⟨.hbm, 230, rfl⟩
abbrev main_v93 : Ref sig .tc := ⟨.hbm, 231, rfl⟩
abbrev main_call6_c : Ref sig .tc := ⟨.hbm, 232, rfl⟩
abbrev main_call6_v0 : Ref sig .tc := ⟨.hbm, 233, rfl⟩
abbrev main_call6_v1 : Ref sig .tc := ⟨.hbm, 234, rfl⟩
abbrev main_call6_c_0 : Ref sig .tc := ⟨.hbm, 235, rfl⟩
abbrev main_call6_v2 : Ref sig .tc := ⟨.hbm, 236, rfl⟩
abbrev main_call6_v3 : Ref sig .tc := ⟨.hbm, 237, rfl⟩
abbrev main_call6_v4 : Ref sig .tc := ⟨.hbm, 238, rfl⟩
abbrev main_call6_v5 : Ref sig .tc := ⟨.hbm, 239, rfl⟩
abbrev main_call6_c_1 : Ref sig .tc := ⟨.hbm, 240, rfl⟩
abbrev main_call6_c_2 : Ref sig .tc := ⟨.hbm, 241, rfl⟩
abbrev main_call6_v6 : Ref sig .tc := ⟨.hbm, 242, rfl⟩
abbrev main_call6_v7 : Ref sig .tc := ⟨.hbm, 243, rfl⟩
abbrev main_call6_v8 : Ref sig .tc := ⟨.hbm, 244, rfl⟩
abbrev main_call6_v9 : Ref sig .tc := ⟨.hbm, 245, rfl⟩
abbrev main_call6_v10 : Ref sig .tc := ⟨.hbm, 246, rfl⟩
abbrev main_call6_v11 : Ref sig .tc := ⟨.hbm, 247, rfl⟩
abbrev main_call6_c_3 : Ref sig .tc := ⟨.hbm, 248, rfl⟩
abbrev main_call6_v12 : Ref sig .tc := ⟨.hbm, 249, rfl⟩
abbrev main_call6_v13 : Ref sig .tc := ⟨.hbm, 250, rfl⟩
abbrev main_call6_v14 : Ref sig .tc := ⟨.hbm, 251, rfl⟩
abbrev main_call6_c_4 : Ref sig .tc := ⟨.hbm, 252, rfl⟩
abbrev main_call6_v15 : Ref sig .tc := ⟨.hbm, 253, rfl⟩
abbrev main_v94 : Ref sig .tc := ⟨.hbm, 254, rfl⟩
abbrev main_call7_c : Ref sig .tc := ⟨.hbm, 255, rfl⟩
abbrev main_call7_v0 : Ref sig .tc := ⟨.hbm, 256, rfl⟩
abbrev main_call7_v1 : Ref sig .tc := ⟨.hbm, 257, rfl⟩
abbrev main_call7_c_0 : Ref sig .tc := ⟨.hbm, 258, rfl⟩
abbrev main_call7_v2 : Ref sig .tc := ⟨.hbm, 259, rfl⟩
abbrev main_call7_v3 : Ref sig .tc := ⟨.hbm, 260, rfl⟩
abbrev main_call7_v4 : Ref sig .tc := ⟨.hbm, 261, rfl⟩
abbrev main_call7_v5 : Ref sig .tc := ⟨.hbm, 262, rfl⟩
abbrev main_call7_c_1 : Ref sig .tc := ⟨.hbm, 263, rfl⟩
abbrev main_call7_c_2 : Ref sig .tc := ⟨.hbm, 264, rfl⟩
abbrev main_call7_v6 : Ref sig .tc := ⟨.hbm, 265, rfl⟩
abbrev main_call7_v7 : Ref sig .tc := ⟨.hbm, 266, rfl⟩
abbrev main_call7_v8 : Ref sig .tc := ⟨.hbm, 267, rfl⟩
abbrev main_call7_v9 : Ref sig .tc := ⟨.hbm, 268, rfl⟩
abbrev main_call7_v10 : Ref sig .tc := ⟨.hbm, 269, rfl⟩
abbrev main_call7_v11 : Ref sig .tc := ⟨.hbm, 270, rfl⟩
abbrev main_call7_c_3 : Ref sig .tc := ⟨.hbm, 271, rfl⟩
abbrev main_call7_v12 : Ref sig .tc := ⟨.hbm, 272, rfl⟩
abbrev main_call7_v13 : Ref sig .tc := ⟨.hbm, 273, rfl⟩
abbrev main_call7_v14 : Ref sig .tc := ⟨.hbm, 274, rfl⟩
abbrev main_call7_c_4 : Ref sig .tc := ⟨.hbm, 275, rfl⟩
abbrev main_call7_v15 : Ref sig .tc := ⟨.hbm, 276, rfl⟩
abbrev main_v95 : Ref sig .tc := ⟨.hbm, 277, rfl⟩
abbrev main_v96 : Ref sig .tc := ⟨.hbm, 278, rfl⟩
abbrev main_v97 : Ref sig .tc := ⟨.hbm, 279, rfl⟩
abbrev main_call8_v0 : Ref sig .tc := ⟨.hbm, 280, rfl⟩
abbrev main_call8_v1_0 : Ref sig .tc := ⟨.hbm, 281, rfl⟩
abbrev main_v98 : Ref sig .tc := ⟨.hbm, 282, rfl⟩
abbrev main_call9_v0 : Ref sig .tc := ⟨.hbm, 283, rfl⟩
abbrev main_call9_v1_0 : Ref sig .tc := ⟨.hbm, 284, rfl⟩
abbrev main_v99 : Ref sig .tc := ⟨.hbm, 285, rfl⟩
abbrev main_cst_19 : Ref sig .tc := ⟨.hbm, 286, rfl⟩
abbrev main_v100 : Ref sig .tc := ⟨.hbm, 287, rfl⟩
abbrev main_v101 : Ref sig .tc := ⟨.hbm, 288, rfl⟩
abbrev main_v102 : Ref sig .tc := ⟨.hbm, 289, rfl⟩
abbrev main_v103 : Ref sig .tc := ⟨.hbm, 290, rfl⟩
abbrev main_v104 : Ref sig .tc := ⟨.hbm, 291, rfl⟩
abbrev main_v105 : Ref sig .tc := ⟨.hbm, 292, rfl⟩
abbrev main_v106 : Ref sig .tc := ⟨.hbm, 293, rfl⟩
abbrev main_v107 : Ref sig .tc := ⟨.hbm, 294, rfl⟩
abbrev main_v108 : Ref sig .tc := ⟨.hbm, 295, rfl⟩
abbrev main_c_20 : Ref sig .tc := ⟨.hbm, 296, rfl⟩
abbrev main_v109 : Ref sig .tc := ⟨.hbm, 297, rfl⟩
abbrev main_v110 : Ref sig .tc := ⟨.hbm, 298, rfl⟩
abbrev main_c_21 : Ref sig .tc := ⟨.hbm, 299, rfl⟩
abbrev main_call10_v0 : Ref sig .tc := ⟨.hbm, 300, rfl⟩
abbrev main_call10_c : Ref sig .tc := ⟨.hbm, 301, rfl⟩
abbrev main_call10_v1 : Ref sig .tc := ⟨.hbm, 302, rfl⟩
abbrev main_call10_c_0 : Ref sig .tc := ⟨.hbm, 303, rfl⟩
abbrev main_call10_v2 : Ref sig .tc := ⟨.hbm, 304, rfl⟩
abbrev main_call10_v3 : Ref sig .tc := ⟨.hbm, 305, rfl⟩
abbrev main_call10_v4 : Ref sig .tc := ⟨.hbm, 306, rfl⟩
abbrev main_call10_c_1 : Ref sig .tc := ⟨.hbm, 307, rfl⟩
abbrev main_call10_v5 : Ref sig .tc := ⟨.hbm, 308, rfl⟩
abbrev main_call10_v6 : Ref sig .tc := ⟨.hbm, 309, rfl⟩
abbrev main_call10_c_2 : Ref sig .tc := ⟨.hbm, 310, rfl⟩
abbrev main_call10_v7 : Ref sig .tc := ⟨.hbm, 311, rfl⟩
abbrev main_call10_v8 : Ref sig .tc := ⟨.hbm, 312, rfl⟩
abbrev main_call10_c_3 : Ref sig .tc := ⟨.hbm, 313, rfl⟩
abbrev main_call10_v9 : Ref sig .tc := ⟨.hbm, 314, rfl⟩
abbrev main_call10_v10 : Ref sig .tc := ⟨.hbm, 315, rfl⟩
abbrev main_call10_v11 : Ref sig .tc := ⟨.hbm, 316, rfl⟩
abbrev main_call10_v12 : Ref sig .tc := ⟨.hbm, 317, rfl⟩
abbrev main_call10_v13 : Ref sig .tc := ⟨.hbm, 318, rfl⟩
abbrev main_call10_v14 : Ref sig .tc := ⟨.hbm, 319, rfl⟩
abbrev main_v111 : Ref sig .tc := ⟨.hbm, 320, rfl⟩
abbrev main_v112 : Ref sig .tc := ⟨.hbm, 321, rfl⟩
abbrev main_v113 : Ref sig .tc := ⟨.hbm, 322, rfl⟩
abbrev main_v114 : Ref sig .tc := ⟨.hbm, 323, rfl⟩
abbrev main_v115 : Ref sig .tc := ⟨.hbm, 324, rfl⟩
abbrev main_v116 : Ref sig .tc := ⟨.hbm, 325, rfl⟩
abbrev main_v117 : Ref sig .tc := ⟨.hbm, 326, rfl⟩
abbrev main_c_22 : Ref sig .tc := ⟨.hbm, 327, rfl⟩
abbrev main_v118 : Ref sig .tc := ⟨.hbm, 328, rfl⟩
abbrev main_c_23 : Ref sig .tc := ⟨.hbm, 329, rfl⟩
abbrev main_call11_v0 : Ref sig .tc := ⟨.hbm, 330, rfl⟩
abbrev main_call11_c : Ref sig .tc := ⟨.hbm, 331, rfl⟩
abbrev main_call11_v1 : Ref sig .tc := ⟨.hbm, 332, rfl⟩
abbrev main_call11_c_0 : Ref sig .tc := ⟨.hbm, 333, rfl⟩
abbrev main_call11_v2 : Ref sig .tc := ⟨.hbm, 334, rfl⟩
abbrev main_call11_v3 : Ref sig .tc := ⟨.hbm, 335, rfl⟩
abbrev main_call11_v4 : Ref sig .tc := ⟨.hbm, 336, rfl⟩
abbrev main_call11_c_1 : Ref sig .tc := ⟨.hbm, 337, rfl⟩
abbrev main_call11_v5 : Ref sig .tc := ⟨.hbm, 338, rfl⟩
abbrev main_call11_v6 : Ref sig .tc := ⟨.hbm, 339, rfl⟩
abbrev main_call11_c_2 : Ref sig .tc := ⟨.hbm, 340, rfl⟩
abbrev main_call11_v7 : Ref sig .tc := ⟨.hbm, 341, rfl⟩
abbrev main_call11_v8 : Ref sig .tc := ⟨.hbm, 342, rfl⟩
abbrev main_call11_c_3 : Ref sig .tc := ⟨.hbm, 343, rfl⟩
abbrev main_call11_v9 : Ref sig .tc := ⟨.hbm, 344, rfl⟩
abbrev main_call11_v10 : Ref sig .tc := ⟨.hbm, 345, rfl⟩
abbrev main_call11_v11 : Ref sig .tc := ⟨.hbm, 346, rfl⟩
abbrev main_call11_v12 : Ref sig .tc := ⟨.hbm, 347, rfl⟩
abbrev main_call11_v13 : Ref sig .tc := ⟨.hbm, 348, rfl⟩
abbrev main_call11_v14 : Ref sig .tc := ⟨.hbm, 349, rfl⟩
abbrev main_v119 : Ref sig .tc := ⟨.hbm, 350, rfl⟩
abbrev main_v120 : Ref sig .tc := ⟨.hbm, 351, rfl⟩
abbrev main_v121 : Ref sig .tc := ⟨.hbm, 352, rfl⟩
abbrev main_call12_c : Ref sig .tc := ⟨.hbm, 353, rfl⟩
abbrev main_call12_v0 : Ref sig .tc := ⟨.hbm, 354, rfl⟩
abbrev main_call12_v1 : Ref sig .tc := ⟨.hbm, 355, rfl⟩
abbrev main_call12_c_0 : Ref sig .tc := ⟨.hbm, 356, rfl⟩
abbrev main_call12_v2 : Ref sig .tc := ⟨.hbm, 357, rfl⟩
abbrev main_call12_v3 : Ref sig .tc := ⟨.hbm, 358, rfl⟩
abbrev main_call12_v4 : Ref sig .tc := ⟨.hbm, 359, rfl⟩
abbrev main_call12_v5 : Ref sig .tc := ⟨.hbm, 360, rfl⟩
abbrev main_call12_c_1 : Ref sig .tc := ⟨.hbm, 361, rfl⟩
abbrev main_call12_c_2 : Ref sig .tc := ⟨.hbm, 362, rfl⟩
abbrev main_call12_v6 : Ref sig .tc := ⟨.hbm, 363, rfl⟩
abbrev main_call12_v7 : Ref sig .tc := ⟨.hbm, 364, rfl⟩
abbrev main_call12_v8 : Ref sig .tc := ⟨.hbm, 365, rfl⟩
abbrev main_call12_v9 : Ref sig .tc := ⟨.hbm, 366, rfl⟩
abbrev main_call12_v10 : Ref sig .tc := ⟨.hbm, 367, rfl⟩
abbrev main_call12_v11 : Ref sig .tc := ⟨.hbm, 368, rfl⟩
abbrev main_call12_c_3 : Ref sig .tc := ⟨.hbm, 369, rfl⟩
abbrev main_call12_v12 : Ref sig .tc := ⟨.hbm, 370, rfl⟩
abbrev main_call12_v13 : Ref sig .tc := ⟨.hbm, 371, rfl⟩
abbrev main_call12_c_4 : Ref sig .tc := ⟨.hbm, 372, rfl⟩
abbrev main_call12_v14 : Ref sig .tc := ⟨.hbm, 373, rfl⟩
abbrev main_v122 : Ref sig .tc := ⟨.hbm, 374, rfl⟩
abbrev main_call13_c : Ref sig .tc := ⟨.hbm, 375, rfl⟩
abbrev main_call13_v0 : Ref sig .tc := ⟨.hbm, 376, rfl⟩
abbrev main_call13_v1 : Ref sig .tc := ⟨.hbm, 377, rfl⟩
abbrev main_call13_c_0 : Ref sig .tc := ⟨.hbm, 378, rfl⟩
abbrev main_call13_v2 : Ref sig .tc := ⟨.hbm, 379, rfl⟩
abbrev main_call13_v3 : Ref sig .tc := ⟨.hbm, 380, rfl⟩
abbrev main_call13_v4 : Ref sig .tc := ⟨.hbm, 381, rfl⟩
abbrev main_call13_v5 : Ref sig .tc := ⟨.hbm, 382, rfl⟩
abbrev main_call13_c_1 : Ref sig .tc := ⟨.hbm, 383, rfl⟩
abbrev main_call13_c_2 : Ref sig .tc := ⟨.hbm, 384, rfl⟩
abbrev main_call13_v6 : Ref sig .tc := ⟨.hbm, 385, rfl⟩
abbrev main_call13_v7 : Ref sig .tc := ⟨.hbm, 386, rfl⟩
abbrev main_call13_v8 : Ref sig .tc := ⟨.hbm, 387, rfl⟩
abbrev main_call13_v9 : Ref sig .tc := ⟨.hbm, 388, rfl⟩
abbrev main_call13_v10 : Ref sig .tc := ⟨.hbm, 389, rfl⟩
abbrev main_call13_v11 : Ref sig .tc := ⟨.hbm, 390, rfl⟩
abbrev main_call13_c_3 : Ref sig .tc := ⟨.hbm, 391, rfl⟩
abbrev main_call13_v12 : Ref sig .tc := ⟨.hbm, 392, rfl⟩
abbrev main_call13_v13 : Ref sig .tc := ⟨.hbm, 393, rfl⟩
abbrev main_call13_c_4 : Ref sig .tc := ⟨.hbm, 394, rfl⟩
abbrev main_call13_v14 : Ref sig .tc := ⟨.hbm, 395, rfl⟩
abbrev main_v123 : Ref sig .tc := ⟨.hbm, 396, rfl⟩
abbrev main_c_24 : Ref sig .tc := ⟨.hbm, 397, rfl⟩
abbrev main_v124 : Ref sig .tc := ⟨.hbm, 398, rfl⟩
abbrev main_v125 : Ref sig .tc := ⟨.hbm, 399, rfl⟩
abbrev main_v126 : Ref sig .tc := ⟨.hbm, 400, rfl⟩
abbrev main_v127 : Ref sig .tc := ⟨.hbm, 401, rfl⟩
abbrev main_v128 : Ref sig .tc := ⟨.hbm, 402, rfl⟩
abbrev main_call14_v0 : Ref sig .tc := ⟨.hbm, 403, rfl⟩
abbrev main_call14_v1_0 : Ref sig .tc := ⟨.hbm, 404, rfl⟩
abbrev main_v129 : Ref sig .tc := ⟨.hbm, 405, rfl⟩
abbrev main_call15_v0 : Ref sig .tc := ⟨.hbm, 406, rfl⟩
abbrev main_call15_v1_0 : Ref sig .tc := ⟨.hbm, 407, rfl⟩
abbrev main_v130 : Ref sig .tc := ⟨.hbm, 408, rfl⟩
abbrev main_cst_25 : Ref sig .tc := ⟨.hbm, 409, rfl⟩
abbrev main_v131 : Ref sig .tc := ⟨.hbm, 410, rfl⟩
abbrev main_v132 : Ref sig .tc := ⟨.hbm, 411, rfl⟩
abbrev main_v133 : Ref sig .tc := ⟨.hbm, 412, rfl⟩
abbrev main_v134 : Ref sig .tc := ⟨.hbm, 413, rfl⟩
abbrev main_v135 : Ref sig .tc := ⟨.hbm, 414, rfl⟩
abbrev main_v136 : Ref sig .tc := ⟨.hbm, 415, rfl⟩
abbrev main_v137 : Ref sig .tc := ⟨.hbm, 416, rfl⟩
abbrev main_v138 : Ref sig .tc := ⟨.hbm, 417, rfl⟩
abbrev main_v139 : Ref sig .tc := ⟨.hbm, 418, rfl⟩
abbrev main_c_26 : Ref sig .tc := ⟨.hbm, 419, rfl⟩
abbrev main_v140 : Ref sig .tc := ⟨.hbm, 420, rfl⟩
abbrev main_v141 : Ref sig .tc := ⟨.hbm, 421, rfl⟩
abbrev main_c_27 : Ref sig .tc := ⟨.hbm, 422, rfl⟩
abbrev main_call16_v0 : Ref sig .tc := ⟨.hbm, 423, rfl⟩
abbrev main_call16_c : Ref sig .tc := ⟨.hbm, 424, rfl⟩
abbrev main_call16_v1 : Ref sig .tc := ⟨.hbm, 425, rfl⟩
abbrev main_call16_c_0 : Ref sig .tc := ⟨.hbm, 426, rfl⟩
abbrev main_call16_v2 : Ref sig .tc := ⟨.hbm, 427, rfl⟩
abbrev main_call16_v3 : Ref sig .tc := ⟨.hbm, 428, rfl⟩
abbrev main_call16_v4 : Ref sig .tc := ⟨.hbm, 429, rfl⟩
abbrev main_call16_c_1 : Ref sig .tc := ⟨.hbm, 430, rfl⟩
abbrev main_call16_v5 : Ref sig .tc := ⟨.hbm, 431, rfl⟩
abbrev main_call16_v6 : Ref sig .tc := ⟨.hbm, 432, rfl⟩
abbrev main_call16_c_2 : Ref sig .tc := ⟨.hbm, 433, rfl⟩
abbrev main_call16_v7 : Ref sig .tc := ⟨.hbm, 434, rfl⟩
abbrev main_call16_v8 : Ref sig .tc := ⟨.hbm, 435, rfl⟩
abbrev main_call16_c_3 : Ref sig .tc := ⟨.hbm, 436, rfl⟩
abbrev main_call16_v9 : Ref sig .tc := ⟨.hbm, 437, rfl⟩
abbrev main_call16_v10 : Ref sig .tc := ⟨.hbm, 438, rfl⟩
abbrev main_call16_v11 : Ref sig .tc := ⟨.hbm, 439, rfl⟩
abbrev main_call16_v12 : Ref sig .tc := ⟨.hbm, 440, rfl⟩
abbrev main_call16_v13 : Ref sig .tc := ⟨.hbm, 441, rfl⟩
abbrev main_call16_v14 : Ref sig .tc := ⟨.hbm, 442, rfl⟩
abbrev main_v142 : Ref sig .tc := ⟨.hbm, 443, rfl⟩
abbrev main_v143 : Ref sig .tc := ⟨.hbm, 444, rfl⟩
abbrev main_v144 : Ref sig .tc := ⟨.hbm, 445, rfl⟩
abbrev main_v145 : Ref sig .tc := ⟨.hbm, 446, rfl⟩
abbrev main_v146 : Ref sig .tc := ⟨.hbm, 447, rfl⟩
abbrev main_v147 : Ref sig .tc := ⟨.hbm, 448, rfl⟩
abbrev main_v148 : Ref sig .tc := ⟨.hbm, 449, rfl⟩
abbrev main_c_28 : Ref sig .tc := ⟨.hbm, 450, rfl⟩
abbrev main_v149 : Ref sig .tc := ⟨.hbm, 451, rfl⟩
abbrev main_c_29 : Ref sig .tc := ⟨.hbm, 452, rfl⟩
abbrev main_call17_v0 : Ref sig .tc := ⟨.hbm, 453, rfl⟩
abbrev main_call17_c : Ref sig .tc := ⟨.hbm, 454, rfl⟩
abbrev main_call17_v1 : Ref sig .tc := ⟨.hbm, 455, rfl⟩
abbrev main_call17_c_0 : Ref sig .tc := ⟨.hbm, 456, rfl⟩
abbrev main_call17_v2 : Ref sig .tc := ⟨.hbm, 457, rfl⟩
abbrev main_call17_v3 : Ref sig .tc := ⟨.hbm, 458, rfl⟩
abbrev main_call17_v4 : Ref sig .tc := ⟨.hbm, 459, rfl⟩
abbrev main_call17_c_1 : Ref sig .tc := ⟨.hbm, 460, rfl⟩
abbrev main_call17_v5 : Ref sig .tc := ⟨.hbm, 461, rfl⟩
abbrev main_call17_v6 : Ref sig .tc := ⟨.hbm, 462, rfl⟩
abbrev main_call17_c_2 : Ref sig .tc := ⟨.hbm, 463, rfl⟩
abbrev main_call17_v7 : Ref sig .tc := ⟨.hbm, 464, rfl⟩
abbrev main_call17_v8 : Ref sig .tc := ⟨.hbm, 465, rfl⟩
abbrev main_call17_c_3 : Ref sig .tc := ⟨.hbm, 466, rfl⟩
abbrev main_call17_v9 : Ref sig .tc := ⟨.hbm, 467, rfl⟩
abbrev main_call17_v10 : Ref sig .tc := ⟨.hbm, 468, rfl⟩
abbrev main_call17_v11 : Ref sig .tc := ⟨.hbm, 469, rfl⟩
abbrev main_call17_v12 : Ref sig .tc := ⟨.hbm, 470, rfl⟩
abbrev main_call17_v13 : Ref sig .tc := ⟨.hbm, 471, rfl⟩
abbrev main_call17_v14 : Ref sig .tc := ⟨.hbm, 472, rfl⟩
abbrev main_v150 : Ref sig .tc := ⟨.hbm, 473, rfl⟩
abbrev main_v151 : Ref sig .tc := ⟨.hbm, 474, rfl⟩
abbrev main_v152 : Ref sig .tc := ⟨.hbm, 475, rfl⟩
abbrev main_call18_c : Ref sig .tc := ⟨.hbm, 476, rfl⟩
abbrev main_call18_v0 : Ref sig .tc := ⟨.hbm, 477, rfl⟩
abbrev main_call18_v1 : Ref sig .tc := ⟨.hbm, 478, rfl⟩
abbrev main_call18_c_0 : Ref sig .tc := ⟨.hbm, 479, rfl⟩
abbrev main_call18_v2 : Ref sig .tc := ⟨.hbm, 480, rfl⟩
abbrev main_call18_v3 : Ref sig .tc := ⟨.hbm, 481, rfl⟩
abbrev main_call18_v4 : Ref sig .tc := ⟨.hbm, 482, rfl⟩
abbrev main_call18_v5 : Ref sig .tc := ⟨.hbm, 483, rfl⟩
abbrev main_call18_c_1 : Ref sig .tc := ⟨.hbm, 484, rfl⟩
abbrev main_call18_c_2 : Ref sig .tc := ⟨.hbm, 485, rfl⟩
abbrev main_call18_v6 : Ref sig .tc := ⟨.hbm, 486, rfl⟩
abbrev main_call18_v7 : Ref sig .tc := ⟨.hbm, 487, rfl⟩
abbrev main_call18_v8 : Ref sig .tc := ⟨.hbm, 488, rfl⟩
abbrev main_call18_v9 : Ref sig .tc := ⟨.hbm, 489, rfl⟩
abbrev main_call18_v10 : Ref sig .tc := ⟨.hbm, 490, rfl⟩
abbrev main_call18_v11 : Ref sig .tc := ⟨.hbm, 491, rfl⟩
abbrev main_call18_c_3 : Ref sig .tc := ⟨.hbm, 492, rfl⟩
abbrev main_call18_v12 : Ref sig .tc := ⟨.hbm, 493, rfl⟩
abbrev main_call18_v13 : Ref sig .tc := ⟨.hbm, 494, rfl⟩
abbrev main_call18_c_4 : Ref sig .tc := ⟨.hbm, 495, rfl⟩
abbrev main_call18_v14 : Ref sig .tc := ⟨.hbm, 496, rfl⟩
abbrev main_v153 : Ref sig .tc := ⟨.hbm, 497, rfl⟩
abbrev main_call19_c : Ref sig .tc := ⟨.hbm, 498, rfl⟩
abbrev main_call19_v0 : Ref sig .tc := ⟨.hbm, 499, rfl⟩
abbrev main_call19_v1 : Ref sig .tc := ⟨.hbm, 500, rfl⟩
abbrev main_call19_c_0 : Ref sig .tc := ⟨.hbm, 501, rfl⟩
abbrev main_call19_v2 : Ref sig .tc := ⟨.hbm, 502, rfl⟩
abbrev main_call19_v3 : Ref sig .tc := ⟨.hbm, 503, rfl⟩
abbrev main_call19_v4 : Ref sig .tc := ⟨.hbm, 504, rfl⟩
abbrev main_call19_v5 : Ref sig .tc := ⟨.hbm, 505, rfl⟩
abbrev main_call19_c_1 : Ref sig .tc := ⟨.hbm, 506, rfl⟩
abbrev main_call19_c_2 : Ref sig .tc := ⟨.hbm, 507, rfl⟩
abbrev main_call19_v6 : Ref sig .tc := ⟨.hbm, 508, rfl⟩
abbrev main_call19_v7 : Ref sig .tc := ⟨.hbm, 509, rfl⟩
abbrev main_call19_v8 : Ref sig .tc := ⟨.hbm, 510, rfl⟩
abbrev main_call19_v9 : Ref sig .tc := ⟨.hbm, 511, rfl⟩
abbrev main_call19_v10 : Ref sig .tc := ⟨.hbm, 512, rfl⟩
abbrev main_call19_v11 : Ref sig .tc := ⟨.hbm, 513, rfl⟩
abbrev main_call19_c_3 : Ref sig .tc := ⟨.hbm, 514, rfl⟩
abbrev main_call19_v12 : Ref sig .tc := ⟨.hbm, 515, rfl⟩
abbrev main_call19_v13 : Ref sig .tc := ⟨.hbm, 516, rfl⟩
abbrev main_call19_c_4 : Ref sig .tc := ⟨.hbm, 517, rfl⟩
abbrev main_call19_v14 : Ref sig .tc := ⟨.hbm, 518, rfl⟩
abbrev main_v154 : Ref sig .tc := ⟨.hbm, 519, rfl⟩
abbrev main_c_30 : Ref sig .tc := ⟨.hbm, 520, rfl⟩
abbrev main_v155 : Ref sig .tc := ⟨.hbm, 521, rfl⟩
abbrev main_v156 : Ref sig .tc := ⟨.hbm, 522, rfl⟩
abbrev main_v157 : Ref sig .tc := ⟨.hbm, 523, rfl⟩
abbrev main_v158 : Ref sig .tc := ⟨.hbm, 524, rfl⟩
abbrev main_call20_v0 : Ref sig .tc := ⟨.hbm, 525, rfl⟩
abbrev main_v159 : Ref sig .tc := ⟨.hbm, 526, rfl⟩
abbrev main_v160 : Ref sig .tc := ⟨.hbm, 527, rfl⟩
abbrev main_call21_v0 : Ref sig .tc := ⟨.hbm, 528, rfl⟩
abbrev main_v161 : Ref sig .tc := ⟨.hbm, 529, rfl⟩
abbrev main_v162 : Ref sig .tc := ⟨.hbm, 530, rfl⟩
abbrev main_v163 : Ref sig .tc := ⟨.hbm, 531, rfl⟩
abbrev main_v164 : Ref sig .tc := ⟨.hbm, 532, rfl⟩
abbrev main_v165 : Ref sig .tc := ⟨.hbm, 533, rfl⟩
abbrev main_v166 : Ref sig .tc := ⟨.hbm, 534, rfl⟩
abbrev main_v167 : Ref sig .tc := ⟨.hbm, 535, rfl⟩
abbrev main_v168 : Ref sig .tc := ⟨.hbm, 536, rfl⟩
abbrev main_v169 : Ref sig .tc := ⟨.hbm, 537, rfl⟩
abbrev main_v170 : Ref sig .tc := ⟨.hbm, 538, rfl⟩
abbrev main_v171 : Ref sig .tc := ⟨.hbm, 539, rfl⟩
abbrev main_c_31 : Ref sig .tc := ⟨.hbm, 540, rfl⟩
abbrev main_v172 : Ref sig .tc := ⟨.hbm, 541, rfl⟩
abbrev main_c_32 : Ref sig .tc := ⟨.hbm, 542, rfl⟩
abbrev main_call22_v0 : Ref sig .tc := ⟨.hbm, 543, rfl⟩
abbrev main_call22_c : Ref sig .tc := ⟨.hbm, 544, rfl⟩
abbrev main_call22_v1 : Ref sig .tc := ⟨.hbm, 545, rfl⟩
abbrev main_call22_c_0 : Ref sig .tc := ⟨.hbm, 546, rfl⟩
abbrev main_call22_v2 : Ref sig .tc := ⟨.hbm, 547, rfl⟩
abbrev main_call22_v3 : Ref sig .tc := ⟨.hbm, 548, rfl⟩
abbrev main_call22_v4 : Ref sig .tc := ⟨.hbm, 549, rfl⟩
abbrev main_call22_c_1 : Ref sig .tc := ⟨.hbm, 550, rfl⟩
abbrev main_call22_v5 : Ref sig .tc := ⟨.hbm, 551, rfl⟩
abbrev main_call22_v6 : Ref sig .tc := ⟨.hbm, 552, rfl⟩
abbrev main_call22_c_2 : Ref sig .tc := ⟨.hbm, 553, rfl⟩
abbrev main_call22_v7 : Ref sig .tc := ⟨.hbm, 554, rfl⟩
abbrev main_call22_v8 : Ref sig .tc := ⟨.hbm, 555, rfl⟩
abbrev main_call22_c_3 : Ref sig .tc := ⟨.hbm, 556, rfl⟩
abbrev main_call22_v9 : Ref sig .tc := ⟨.hbm, 557, rfl⟩
abbrev main_call22_v10 : Ref sig .tc := ⟨.hbm, 558, rfl⟩
abbrev main_call22_v11 : Ref sig .tc := ⟨.hbm, 559, rfl⟩
abbrev main_call22_v12 : Ref sig .tc := ⟨.hbm, 560, rfl⟩
abbrev main_call22_v13 : Ref sig .tc := ⟨.hbm, 561, rfl⟩
abbrev main_call22_v14 : Ref sig .tc := ⟨.hbm, 562, rfl⟩
abbrev main_v173 : Ref sig .tc := ⟨.hbm, 563, rfl⟩
abbrev main_v174 : Ref sig .tc := ⟨.hbm, 564, rfl⟩
abbrev main_v175 : Ref sig .tc := ⟨.hbm, 565, rfl⟩
abbrev main_v176 : Ref sig .tc := ⟨.hbm, 566, rfl⟩
abbrev main_v177 : Ref sig .tc := ⟨.hbm, 567, rfl⟩
abbrev main_v178 : Ref sig .tc := ⟨.hbm, 568, rfl⟩
abbrev main_v179 : Ref sig .tc := ⟨.hbm, 569, rfl⟩
abbrev main_c_33 : Ref sig .tc := ⟨.hbm, 570, rfl⟩
abbrev main_v180 : Ref sig .tc := ⟨.hbm, 571, rfl⟩
abbrev main_c_34 : Ref sig .tc := ⟨.hbm, 572, rfl⟩
abbrev main_call23_v0 : Ref sig .tc := ⟨.hbm, 573, rfl⟩
abbrev main_call23_c : Ref sig .tc := ⟨.hbm, 574, rfl⟩
abbrev main_call23_v1 : Ref sig .tc := ⟨.hbm, 575, rfl⟩
abbrev main_call23_c_0 : Ref sig .tc := ⟨.hbm, 576, rfl⟩
abbrev main_call23_v2 : Ref sig .tc := ⟨.hbm, 577, rfl⟩
abbrev main_call23_v3 : Ref sig .tc := ⟨.hbm, 578, rfl⟩
abbrev main_call23_v4 : Ref sig .tc := ⟨.hbm, 579, rfl⟩
abbrev main_call23_c_1 : Ref sig .tc := ⟨.hbm, 580, rfl⟩
abbrev main_call23_v5 : Ref sig .tc := ⟨.hbm, 581, rfl⟩
abbrev main_call23_v6 : Ref sig .tc := ⟨.hbm, 582, rfl⟩
abbrev main_call23_c_2 : Ref sig .tc := ⟨.hbm, 583, rfl⟩
abbrev main_call23_v7 : Ref sig .tc := ⟨.hbm, 584, rfl⟩
abbrev main_call23_v8 : Ref sig .tc := ⟨.hbm, 585, rfl⟩
abbrev main_call23_c_3 : Ref sig .tc := ⟨.hbm, 586, rfl⟩
abbrev main_call23_v9 : Ref sig .tc := ⟨.hbm, 587, rfl⟩
abbrev main_call23_v10 : Ref sig .tc := ⟨.hbm, 588, rfl⟩
abbrev main_call23_v11 : Ref sig .tc := ⟨.hbm, 589, rfl⟩
abbrev main_call23_v12 : Ref sig .tc := ⟨.hbm, 590, rfl⟩
abbrev main_call23_v13 : Ref sig .tc := ⟨.hbm, 591, rfl⟩
abbrev main_call23_v14 : Ref sig .tc := ⟨.hbm, 592, rfl⟩
abbrev main_v181 : Ref sig .tc := ⟨.hbm, 593, rfl⟩
abbrev main_v182 : Ref sig .tc := ⟨.hbm, 594, rfl⟩
abbrev main_v183 : Ref sig .tc := ⟨.hbm, 595, rfl⟩
abbrev main_c_35 : Ref sig .tc := ⟨.hbm, 596, rfl⟩
abbrev main_v184 : Ref sig .tc := ⟨.hbm, 597, rfl⟩

abbrev nD : Nat := 1
abbrev τ : Topo := Topo.v7x

variable {F : FTy → Type} [FloatOps F]
-- ==== Proof.Run.Call0.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.Value
public import Idealize.ShloMosaic.Lib.Pipeline.Covers
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Call 0: the syndromes of one tile: the two parity products, as bits and as signs

Stated at arbitrary contents `V` of the buffers as the call finds them. -/

/-- The block of window `w` at grid point `t`, read off its array. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The offsets of every access are zero. -/
theorem zz0 : (![0, 0] : Fin 2 → Nat) = fun _ => 0 := by funext a; fin_cases a <;> rfl

/-- The whole of a `S1024x4096` buffer. -/
abbrev r0_S1024x4096 : Rect S1024x4096 := Rect.unit (s := S1024x4096) ![0, 0] S1024x4096.size inb_S1024x4096_S1024x4096_0_0

/-- The whole of a `S1024x1024` buffer. -/
abbrev r0_S1024x1024 : Rect S1024x1024 := Rect.unit (s := S1024x1024) ![0, 0] S1024x1024.size inb_S1024x1024_S1024x1024_0_0

/-- What output window 4 holds after the body. -/
def out0_4 (x0 : Vec F S1024x4096 .i8) (x1 : Vec F S1024x4096 .i8) : Vec F S1024x1024 .i8 :=
  k0_pay3 x0 x1

/-- What output window 5 holds after the body. -/
def out0_5 (x2 : Vec F S1024x4096 .i8) (x3 : Vec F S1024x4096 .i8) : Vec F S1024x1024 .i8 :=
  k0_pay4 x2 x3

/-- What output window 6 holds after the body. -/
def out0_6 (x0 : Vec F S1024x4096 .i8) (x1 : Vec F S1024x4096 .i8) : Vec F S1024x1024 .i8 :=
  k0_pay5 x0 x1

/-- What output window 7 holds after the body. -/
def out0_7 (x2 : Vec F S1024x4096 .i8) (x3 : Vec F S1024x4096 .i8) : Vec F S1024x1024 .i8 :=
  k0_pay6 x2 x3

set_option maxHeartbeats 1000000 in
/-- The body on whole buffers: it leaves the inputs as they were and each output at the value named above. -/
theorem body0 (c : Dev nD) (E : Set ℕ) (i : grid0.Coords) (arg1 : Memref sig .tc .vmem S1024x4096 .i8) (harg1 : arg1.IsWhole) (arg2 : Memref sig .tc .vmem S1024x4096 .i8) (harg2 : arg2.IsWhole) (arg3 : Memref sig .tc .vmem S1024x4096 .i8) (harg3 : arg3.IsWhole) (arg4 : Memref sig .tc .vmem S1024x4096 .i8) (harg4 : arg4.IsWhole) (arg5 : Memref sig .tc .vmem S1024x1024 .i8) (harg5 : arg5.IsWhole) (arg6 : Memref sig .tc .vmem S1024x1024 .i8) (harg6 : arg6.IsWhole) (arg7 : Memref sig .tc .vmem S1024x1024 .i8) (harg7 : arg7.IsWhole) (arg8 : Memref sig .tc .vmem S1024x1024 .i8) (harg8 : arg8.IsWhole)
    (x0 : Vec F S1024x4096 .i8) (x1 : Vec F S1024x4096 .i8) (x2 : Vec F S1024x4096 .i8) (x3 : Vec F S1024x4096 .i8) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out0_4 x0 x1) ∗ owns (c : Thread nD τ) arg6 fullShare (out0_5 x2 x3) ∗ owns (c : Thread nD τ) arg7 fullShare (out0_6 x0 x1) ∗ owns (c : Thread nD τ) arg8 fullShare (out0_7 x2 x3)) -∗ K ⟨⟩))
      ⊢ wp frame (wpE (defs₀ (F := F)) Variants.none c none) E (cc0__syn_kernel i arg1 harg1 arg2 harg2 arg3 harg3 arg4 harg4 arg5 harg5 arg6 harg6 arg7 harg7 arg8 harg8) K := by
  simp only [cc0__syn_kernel_eq_skeleton]; unfold cc0__syn_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (View.read_writes_eq_canon _ _ _ (fun y => ⟨_, List.mem_cons_self, View.mem_set_unit_zero zz0 inb_S1024x1024_S1024x1024_0_0 y⟩)).trans ?_
    refine (View.canon_cons_unit_zero zz0 _ _ _).trans ?_
    show k0_pay3 (View.ld ((arg1).view.read (Elt F) f0) r0_S1024x4096) (View.ld ((arg2).view.read (Elt F) f1) r0_S1024x4096) = _
    rw [View.ld_unit_zero (S := S1024x4096) zz0 inb_S1024x4096_S1024x4096_0_0 (arg1.view.read (Elt F) f0), View.ld_unit_zero (S := S1024x4096) zz0 inb_S1024x4096_S1024x4096_0_0 (arg2.view.read (Elt F) f1)]; rfl
  isplitl [H5]
  · iexists _; isplitr
    swap; · iexact H5
    ipureintro
    refine (View.read_writes_eq_canon _ _ _ (fun y => ⟨_, List.mem_cons_self, View.mem_set_unit_zero zz0 inb_S1024x1024_S1024x1024_0_0 y⟩)).trans ?_
    refine (View.canon_cons_unit_zero zz0 _ _ _).trans ?_
    show k0_pay4 (View.ld ((arg3).view.read (Elt F) f2) r0_S1024x4096) (View.ld ((arg4).view.read (Elt F) f3) r0_S1024x4096) = _
    rw [View.ld_unit_zero (S := S1024x4096) zz0 inb_S1024x4096_S1024x4096_0_0 (arg3.view.read (Elt F) f2), View.ld_unit_zero (S := S1024x4096) zz0 inb_S1024x4096_S1024x4096_0_0 (arg4.view.read (Elt F) f3)]; rfl
  isplitl [H6]
  · iexists _; isplitr
    swap; · iexact H6
    ipureintro
    refine (View.read_writes_eq_canon _ _ _ (fun y => ⟨_, List.mem_cons_self, View.mem_set_unit_zero zz0 inb_S1024x1024_S1024x1024_0_0 y⟩)).trans ?_
    refine (View.canon_cons_unit_zero zz0 _ _ _).trans ?_
    show k0_pay5 (View.ld ((arg1).view.read (Elt F) f0) r0_S1024x4096) (View.ld ((arg2).view.read (Elt F) f1) r0_S1024x4096) = _
    rw [View.ld_unit_zero (S := S1024x4096) zz0 inb_S1024x4096_S1024x4096_0_0 (arg1.view.read (Elt F) f0), View.ld_unit_zero (S := S1024x4096) zz0 inb_S1024x4096_S1024x4096_0_0 (arg2.view.read (Elt F) f1)]; rfl
  iexists _; isplitr
  swap; · iexact H7
  ipureintro
  refine (View.read_writes_eq_canon _ _ _ (fun y => ⟨_, List.mem_cons_self, View.mem_set_unit_zero zz0 inb_S1024x1024_S1024x1024_0_0 y⟩)).trans ?_
  refine (View.canon_cons_unit_zero zz0 _ _ _).trans ?_
  show k0_pay6 (View.ld ((arg3).view.read (Elt F) f2) r0_S1024x4096) (View.ld ((arg4).view.read (Elt F) f3) r0_S1024x4096) = _
  rw [View.ld_unit_zero (S := S1024x4096) zz0 inb_S1024x4096_S1024x4096_0_0 (arg3.view.read (Elt F) f2), View.ld_unit_zero (S := S1024x4096) zz0 inb_S1024x4096_S1024x4096_0_0 (arg4.view.read (Elt F) f3)]; rfl

/-- The contents the call works with: the arrays as found, each input buffer at its block, each output as computed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 2 t) (iblk0 V c 3 t)
    | ⟨6, _⟩ => out0_6 (iblk0 V c 0 t) (iblk0 V c 1 t)
    | ⟨7, _⟩ => out0_7 (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 2 t) (iblk0 V c 3 t) := by dsimp only [dat0]
theorem after0_6 (c : Dev nD) (t : Fin cfg0.N) : (dat0 V c).after 6 t = out0_6 (iblk0 V c 0 t) (iblk0 V c 1 t) := by dsimp only [dat0]
theorem after0_7 (c : Dev nD) (t : Fin cfg0.N) : (dat0 V c).after 7 t = out0_7 (iblk0 V c 2 t) (iblk0 V c 3 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

theorem sound0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body0 c Set.univ (grid0.coords t) _ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem row0 (t : Fin cfg0.N) :
    defs₀ (F := F) .tc cfg0.body (cfg0.bodyArgs t (cfg0.slots t)) = bodyAt0 t := by
  unfold defs₀; rw [Defs.onTc_tc]

/-- The call's body obligation at every grid point. -/
theorem obligation0 (c : Dev nD) : BodyObligation (dat0 (F := F) V c) (defs₀ (F := F)) Variants.none () Set.univ := fun t => by
  rw [bigSep_W0, bigSep_W0, row0]
  exact triple_restated (sound0 V c t) rfl .rfl fun _ => .rfl

end Cert.KernelIdeal.Run

end
-- ==== Proof.Run.Call1.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.Value
public import Idealize.ShloMosaic.Lib.Pipeline.Covers
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Call 1: one tile of the belief update: the two hard decisions and the two ordered-statistics signs

Stated at arbitrary contents `V` of the buffers as the call finds them. -/

/-- The block of window `w` at grid point `t`, read off its array. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The offsets of every access are zero. -/
theorem zz1 : (![0, 0] : Fin 2 → Nat) = fun _ => 0 := by funext a; fin_cases a <;> rfl

/-- The whole of a `S1024x2048` buffer. -/
abbrev r1_S1024x2048 : Rect S1024x2048 := Rect.unit (s := S1024x2048) ![0, 0] S1024x2048.size inb_S1024x2048_S1024x2048_0_0

/-- The whole of a `S2048x1024` buffer. -/
abbrev r1_S2048x1024 : Rect S2048x1024 := Rect.unit (s := S2048x1024) ![0, 0] S2048x1024.size inb_S2048x1024_S2048x1024_0_0

/-- The whole of a `S1024x1024` buffer. -/
abbrev r1_S1024x1024 : Rect S1024x1024 := Rect.unit (s := S1024x1024) ![0, 0] S1024x1024.size inb_S1024x1024_S1024x1024_0_0

/-- What output window 7 holds after the body. -/
def out1_7 (x2 : Vec F S1024x2048 .i8) (x3 : Vec F S2048x1024 .i8) (x4 : Vec F S1024x1024 .f32) (x5 : Vec F S1024x1024 .i8) : Vec F S1024x1024 .i8 :=
  k1_pay7 x2 x3 x4 x5

/-- What output window 8 holds after the body. -/
def out1_8 (x0 : Vec F S1024x2048 .i8) (x1 : Vec F S2048x1024 .i8) (x4 : Vec F S1024x1024 .f32) (x6 : Vec F S1024x1024 .i8) : Vec F S1024x1024 .i8 :=
  k1_pay8 (k1_pay6 x0 x1 x4) x6

/-- What output window 9 holds after the body. -/
def out1_9 (x0 : Vec F S1024x2048 .i8) (x1 : Vec F S2048x1024 .i8) (x2 : Vec F S1024x2048 .i8) (x3 : Vec F S2048x1024 .i8) (x4 : Vec F S1024x1024 .f32) : Vec F S1024x1024 .i8 :=
  k1_pay2 (k1_pay4 x2 x3 x4) (k1_pay5 x0 x1 x2 x3 x4) (k1_pay12 (k1_pay3 x0 x1 x4)) (k1_pay13 (k1_pay3 x0 x1 x4)) (k1_pay14 (k1_pay3 x0 x1 x4))

/-- What output window 10 holds after the body. -/
def out1_10 (x0 : Vec F S1024x2048 .i8) (x1 : Vec F S2048x1024 .i8) (x2 : Vec F S1024x2048 .i8) (x3 : Vec F S2048x1024 .i8) (x4 : Vec F S1024x1024 .f32) : Vec F S1024x1024 .i8 :=
  k1_pay1 (k1_pay9 (k1_pay3 x0 x1 x4) (k1_pay4 x2 x3 x4) (k1_pay5 x0 x1 x2 x3 x4))

set_option maxHeartbeats 1000000 in
/-- The body on whole buffers: it leaves the inputs as they were and each output at the value named above. -/
theorem body1 (c : Dev nD) (E : Set ℕ) (i : grid1.Coords) (arg1 : Memref sig .tc .vmem S1024x2048 .i8) (harg1 : arg1.IsWhole) (arg2 : Memref sig .tc .vmem S2048x1024 .i8) (harg2 : arg2.IsWhole) (arg3 : Memref sig .tc .vmem S1024x2048 .i8) (harg3 : arg3.IsWhole) (arg4 : Memref sig .tc .vmem S2048x1024 .i8) (harg4 : arg4.IsWhole) (arg5 : Memref sig .tc .vmem S1024x1024 .f32) (harg5 : arg5.IsWhole) (arg6 : Memref sig .tc .vmem S1024x1024 .i8) (harg6 : arg6.IsWhole) (arg7 : Memref sig .tc .vmem S1024x1024 .i8) (harg7 : arg7.IsWhole) (arg8 : Memref sig .tc .vmem S1024x1024 .i8) (harg8 : arg8.IsWhole) (arg9 : Memref sig .tc .vmem S1024x1024 .i8) (harg9 : arg9.IsWhole) (arg10 : Memref sig .tc .vmem S1024x1024 .i8) (harg10 : arg10.IsWhole) (arg11 : Memref sig .tc .vmem S1024x1024 .i8) (harg11 : arg11.IsWhole)
    (x0 : Vec F S1024x2048 .i8) (x1 : Vec F S2048x1024 .i8) (x2 : Vec F S1024x2048 .i8) (x3 : Vec F S2048x1024 .i8) (x4 : Vec F S1024x1024 .f32) (x5 : Vec F S1024x1024 .i8) (x6 : Vec F S1024x1024 .i8) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out1_7 x2 x3 x4 x5) ∗ owns (c : Thread nD τ) arg9 fullShare (out1_8 x0 x1 x4 x6) ∗ owns (c : Thread nD τ) arg10 fullShare (out1_9 x0 x1 x2 x3 x4) ∗ owns (c : Thread nD τ) arg11 fullShare (out1_10 x0 x1 x2 x3 x4)) -∗ K ⟨⟩))
      ⊢ wp frame (wpE (defs₀ (F := F)) Variants.none c none) E (cc1__bp_kernel i arg1 harg1 arg2 harg2 arg3 harg3 arg4 harg4 arg5 harg5 arg6 harg6 arg7 harg7 arg8 harg8 arg9 harg9 arg10 harg10 arg11 harg11) K := by
  simp only [cc1__bp_kernel_eq_skeleton]; unfold cc1__bp_kernel_skel
  simp only [k1_part1_eq_skeleton, k1_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    refine (View.read_writes_eq_canon _ _ _ (fun y => ⟨_, List.mem_cons_self, View.mem_set_unit_zero zz1 inb_S1024x1024_S1024x1024_0_0 y⟩)).trans ?_
    refine (View.canon_cons_unit_zero zz1 _ _ _).trans ?_
    show k1_pay7 (View.ld ((arg3).view.read (Elt F) f2) r1_S1024x2048) (View.ld ((arg4).view.read (Elt F) f3) r1_S2048x1024) (View.ld ((arg5).view.read (Elt F) f4) r1_S1024x1024) (View.ld ((arg6).view.read (Elt F) f5) r1_S1024x1024) = _
    rw [View.ld_unit_zero (S := S1024x2048) zz1 inb_S1024x2048_S1024x2048_0_0 (arg3.view.read (Elt F) f2), View.ld_unit_zero (S := S2048x1024) zz1 inb_S2048x1024_S2048x1024_0_0 (arg4.view.read (Elt F) f3), View.ld_unit_zero (S := S1024x1024) zz1 inb_S1024x1024_S1024x1024_0_0 (arg5.view.read (Elt F) f4), View.ld_unit_zero (S := S1024x1024) zz1 inb_S1024x1024_S1024x1024_0_0 (arg6.view.read (Elt F) f5)]; rfl
  isplitl [H8]
  · iexists _; isplitr
    swap; · iexact H8
    ipureintro
    refine (View.read_writes_eq_canon _ _ _ (fun y => ⟨_, List.mem_cons_self, View.mem_set_unit_zero zz1 inb_S1024x1024_S1024x1024_0_0 y⟩)).trans ?_
    refine (View.canon_cons_unit_zero zz1 _ _ _).trans ?_
    show k1_pay8 (k1_pay6 (View.ld ((arg1).view.read (Elt F) f0) r1_S1024x2048) (View.ld ((arg2).view.read (Elt F) f1) r1_S2048x1024) (View.ld ((arg5).view.read (Elt F) f4) r1_S1024x1024)) (View.ld ((arg7).view.read (Elt F) f6) r1_S1024x1024) = _
    rw [View.ld_unit_zero (S := S1024x2048) zz1 inb_S1024x2048_S1024x2048_0_0 (arg1.view.read (Elt F) f0), View.ld_unit_zero (S := S2048x1024) zz1 inb_S2048x1024_S2048x1024_0_0 (arg2.view.read (Elt F) f1), View.ld_unit_zero (S := S1024x1024) zz1 inb_S1024x1024_S1024x1024_0_0 (arg5.view.read (Elt F) f4), View.ld_unit_zero (S := S1024x1024) zz1 inb_S1024x1024_S1024x1024_0_0 (arg7.view.read (Elt F) f6)]; rfl
  isplitl [H9]
  · iexists _; isplitr
    swap; · iexact H9
    ipureintro
    refine (View.read_writes_eq_canon _ _ _ (fun y => ⟨_, List.mem_cons_self, View.mem_set_unit_zero zz1 inb_S1024x1024_S1024x1024_0_0 y⟩)).trans ?_
    refine (View.canon_cons_unit_zero zz1 _ _ _).trans ?_
    show k1_pay2 (k1_pay4 (View.ld ((arg3).view.read (Elt F) f2) r1_S1024x2048) (View.ld ((arg4).view.read (Elt F) f3) r1_S2048x1024) (View.ld ((arg5).view.read (Elt F) f4) r1_S1024x1024)) (k1_pay5 (View.ld ((arg1).view.read (Elt F) f0) r1_S1024x2048) (View.ld ((arg2).view.read (Elt F) f1) r1_S2048x1024) (View.ld ((arg3).view.read (Elt F) f2) r1_S1024x2048) (View.ld ((arg4).view.read (Elt F) f3) r1_S2048x1024) (View.ld ((arg5).view.read (Elt F) f4) r1_S1024x1024)) (k1_pay12 (k1_pay3 (View.ld ((arg1).view.read (Elt F) f0) r1_S1024x2048) (View.ld ((arg2).view.read (Elt F) f1) r1_S2048x1024) (View.ld ((arg5).view.read (Elt F) f4) r1_S1024x1024))) (k1_pay13 (k1_pay3 (View.ld ((arg1).view.read (Elt F) f0) r1_S1024x2048) (View.ld ((arg2).view.read (Elt F) f1) r1_S2048x1024) (View.ld ((arg5).view.read (Elt F) f4) r1_S1024x1024))) (k1_pay14 (k1_pay3 (View.ld ((arg1).view.read (Elt F) f0) r1_S1024x2048) (View.ld ((arg2).view.read (Elt F) f1) r1_S2048x1024) (View.ld ((arg5).view.read (Elt F) f4) r1_S1024x1024))) = _
    rw [View.ld_unit_zero (S := S1024x2048) zz1 inb_S1024x2048_S1024x2048_0_0 (arg1.view.read (Elt F) f0), View.ld_unit_zero (S := S2048x1024) zz1 inb_S2048x1024_S2048x1024_0_0 (arg2.view.read (Elt F) f1), View.ld_unit_zero (S := S1024x2048) zz1 inb_S1024x2048_S1024x2048_0_0 (arg3.view.read (Elt F) f2), View.ld_unit_zero (S := S2048x1024) zz1 inb_S2048x1024_S2048x1024_0_0 (arg4.view.read (Elt F) f3), View.ld_unit_zero (S := S1024x1024) zz1 inb_S1024x1024_S1024x1024_0_0 (arg5.view.read (Elt F) f4)]; rfl
  iexists _; isplitr
  swap; · iexact H10
  ipureintro
  refine (View.read_writes_eq_canon _ _ _ (fun y => ⟨_, List.mem_cons_self, View.mem_set_unit_zero zz1 inb_S1024x1024_S1024x1024_0_0 y⟩)).trans ?_
  refine (View.canon_cons_unit_zero zz1 _ _ _).trans ?_
  show k1_pay1 (k1_pay9 (k1_pay3 (View.ld ((arg1).view.read (Elt F) f0) r1_S1024x2048) (View.ld ((arg2).view.read (Elt F) f1) r1_S2048x1024) (View.ld ((arg5).view.read (Elt F) f4) r1_S1024x1024)) (k1_pay4 (View.ld ((arg3).view.read (Elt F) f2) r1_S1024x2048) (View.ld ((arg4).view.read (Elt F) f3) r1_S2048x1024) (View.ld ((arg5).view.read (Elt F) f4) r1_S1024x1024)) (k1_pay5 (View.ld ((arg1).view.read (Elt F) f0) r1_S1024x2048) (View.ld ((arg2).view.read (Elt F) f1) r1_S2048x1024) (View.ld ((arg3).view.read (Elt F) f2) r1_S1024x2048) (View.ld ((arg4).view.read (Elt F) f3) r1_S2048x1024) (View.ld ((arg5).view.read (Elt F) f4) r1_S1024x1024))) = _
  rw [View.ld_unit_zero (S := S1024x2048) zz1 inb_S1024x2048_S1024x2048_0_0 (arg1.view.read (Elt F) f0), View.ld_unit_zero (S := S2048x1024) zz1 inb_S2048x1024_S2048x1024_0_0 (arg2.view.read (Elt F) f1), View.ld_unit_zero (S := S1024x2048) zz1 inb_S1024x2048_S1024x2048_0_0 (arg3.view.read (Elt F) f2), View.ld_unit_zero (S := S2048x1024) zz1 inb_S2048x1024_S2048x1024_0_0 (arg4.view.read (Elt F) f3), View.ld_unit_zero (S := S1024x1024) zz1 inb_S1024x1024_S1024x1024_0_0 (arg5.view.read (Elt F) f4)]; rfl

/-- The contents the call works with: the arrays as found, each input buffer at its block, each output as computed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 2 t) (iblk1 V c 3 t) (iblk1 V c 4 t) (iblk1 V c 5 t)
    | ⟨8, _⟩ => out1_8 (iblk1 V c 0 t) (iblk1 V c 1 t) (iblk1 V c 4 t) (iblk1 V c 6 t)
    | ⟨9, _⟩ => out1_9 (iblk1 V c 0 t) (iblk1 V c 1 t) (iblk1 V c 2 t) (iblk1 V c 3 t) (iblk1 V c 4 t)
    | ⟨10, _⟩ => out1_10 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 2 t) (iblk1 V c 3 t) (iblk1 V c 4 t) (iblk1 V c 5 t) := by dsimp only [dat1]
theorem after1_8 (c : Dev nD) (t : Fin cfg1.N) : (dat1 V c).after 8 t = out1_8 (iblk1 V c 0 t) (iblk1 V c 1 t) (iblk1 V c 4 t) (iblk1 V c 6 t) := by dsimp only [dat1]
theorem after1_9 (c : Dev nD) (t : Fin cfg1.N) : (dat1 V c).after 9 t = out1_9 (iblk1 V c 0 t) (iblk1 V c 1 t) (iblk1 V c 2 t) (iblk1 V c 3 t) (iblk1 V c 4 t) := by dsimp only [dat1]
theorem after1_10 (c : Dev nD) (t : Fin cfg1.N) : (dat1 V c).after 10 t = out1_10 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl) (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (fun _ => rfl) (fun _ _ _ => rfl) (fun t => by rw [after1_6]; unfold Dat.blockOf iblk1; rw [A_eq1]; try rfl) t d).trans
    (by unfold Dat.fetched Dat.blockOf iblk1; rw [A_eq1]; try rfl)

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t))

theorem sound1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (body1 c Set.univ (grid1.coords t) _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem row1 (t : Fin cfg1.N) :
    defs₀ (F := F) .tc cfg1.body (cfg1.bodyArgs t (cfg1.slots t)) = bodyAt1 t := by
  unfold defs₀; rw [Defs.onTc_tc]

/-- The call's body obligation at every grid point. -/
theorem obligation1 (c : Dev nD) : BodyObligation (dat1 (F := F) V c) (defs₀ (F := F)) Variants.none () Set.univ := fun t => by
  rw [bigSep_W1, bigSep_W1, row1]
  exact triple_restated (sound1 V c t) rfl .rfl fun _ => .rfl

end Cert.KernelIdeal.Run

end
-- ==== Proof.Run.Call2.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.Value
public import Idealize.ShloMosaic.Lib.Pipeline.Covers
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Call 2: one column tile of the residual count, added to what the tiles before it left

Stated at arbitrary contents `V` of the buffers as the call finds them. -/

/-- The block of window `w` at grid point `t`, read off its array. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The offsets of every access are zero. -/
theorem zz2 : (![0, 0] : Fin 2 → Nat) = fun _ => 0 := by funext a; fin_cases a <;> rfl

/-- The whole of a `S1024x4096` buffer. -/
abbrev r2_S1024x4096 : Rect S1024x4096 := Rect.unit (s := S1024x4096) ![0, 0] S1024x4096.size inb_S1024x4096_S1024x4096_0_0

/-- The whole of a `S1024x128` buffer. -/
abbrev r2_S1024x128 : Rect S1024x128 := Rect.unit (s := S1024x128) ![0, 0] S1024x128.size inb_S1024x128_S1024x128_0_0

/-- What output window 4 holds after the body at the first point. -/
def out2_4_first (x0 : Vec F S1024x4096 .i8) (x1 : Vec F S1024x4096 .i8) (x2 : Vec F S1024x4096 .i8) (x3 : Vec F S1024x4096 .i8) : Vec F S1024x128 .i32 :=
  k2_pay1 x0 x1 x2 x3

/-- What output window 4 holds after the body at a later point. -/
def out2_4_next (x0 : Vec F S1024x4096 .i8) (x1 : Vec F S1024x4096 .i8) (x2 : Vec F S1024x4096 .i8) (x3 : Vec F S1024x4096 .i8) (y4 : Vec F S1024x128 .i32) : Vec F S1024x128 .i32 :=
  k2_pay2 x0 x1 x2 x3 y4

set_option maxHeartbeats 1000000 in
/-- The body on whole buffers: it leaves the inputs as they were and each output at the value named above. -/
theorem body2_first (c : Dev nD) (E : Set ℕ) (i : grid2.Coords) (arg1 : Memref sig .tc .vmem S1024x4096 .i8) (harg1 : arg1.IsWhole) (arg2 : Memref sig .tc .vmem S1024x4096 .i8) (harg2 : arg2.IsWhole) (arg3 : Memref sig .tc .vmem S1024x4096 .i8) (harg3 : arg3.IsWhole) (arg4 : Memref sig .tc .vmem S1024x4096 .i8) (harg4 : arg4.IsWhole) (arg5 : Memref sig .tc .vmem S1024x128 .i32) (harg5 : arg5.IsWhole) (h1 : k2_cond1 i = 1#1) (h2 : ¬ k2_cond2 i = 1#1)
    (x0 : Vec F S1024x4096 .i8) (x1 : Vec F S1024x4096 .i8) (x2 : Vec F S1024x4096 .i8) (x3 : Vec F S1024x4096 .i8) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out2_4_first x0 x1 x2 x3)) -∗ K ⟨⟩))
      ⊢ wp frame (wpE (defs₀ (F := F)) Variants.none c none) E (cc2__res_kernel i arg1 harg1 arg2 harg2 arg3 harg3 arg4 harg4 arg5 harg5) K := by
  simp only [cc2__res_kernel_eq_skeleton]; unfold cc2__res_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec (disch := first | sl_exact h1 | sl_exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  refine (View.read_writes_eq_canon _ _ _ (fun y => ⟨_, List.mem_cons_self, View.mem_set_unit_zero zz2 inb_S1024x128_S1024x128_0_0 y⟩)).trans ?_
  refine (View.canon_cons_unit_zero zz2 _ _ _).trans ?_
  show k2_pay1 (View.ld ((arg1).view.read (Elt F) f0) r2_S1024x4096) (View.ld ((arg2).view.read (Elt F) f1) r2_S1024x4096) (View.ld ((arg3).view.read (Elt F) f2) r2_S1024x4096) (View.ld ((arg4).view.read (Elt F) f3) r2_S1024x4096) = _
  rw [View.ld_unit_zero (S := S1024x4096) zz2 inb_S1024x4096_S1024x4096_0_0 (arg1.view.read (Elt F) f0), View.ld_unit_zero (S := S1024x4096) zz2 inb_S1024x4096_S1024x4096_0_0 (arg2.view.read (Elt F) f1), View.ld_unit_zero (S := S1024x4096) zz2 inb_S1024x4096_S1024x4096_0_0 (arg3.view.read (Elt F) f2), View.ld_unit_zero (S := S1024x4096) zz2 inb_S1024x4096_S1024x4096_0_0 (arg4.view.read (Elt F) f3)]; rfl

set_option maxHeartbeats 1000000 in
/-- The body on whole buffers: it leaves the inputs as they were and each output at the value named above. -/
theorem body2_next (c : Dev nD) (E : Set ℕ) (i : grid2.Coords) (arg1 : Memref sig .tc .vmem S1024x4096 .i8) (harg1 : arg1.IsWhole) (arg2 : Memref sig .tc .vmem S1024x4096 .i8) (harg2 : arg2.IsWhole) (arg3 : Memref sig .tc .vmem S1024x4096 .i8) (harg3 : arg3.IsWhole) (arg4 : Memref sig .tc .vmem S1024x4096 .i8) (harg4 : arg4.IsWhole) (arg5 : Memref sig .tc .vmem S1024x128 .i32) (harg5 : arg5.IsWhole) (h1 : ¬ k2_cond1 i = 1#1) (h2 : k2_cond2 i = 1#1)
    (x0 : Vec F S1024x4096 .i8) (x1 : Vec F S1024x4096 .i8) (x2 : Vec F S1024x4096 .i8) (x3 : Vec F S1024x4096 .i8) (y4 : Vec F S1024x128 .i32)(K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare y4
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out2_4_next x0 x1 x2 x3 y4)) -∗ K ⟨⟩))
      ⊢ wp frame (wpE (defs₀ (F := F)) Variants.none c none) E (cc2__res_kernel i arg1 harg1 arg2 harg2 arg3 harg3 arg4 harg4 arg5 harg5) K := by
  simp only [cc2__res_kernel_eq_skeleton]; unfold cc2__res_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  subst hf0 hf1 hf2 hf3 hf4
  sl_exec (disch := first | sl_exact h1 | sl_exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  refine (View.read_writes_eq_canon _ _ _ (fun y => ⟨_, List.mem_cons_self, View.mem_set_unit_zero zz2 inb_S1024x128_S1024x128_0_0 y⟩)).trans ?_
  refine (View.canon_cons_unit_zero zz2 _ _ _).trans ?_
  show k2_pay2 (View.ld ((arg1).view.read (Elt F) f0) r2_S1024x4096) (View.ld ((arg2).view.read (Elt F) f1) r2_S1024x4096) (View.ld ((arg3).view.read (Elt F) f2) r2_S1024x4096) (View.ld ((arg4).view.read (Elt F) f3) r2_S1024x4096) (View.ld ((arg5).view.read (Elt F) f4) r2_S1024x128) = _
  rw [View.ld_unit_zero (S := S1024x4096) zz2 inb_S1024x4096_S1024x4096_0_0 (arg1.view.read (Elt F) f0), View.ld_unit_zero (S := S1024x4096) zz2 inb_S1024x4096_S1024x4096_0_0 (arg2.view.read (Elt F) f1), View.ld_unit_zero (S := S1024x4096) zz2 inb_S1024x4096_S1024x4096_0_0 (arg3.view.read (Elt F) f2), View.ld_unit_zero (S := S1024x4096) zz2 inb_S1024x4096_S1024x4096_0_0 (arg4.view.read (Elt F) f3), View.ld_unit_zero (S := S1024x128) zz2 inb_S1024x128_S1024x128_0_0 (arg5.view.read (Elt F) f4)]; rfl

/-- The running contents of output window 4 after grid point `n`. -/
def acc2_4 (c : Dev nD) : (n : ℕ) → n < cfg2.N → Vec F S1024x128 .i32
  | 0, hn => out2_4_first (iblk2 V c 0 ⟨0, hn⟩) (iblk2 V c 1 ⟨0, hn⟩) (iblk2 V c 2 ⟨0, hn⟩) (iblk2 V c 3 ⟨0, hn⟩)
  | n + 1, hn => out2_4_next (iblk2 V c 0 ⟨n + 1, hn⟩) (iblk2 V c 1 ⟨n + 1, hn⟩) (iblk2 V c 2 ⟨n + 1, hn⟩) (iblk2 V c 3 ⟨n + 1, hn⟩) (acc2_4 c n (Nat.lt_of_succ_lt hn))

/-- The contents the call works with: the arrays as found, each input buffer at its block, each output as computed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => acc2_4 V c t.val t.isLt
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = acc2_4 V c t.val t.isLt := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl) (fun t => by rw [after2_3]; unfold Dat.blockOf iblk2; rw [A_eq2]; try rfl) t d).trans
    (by unfold Dat.fetched Dat.blockOf iblk2; rw [A_eq2]; try rfl)

theorem cond2_1 : ∀ t : Fin grid2.N, k2_cond1 (grid2.coords t) = 1#1 ↔ t.val = 0 := by decide +kernel
theorem cond2_2 : ∀ t : Fin grid2.N, k2_cond2 (grid2.coords t) = 1#1 ↔ t.val ≠ 0 := by decide +kernel
theorem live2_4 : ∀ i : grid2.Coords, cfg2.idle 4 i = false := by
  intro i
  obtain ⟨t, rfl⟩ := grid2.coords_surjective i
  exact (by decide +kernel : ∀ t : Fin grid2.N, cfg2.idle 4 (grid2.coords t) = false) t
/-- At a later point output window 4 still holds what the point before left. -/
theorem before2_4 (c : Dev nD) (t : Fin cfg2.N) (h0 : t.val ≠ 0) (d) :
    (dat2 V c).before 4 t d = acc2_4 V c (t.val - 1) (Nat.lt_of_le_of_lt (Nat.sub_le _ _) t.isLt) := by
  have hN : t.val < 2 := lt_of_lt_of_eq t.isLt (show cfg2.N = 2 from N_2)
  rw [Dat.before_out_kept _ 4 rfl t (by omega) (Bool.eq_false_iff.mpr fun h => by have := (flush2_4 _).mp h; dsimp only at this; omega)
    live2_4 (fun _ _ => rfl)]
  dsimp only [dat2]

theorem acc2_4_first (c : Dev nD) (t : Fin cfg2.N) (h0 : t.val = 0) :
    acc2_4 V c t.val t.isLt = out2_4_first (iblk2 V c 0 t) (iblk2 V c 1 t) (iblk2 V c 2 t) (iblk2 V c 3 t) := by
  obtain ⟨n, hn⟩ := t; obtain rfl : n = 0 := h0; rfl
theorem acc2_4_next (c : Dev nD) (t : Fin cfg2.N) (h0 : t.val ≠ 0) :
    acc2_4 V c t.val t.isLt = out2_4_next (iblk2 V c 0 t) (iblk2 V c 1 t) (iblk2 V c 2 t) (iblk2 V c 3 t) (acc2_4 V c (t.val - 1) (Nat.lt_of_le_of_lt (Nat.sub_le _ _) t.isLt)) := by
  obtain ⟨n, hn⟩ := t
  cases n with
  | zero => exact absurd rfl h0
  | succ n => rfl

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

set_option maxHeartbeats 1000000 in
theorem sound2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  by_cases h0 : t.val = 0
  · rw [acc2_4_first V c t h0]
    iintro ⟨HΦ, Ho, ⟨%d0, H0⟩, ⟨%d1, H1⟩, ⟨%d2, H2⟩, ⟨%d3, H3⟩, ⟨%d4, H4⟩⟩
    iapply (body2_first c Set.univ (grid2.coords t) _ _ _ _ _ _ _ _ _ _ ((cond2_1 t).mpr h0) (fun h => (cond2_2 t).mp h h0) (iblk2 V c 0 t) (iblk2 V c 1 t) (iblk2 V c 2 t) (iblk2 V c 3 t) _)
    isplitl [H0]; · iexact H0
    isplitl [H1]; · iexact H1
    isplitl [H2]; · iexact H2
    isplitl [H3]; · iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [acc2_4_next V c t h0]
    simp only [before2_4 V c t h0]
    iintro ⟨HΦ, Ho, ⟨%d0, H0⟩, ⟨%d1, H1⟩, ⟨%d2, H2⟩, ⟨%d3, H3⟩, ⟨%d4, H4⟩⟩
    iapply (body2_next c Set.univ (grid2.coords t) _ _ _ _ _ _ _ _ _ _ (fun h => h0 ((cond2_1 t).mp h)) ((cond2_2 t).mpr h0) (iblk2 V c 0 t) (iblk2 V c 1 t) (iblk2 V c 2 t) (iblk2 V c 3 t) _ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

theorem row2 (t : Fin cfg2.N) :
    defs₀ (F := F) .tc cfg2.body (cfg2.bodyArgs t (cfg2.slots t)) = bodyAt2 t := by
  unfold defs₀; rw [Defs.onTc_tc]

set_option maxHeartbeats 2000000 in
/-- The call's body obligation at every grid point. -/
theorem obligation2 (c : Dev nD) : BodyObligation (dat2 (F := F) V c) (defs₀ (F := F)) Variants.none () Set.univ := fun t => by
  rw [bigSep_W2, bigSep_W2, row2]
  refine triple_restated (sound2 V c t) rfl .rfl fun _ => ?_
  unfold bodyPost2
  iintro ⟨HΦ, Ho, H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  · rw [live2_4]; iexact H4

end Cert.KernelIdeal.Run

end
-- ==== Proof.Run.Call3.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.Value
public import Idealize.ShloMosaic.Lib.Pipeline.Covers
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Call 3: one tile of the two reduced syndromes

Stated at arbitrary contents `V` of the buffers as the call finds them. -/

/-- The block of window `w` at grid point `t`, read off its array. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The offsets of every access are zero. -/
theorem zz3 : (![0, 0] : Fin 2 → Nat) = fun _ => 0 := by funext a; fin_cases a <;> rfl

/-- The whole of a `S1024x6144` buffer. -/
abbrev r3_S1024x6144 : Rect S1024x6144 := Rect.unit (s := S1024x6144) ![0, 0] S1024x6144.size inb_S1024x6144_S1024x6144_0_0

/-- The whole of a `S1024x1024` buffer. -/
abbrev r3_S1024x1024 : Rect S1024x1024 := Rect.unit (s := S1024x1024) ![0, 0] S1024x1024.size inb_S1024x1024_S1024x1024_0_0

/-- What output window 4 holds after the body. -/
def out3_4 (x0 : Vec F S1024x6144 .i8) (x1 : Vec F S1024x6144 .i8) : Vec F S1024x1024 .i8 :=
  k3_pay1 x0 x1

/-- What output window 5 holds after the body. -/
def out3_5 (x2 : Vec F S1024x6144 .i8) (x3 : Vec F S1024x6144 .i8) : Vec F S1024x1024 .i8 :=
  k3_pay2 x2 x3

set_option maxHeartbeats 1000000 in
/-- The body on whole buffers: it leaves the inputs as they were and each output at the value named above. -/
theorem body3 (c : Dev nD) (E : Set ℕ) (i : grid3.Coords) (arg1 : Memref sig .tc .vmem S1024x6144 .i8) (harg1 : arg1.IsWhole) (arg2 : Memref sig .tc .vmem S1024x6144 .i8) (harg2 : arg2.IsWhole) (arg3 : Memref sig .tc .vmem S1024x6144 .i8) (harg3 : arg3.IsWhole) (arg4 : Memref sig .tc .vmem S1024x6144 .i8) (harg4 : arg4.IsWhole) (arg5 : Memref sig .tc .vmem S1024x1024 .i8) (harg5 : arg5.IsWhole) (arg6 : Memref sig .tc .vmem S1024x1024 .i8) (harg6 : arg6.IsWhole)
    (x0 : Vec F S1024x6144 .i8) (x1 : Vec F S1024x6144 .i8) (x2 : Vec F S1024x6144 .i8) (x3 : Vec F S1024x6144 .i8) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out3_4 x0 x1) ∗ owns (c : Thread nD τ) arg6 fullShare (out3_5 x2 x3)) -∗ K ⟨⟩))
      ⊢ wp frame (wpE (defs₀ (F := F)) Variants.none c none) E (cc3__r_kernel i arg1 harg1 arg2 harg2 arg3 harg3 arg4 harg4 arg5 harg5 arg6 harg6) K := by
  simp only [cc3__r_kernel_eq_skeleton]; unfold cc3__r_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (View.read_writes_eq_canon _ _ _ (fun y => ⟨_, List.mem_cons_self, View.mem_set_unit_zero zz3 inb_S1024x1024_S1024x1024_0_0 y⟩)).trans ?_
    refine (View.canon_cons_unit_zero zz3 _ _ _).trans ?_
    show k3_pay1 (View.ld ((arg1).view.read (Elt F) f0) r3_S1024x6144) (View.ld ((arg2).view.read (Elt F) f1) r3_S1024x6144) = _
    rw [View.ld_unit_zero (S := S1024x6144) zz3 inb_S1024x6144_S1024x6144_0_0 (arg1.view.read (Elt F) f0), View.ld_unit_zero (S := S1024x6144) zz3 inb_S1024x6144_S1024x6144_0_0 (arg2.view.read (Elt F) f1)]; rfl
  iexists _; isplitr
  swap; · iexact H5
  ipureintro
  refine (View.read_writes_eq_canon _ _ _ (fun y => ⟨_, List.mem_cons_self, View.mem_set_unit_zero zz3 inb_S1024x1024_S1024x1024_0_0 y⟩)).trans ?_
  refine (View.canon_cons_unit_zero zz3 _ _ _).trans ?_
  show k3_pay2 (View.ld ((arg3).view.read (Elt F) f2) r3_S1024x6144) (View.ld ((arg4).view.read (Elt F) f3) r3_S1024x6144) = _
  rw [View.ld_unit_zero (S := S1024x6144) zz3 inb_S1024x6144_S1024x6144_0_0 (arg3.view.read (Elt F) f2), View.ld_unit_zero (S := S1024x6144) zz3 inb_S1024x6144_S1024x6144_0_0 (arg4.view.read (Elt F) f3)]; rfl

/-- The contents the call works with: the arrays as found, each input buffer at its block, each output as computed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t)
    | ⟨5, _⟩ => out3_5 (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3_4 (iblk3 V c 0 t) (iblk3 V c 1 t) := by dsimp only [dat3]
theorem after3_5 (c : Dev nD) (t : Fin cfg3.N) : (dat3 V c).after 5 t = out3_5 (iblk3 V c 2 t) (iblk3 V c 3 t) := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl) (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl) (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl) (fun t => by rw [after3_2]; unfold Dat.blockOf iblk3; rw [A_eq3]; try rfl) t d).trans
    (by unfold Dat.fetched Dat.blockOf iblk3; rw [A_eq3]; try rfl)
theorem before3_3 (c : Dev nD) (t : Fin cfg3.N) (d) : (dat3 V c).before 3 t d = iblk3 V c 3 t :=
  ((dat3 V c).before_in_eq_fetched 3 rfl (fun _ => rfl) (fun _ _ _ => rfl) (fun t => by rw [after3_3]; unfold Dat.blockOf iblk3; rw [A_eq3]; try rfl) t d).trans
    (by unfold Dat.fetched Dat.blockOf iblk3; rw [A_eq3]; try rfl)

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

theorem sound3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (body3 c Set.univ (grid3.coords t) _ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem row3 (t : Fin cfg3.N) :
    defs₀ (F := F) .tc cfg3.body (cfg3.bodyArgs t (cfg3.slots t)) = bodyAt3 t := by
  unfold defs₀; rw [Defs.onTc_tc]

/-- The call's body obligation at every grid point. -/
theorem obligation3 (c : Dev nD) : BodyObligation (dat3 (F := F) V c) (defs₀ (F := F)) Variants.none () Set.univ := fun t => by
  rw [bigSep_W3, bigSep_W3, row3]
  exact triple_restated (sound3 V c t) rfl .rfl fun _ => .rfl

end Cert.KernelIdeal.Run

end
-- ==== Proof.Run.Call4.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.Value
public import Idealize.ShloMosaic.Lib.Pipeline.Covers
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Call 4: one column tile of the two logical-flip counts, added to what the tiles before it left

Stated at arbitrary contents `V` of the buffers as the call finds them. -/

/-- The block of window `w` at grid point `t`, read off its array. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The offsets of every access are zero. -/
theorem zz4 : (![0, 0] : Fin 2 → Nat) = fun _ => 0 := by funext a; fin_cases a <;> rfl

/-- The whole of a `S1024x2048` buffer. -/
abbrev r4_S1024x2048 : Rect S1024x2048 := Rect.unit (s := S1024x2048) ![0, 0] S1024x2048.size inb_S1024x2048_S1024x2048_0_0

/-- The whole of a `S2048x1024` buffer. -/
abbrev r4_S2048x1024 : Rect S2048x1024 := Rect.unit (s := S2048x1024) ![0, 0] S2048x1024.size inb_S2048x1024_S2048x1024_0_0

/-- The whole of a `S1024x1024` buffer. -/
abbrev r4_S1024x1024 : Rect S1024x1024 := Rect.unit (s := S1024x1024) ![0, 0] S1024x1024.size inb_S1024x1024_S1024x1024_0_0

/-- The whole of a `S1024x128` buffer. -/
abbrev r4_S1024x128 : Rect S1024x128 := Rect.unit (s := S1024x128) ![0, 0] S1024x128.size inb_S1024x128_S1024x128_0_0

/-- The whole of a `S128x1024` buffer. -/
abbrev r4_S128x1024 : Rect S128x1024 := Rect.unit (s := S128x1024) ![0, 0] S128x1024.size inb_S128x1024_S128x1024_0_0

/-- What output window 13 holds after the body at the first point. -/
def out4_13_first (x2 : Vec F S1024x2048 .i8) (x3 : Vec F S2048x1024 .i8) (x5 : Vec F S1024x1024 .i8) (x6 : Vec F S1024x1024 .i8) (x8 : Vec F S1024x1024 .i8) (x10 : Vec F S1024x128 .i32) (x12 : Vec F S128x1024 .i8) : Vec F S1024x128 .i32 :=
  k4_pay2 (k4_pay7 x10) (k4_pay8 x2 x3 x5) x6 x8 x12

/-- What output window 14 holds after the body at the first point. -/
def out4_14_first (x0 : Vec F S1024x2048 .i8) (x1 : Vec F S2048x1024 .i8) (x4 : Vec F S1024x1024 .i8) (x7 : Vec F S1024x1024 .i8) (x9 : Vec F S1024x1024 .i8) (x10 : Vec F S1024x128 .i32) (x11 : Vec F S128x1024 .i8) : Vec F S1024x128 .i32 :=
  k4_pay1 (k4_pay9 x0 x1 x4 x7) (k4_pay10 x9) (k4_pay11 x10) x11

/-- What output window 13 holds after the body at a later point. -/
def out4_13_next (x2 : Vec F S1024x2048 .i8) (x3 : Vec F S2048x1024 .i8) (x5 : Vec F S1024x1024 .i8) (x6 : Vec F S1024x1024 .i8) (x8 : Vec F S1024x1024 .i8) (x10 : Vec F S1024x128 .i32) (x12 : Vec F S128x1024 .i8) (y13 : Vec F S1024x128 .i32) : Vec F S1024x128 .i32 :=
  k4_pay4 (k4_pay7 x10) (k4_pay8 x2 x3 x5) x6 x8 x12 y13

/-- What output window 14 holds after the body at a later point. -/
def out4_14_next (x0 : Vec F S1024x2048 .i8) (x1 : Vec F S2048x1024 .i8) (x4 : Vec F S1024x1024 .i8) (x7 : Vec F S1024x1024 .i8) (x9 : Vec F S1024x1024 .i8) (x10 : Vec F S1024x128 .i32) (x11 : Vec F S128x1024 .i8) (y14 : Vec F S1024x128 .i32) : Vec F S1024x128 .i32 :=
  k4_pay3 (k4_pay9 x0 x1 x4 x7) (k4_pay10 x9) (k4_pay11 x10) x11 y14

/-- What output window 13 holds after the body at the last point. -/
def out4_13_last (x2 : Vec F S1024x2048 .i8) (x3 : Vec F S2048x1024 .i8) (x5 : Vec F S1024x1024 .i8) (x6 : Vec F S1024x1024 .i8) (x8 : Vec F S1024x1024 .i8) (x10 : Vec F S1024x128 .i32) (x12 : Vec F S128x1024 .i8) (y13 : Vec F S1024x128 .i32) : Vec F S1024x128 .i32 :=
  k4_pay6 (F := F) (k4_pay4 (k4_pay7 x10) (k4_pay8 x2 x3 x5) x6 x8 x12 y13)

/-- What output window 14 holds after the body at the last point. -/
def out4_14_last (x0 : Vec F S1024x2048 .i8) (x1 : Vec F S2048x1024 .i8) (x4 : Vec F S1024x1024 .i8) (x7 : Vec F S1024x1024 .i8) (x9 : Vec F S1024x1024 .i8) (x10 : Vec F S1024x128 .i32) (x11 : Vec F S128x1024 .i8) (y14 : Vec F S1024x128 .i32) : Vec F S1024x128 .i32 :=
  k4_pay5 (F := F) (k4_pay3 (k4_pay9 x0 x1 x4 x7) (k4_pay10 x9) (k4_pay11 x10) x11 y14)

set_option maxHeartbeats 1000000 in
/-- The body on whole buffers: it leaves the inputs as they were and each output at the value named above. -/
theorem body4_first (c : Dev nD) (E : Set ℕ) (i : grid4.Coords) (arg1 : Memref sig .tc .vmem S1024x2048 .i8) (harg1 : arg1.IsWhole) (arg2 : Memref sig .tc .vmem S2048x1024 .i8) (harg2 : arg2.IsWhole) (arg3 : Memref sig .tc .vmem S1024x2048 .i8) (harg3 : arg3.IsWhole) (arg4 : Memref sig .tc .vmem S2048x1024 .i8) (harg4 : arg4.IsWhole) (arg5 : Memref sig .tc .vmem S1024x1024 .i8) (harg5 : arg5.IsWhole) (arg6 : Memref sig .tc .vmem S1024x1024 .i8) (harg6 : arg6.IsWhole) (arg7 : Memref sig .tc .vmem S1024x1024 .i8) (harg7 : arg7.IsWhole) (arg8 : Memref sig .tc .vmem S1024x1024 .i8) (harg8 : arg8.IsWhole) (arg9 : Memref sig .tc .vmem S1024x1024 .i8) (harg9 : arg9.IsWhole) (arg10 : Memref sig .tc .vmem S1024x1024 .i8) (harg10 : arg10.IsWhole) (arg11 : Memref sig .tc .vmem S1024x128 .i32) (harg11 : arg11.IsWhole) (arg12 : Memref sig .tc .vmem S128x1024 .i8) (harg12 : arg12.IsWhole) (arg13 : Memref sig .tc .vmem S128x1024 .i8) (harg13 : arg13.IsWhole) (arg14 : Memref sig .tc .vmem S1024x128 .i32) (harg14 : arg14.IsWhole) (arg15 : Memref sig .tc .vmem S1024x128 .i32) (harg15 : arg15.IsWhole) (h1 : k4_cond1 i = 1#1) (h2 : ¬ k4_cond2 i = 1#1) (h3 : ¬ k4_cond3 i = 1#1)
    (x0 : Vec F S1024x2048 .i8) (x1 : Vec F S2048x1024 .i8) (x2 : Vec F S1024x2048 .i8) (x3 : Vec F S2048x1024 .i8) (x4 : Vec F S1024x1024 .i8) (x5 : Vec F S1024x1024 .i8) (x6 : Vec F S1024x1024 .i8) (x7 : Vec F S1024x1024 .i8) (x8 : Vec F S1024x1024 .i8) (x9 : Vec F S1024x1024 .i8) (x10 : Vec F S1024x128 .i32) (x11 : Vec F S128x1024 .i8) (x12 : Vec F S128x1024 .i8) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare (out4_13_first x2 x3 x5 x6 x8 x10 x12) ∗ owns (c : Thread nD τ) arg15 fullShare (out4_14_first x0 x1 x4 x7 x9 x10 x11)) -∗ K ⟨⟩))
      ⊢ wp frame (wpE (defs₀ (F := F)) Variants.none c none) E (cc4__fin_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc4__fin_kernel_eq_skeleton]; unfold cc4__fin_kernel_skel
  simp only [k4_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, Hk⟩
  subst hf0 hf1 hf2 hf3 hf4 hf5 hf6 hf7 hf8 hf9 hf10 hf11 hf12
  sl_exec (disch := first | sl_exact h1 | sl_exact h2 | sl_exact h3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; isplitr
    swap; · iexact H13
    ipureintro
    refine (View.read_writes_eq_canon _ _ _ (fun y => ⟨_, List.mem_cons_self, View.mem_set_unit_zero zz4 inb_S1024x128_S1024x128_0_0 y⟩)).trans ?_
    refine (View.canon_cons_unit_zero zz4 _ _ _).trans ?_
    show k4_pay2 (k4_pay7 (View.ld ((arg11).view.read (Elt F) f10) r4_S1024x128)) (k4_pay8 (View.ld ((arg3).view.read (Elt F) f2) r4_S1024x2048) (View.ld ((arg4).view.read (Elt F) f3) r4_S2048x1024) (View.ld ((arg6).view.read (Elt F) f5) r4_S1024x1024)) (View.ld ((arg7).view.read (Elt F) f6) r4_S1024x1024) (View.ld ((arg9).view.read (Elt F) f8) r4_S1024x1024) (View.ld ((arg13).view.read (Elt F) f12) r4_S128x1024) = _
    rw [View.ld_unit_zero (S := S1024x2048) zz4 inb_S1024x2048_S1024x2048_0_0 (arg3.view.read (Elt F) f2), View.ld_unit_zero (S := S2048x1024) zz4 inb_S2048x1024_S2048x1024_0_0 (arg4.view.read (Elt F) f3), View.ld_unit_zero (S := S1024x1024) zz4 inb_S1024x1024_S1024x1024_0_0 (arg6.view.read (Elt F) f5), View.ld_unit_zero (S := S1024x1024) zz4 inb_S1024x1024_S1024x1024_0_0 (arg7.view.read (Elt F) f6), View.ld_unit_zero (S := S1024x1024) zz4 inb_S1024x1024_S1024x1024_0_0 (arg9.view.read (Elt F) f8), View.ld_unit_zero (S := S1024x128) zz4 inb_S1024x128_S1024x128_0_0 (arg11.view.read (Elt F) f10), View.ld_unit_zero (S := S128x1024) zz4 inb_S128x1024_S128x1024_0_0 (arg13.view.read (Elt F) f12)]; rfl
  iexists _; isplitr
  swap; · iexact H14
  ipureintro
  refine (View.read_writes_eq_canon _ _ _ (fun y => ⟨_, List.mem_cons_self, View.mem_set_unit_zero zz4 inb_S1024x128_S1024x128_0_0 y⟩)).trans ?_
  refine (View.canon_cons_unit_zero zz4 _ _ _).trans ?_
  show k4_pay1 (k4_pay9 (View.ld ((arg1).view.read (Elt F) f0) r4_S1024x2048) (View.ld ((arg2).view.read (Elt F) f1) r4_S2048x1024) (View.ld ((arg5).view.read (Elt F) f4) r4_S1024x1024) (View.ld ((arg8).view.read (Elt F) f7) r4_S1024x1024)) (k4_pay10 (View.ld ((arg10).view.read (Elt F) f9) r4_S1024x1024)) (k4_pay11 (View.ld ((arg11).view.read (Elt F) f10) r4_S1024x128)) (View.ld ((arg12).view.read (Elt F) f11) r4_S128x1024) = _
  rw [View.ld_unit_zero (S := S1024x2048) zz4 inb_S1024x2048_S1024x2048_0_0 (arg1.view.read (Elt F) f0), View.ld_unit_zero (S := S2048x1024) zz4 inb_S2048x1024_S2048x1024_0_0 (arg2.view.read (Elt F) f1), View.ld_unit_zero (S := S1024x1024) zz4 inb_S1024x1024_S1024x1024_0_0 (arg5.view.read (Elt F) f4), View.ld_unit_zero (S := S1024x1024) zz4 inb_S1024x1024_S1024x1024_0_0 (arg8.view.read (Elt F) f7), View.ld_unit_zero (S := S1024x1024) zz4 inb_S1024x1024_S1024x1024_0_0 (arg10.view.read (Elt F) f9), View.ld_unit_zero (S := S1024x128) zz4 inb_S1024x128_S1024x128_0_0 (arg11.view.read (Elt F) f10), View.ld_unit_zero (S := S128x1024) zz4 inb_S128x1024_S128x1024_0_0 (arg12.view.read (Elt F) f11)]; rfl

set_option maxHeartbeats 1000000 in
/-- The body on whole buffers: it leaves the inputs as they were and each output at the value named above. -/
theorem body4_next (c : Dev nD) (E : Set ℕ) (i : grid4.Coords) (arg1 : Memref sig .tc .vmem S1024x2048 .i8) (harg1 : arg1.IsWhole) (arg2 : Memref sig .tc .vmem S2048x1024 .i8) (harg2 : arg2.IsWhole) (arg3 : Memref sig .tc .vmem S1024x2048 .i8) (harg3 : arg3.IsWhole) (arg4 : Memref sig .tc .vmem S2048x1024 .i8) (harg4 : arg4.IsWhole) (arg5 : Memref sig .tc .vmem S1024x1024 .i8) (harg5 : arg5.IsWhole) (arg6 : Memref sig .tc .vmem S1024x1024 .i8) (harg6 : arg6.IsWhole) (arg7 : Memref sig .tc .vmem S1024x1024 .i8) (harg7 : arg7.IsWhole) (arg8 : Memref sig .tc .vmem S1024x1024 .i8) (harg8 : arg8.IsWhole) (arg9 : Memref sig .tc .vmem S1024x1024 .i8) (harg9 : arg9.IsWhole) (arg10 : Memref sig .tc .vmem S1024x1024 .i8) (harg10 : arg10.IsWhole) (arg11 : Memref sig .tc .vmem S1024x128 .i32) (harg11 : arg11.IsWhole) (arg12 : Memref sig .tc .vmem S128x1024 .i8) (harg12 : arg12.IsWhole) (arg13 : Memref sig .tc .vmem S128x1024 .i8) (harg13 : arg13.IsWhole) (arg14 : Memref sig .tc .vmem S1024x128 .i32) (harg14 : arg14.IsWhole) (arg15 : Memref sig .tc .vmem S1024x128 .i32) (harg15 : arg15.IsWhole) (h1 : ¬ k4_cond1 i = 1#1) (h2 : k4_cond2 i = 1#1) (h3 : ¬ k4_cond3 i = 1#1)
    (x0 : Vec F S1024x2048 .i8) (x1 : Vec F S2048x1024 .i8) (x2 : Vec F S1024x2048 .i8) (x3 : Vec F S2048x1024 .i8) (x4 : Vec F S1024x1024 .i8) (x5 : Vec F S1024x1024 .i8) (x6 : Vec F S1024x1024 .i8) (x7 : Vec F S1024x1024 .i8) (x8 : Vec F S1024x1024 .i8) (x9 : Vec F S1024x1024 .i8) (x10 : Vec F S1024x128 .i32) (x11 : Vec F S128x1024 .i8) (x12 : Vec F S128x1024 .i8) (y13 : Vec F S1024x128 .i32) (y14 : Vec F S1024x128 .i32)(K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare y13 ∗ owns (c : Thread nD τ) arg15 fullShare y14
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare (out4_13_next x2 x3 x5 x6 x8 x10 x12 y13) ∗ owns (c : Thread nD τ) arg15 fullShare (out4_14_next x0 x1 x4 x7 x9 x10 x11 y14)) -∗ K ⟨⟩))
      ⊢ wp frame (wpE (defs₀ (F := F)) Variants.none c none) E (cc4__fin_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc4__fin_kernel_eq_skeleton]; unfold cc4__fin_kernel_skel
  simp only [k4_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
  subst hf0 hf1 hf2 hf3 hf4 hf5 hf6 hf7 hf8 hf9 hf10 hf11 hf12 hf13 hf14
  sl_exec (disch := first | sl_exact h1 | sl_exact h2 | sl_exact h3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; isplitr
    swap; · iexact H13
    ipureintro
    refine (View.read_writes_eq_canon _ _ _ (fun y => ⟨_, List.mem_cons_self, View.mem_set_unit_zero zz4 inb_S1024x128_S1024x128_0_0 y⟩)).trans ?_
    refine (View.canon_cons_unit_zero zz4 _ _ _).trans ?_
    show k4_pay4 (k4_pay7 (View.ld ((arg11).view.read (Elt F) f10) r4_S1024x128)) (k4_pay8 (View.ld ((arg3).view.read (Elt F) f2) r4_S1024x2048) (View.ld ((arg4).view.read (Elt F) f3) r4_S2048x1024) (View.ld ((arg6).view.read (Elt F) f5) r4_S1024x1024)) (View.ld ((arg7).view.read (Elt F) f6) r4_S1024x1024) (View.ld ((arg9).view.read (Elt F) f8) r4_S1024x1024) (View.ld ((arg13).view.read (Elt F) f12) r4_S128x1024) (View.ld ((arg14).view.read (Elt F) f13) r4_S1024x128) = _
    rw [View.ld_unit_zero (S := S1024x2048) zz4 inb_S1024x2048_S1024x2048_0_0 (arg3.view.read (Elt F) f2), View.ld_unit_zero (S := S2048x1024) zz4 inb_S2048x1024_S2048x1024_0_0 (arg4.view.read (Elt F) f3), View.ld_unit_zero (S := S1024x1024) zz4 inb_S1024x1024_S1024x1024_0_0 (arg6.view.read (Elt F) f5), View.ld_unit_zero (S := S1024x1024) zz4 inb_S1024x1024_S1024x1024_0_0 (arg7.view.read (Elt F) f6), View.ld_unit_zero (S := S1024x1024) zz4 inb_S1024x1024_S1024x1024_0_0 (arg9.view.read (Elt F) f8), View.ld_unit_zero (S := S1024x128) zz4 inb_S1024x128_S1024x128_0_0 (arg11.view.read (Elt F) f10), View.ld_unit_zero (S := S128x1024) zz4 inb_S128x1024_S128x1024_0_0 (arg13.view.read (Elt F) f12), View.ld_unit_zero (S := S1024x128) zz4 inb_S1024x128_S1024x128_0_0 (arg14.view.read (Elt F) f13)]; rfl
  iexists _; isplitr
  swap; · iexact H14
  ipureintro
  refine (View.read_writes_eq_canon _ _ _ (fun y => ⟨_, List.mem_cons_self, View.mem_set_unit_zero zz4 inb_S1024x128_S1024x128_0_0 y⟩)).trans ?_
  refine (View.canon_cons_unit_zero zz4 _ _ _).trans ?_
  show k4_pay3 (k4_pay9 (View.ld ((arg1).view.read (Elt F) f0) r4_S1024x2048) (View.ld ((arg2).view.read (Elt F) f1) r4_S2048x1024) (View.ld ((arg5).view.read (Elt F) f4) r4_S1024x1024) (View.ld ((arg8).view.read (Elt F) f7) r4_S1024x1024)) (k4_pay10 (View.ld ((arg10).view.read (Elt F) f9) r4_S1024x1024)) (k4_pay11 (View.ld ((arg11).view.read (Elt F) f10) r4_S1024x128)) (View.ld ((arg12).view.read (Elt F) f11) r4_S128x1024) (View.ld ((arg15).view.read (Elt F) f14) r4_S1024x128) = _
  rw [View.ld_unit_zero (S := S1024x2048) zz4 inb_S1024x2048_S1024x2048_0_0 (arg1.view.read (Elt F) f0), View.ld_unit_zero (S := S2048x1024) zz4 inb_S2048x1024_S2048x1024_0_0 (arg2.view.read (Elt F) f1), View.ld_unit_zero (S := S1024x1024) zz4 inb_S1024x1024_S1024x1024_0_0 (arg5.view.read (Elt F) f4), View.ld_unit_zero (S := S1024x1024) zz4 inb_S1024x1024_S1024x1024_0_0 (arg8.view.read (Elt F) f7), View.ld_unit_zero (S := S1024x1024) zz4 inb_S1024x1024_S1024x1024_0_0 (arg10.view.read (Elt F) f9), View.ld_unit_zero (S := S1024x128) zz4 inb_S1024x128_S1024x128_0_0 (arg11.view.read (Elt F) f10), View.ld_unit_zero (S := S128x1024) zz4 inb_S128x1024_S128x1024_0_0 (arg12.view.read (Elt F) f11), View.ld_unit_zero (S := S1024x128) zz4 inb_S1024x128_S1024x128_0_0 (arg15.view.read (Elt F) f14)]; rfl

set_option maxHeartbeats 1000000 in
/-- The body on whole buffers: it leaves the inputs as they were and each output at the value named above. -/
theorem body4_last (c : Dev nD) (E : Set ℕ) (i : grid4.Coords) (arg1 : Memref sig .tc .vmem S1024x2048 .i8) (harg1 : arg1.IsWhole) (arg2 : Memref sig .tc .vmem S2048x1024 .i8) (harg2 : arg2.IsWhole) (arg3 : Memref sig .tc .vmem S1024x2048 .i8) (harg3 : arg3.IsWhole) (arg4 : Memref sig .tc .vmem S2048x1024 .i8) (harg4 : arg4.IsWhole) (arg5 : Memref sig .tc .vmem S1024x1024 .i8) (harg5 : arg5.IsWhole) (arg6 : Memref sig .tc .vmem S1024x1024 .i8) (harg6 : arg6.IsWhole) (arg7 : Memref sig .tc .vmem S1024x1024 .i8) (harg7 : arg7.IsWhole) (arg8 : Memref sig .tc .vmem S1024x1024 .i8) (harg8 : arg8.IsWhole) (arg9 : Memref sig .tc .vmem S1024x1024 .i8) (harg9 : arg9.IsWhole) (arg10 : Memref sig .tc .vmem S1024x1024 .i8) (harg10 : arg10.IsWhole) (arg11 : Memref sig .tc .vmem S1024x128 .i32) (harg11 : arg11.IsWhole) (arg12 : Memref sig .tc .vmem S128x1024 .i8) (harg12 : arg12.IsWhole) (arg13 : Memref sig .tc .vmem S128x1024 .i8) (harg13 : arg13.IsWhole) (arg14 : Memref sig .tc .vmem S1024x128 .i32) (harg14 : arg14.IsWhole) (arg15 : Memref sig .tc .vmem S1024x128 .i32) (harg15 : arg15.IsWhole) (h1 : ¬ k4_cond1 i = 1#1) (h2 : k4_cond2 i = 1#1) (h3 : k4_cond3 i = 1#1)
    (x0 : Vec F S1024x2048 .i8) (x1 : Vec F S2048x1024 .i8) (x2 : Vec F S1024x2048 .i8) (x3 : Vec F S2048x1024 .i8) (x4 : Vec F S1024x1024 .i8) (x5 : Vec F S1024x1024 .i8) (x6 : Vec F S1024x1024 .i8) (x7 : Vec F S1024x1024 .i8) (x8 : Vec F S1024x1024 .i8) (x9 : Vec F S1024x1024 .i8) (x10 : Vec F S1024x128 .i32) (x11 : Vec F S128x1024 .i8) (x12 : Vec F S128x1024 .i8) (y13 : Vec F S1024x128 .i32) (y14 : Vec F S1024x128 .i32)(K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare y13 ∗ owns (c : Thread nD τ) arg15 fullShare y14
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare (out4_13_last x2 x3 x5 x6 x8 x10 x12 y13) ∗ owns (c : Thread nD τ) arg15 fullShare (out4_14_last x0 x1 x4 x7 x9 x10 x11 y14)) -∗ K ⟨⟩))
      ⊢ wp frame (wpE (defs₀ (F := F)) Variants.none c none) E (cc4__fin_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc4__fin_kernel_eq_skeleton]; unfold cc4__fin_kernel_skel
  simp only [k4_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
  subst hf0 hf1 hf2 hf3 hf4 hf5 hf6 hf7 hf8 hf9 hf10 hf11 hf12 hf13 hf14
  sl_exec (disch := first | sl_exact h1 | sl_exact h2 | sl_exact h3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; isplitr
    swap; · iexact H13
    ipureintro
    refine (View.read_writes_eq_canon _ _ _ (fun y => ⟨_, List.mem_cons_self, View.mem_set_unit_zero zz4 inb_S1024x128_S1024x128_0_0 y⟩)).trans ?_
    refine (View.canon_cons_unit_zero zz4 _ _ _).trans ?_
    refine (congrArg (k4_pay6 (F := F)) (View.readCov_unit_zero _ zz4 _ _)).trans ?_
    show k4_pay6 (F := F) (k4_pay4 (k4_pay7 (View.ld ((arg11).view.read (Elt F) f10) r4_S1024x128)) (k4_pay8 (View.ld ((arg3).view.read (Elt F) f2) r4_S1024x2048) (View.ld ((arg4).view.read (Elt F) f3) r4_S2048x1024) (View.ld ((arg6).view.read (Elt F) f5) r4_S1024x1024)) (View.ld ((arg7).view.read (Elt F) f6) r4_S1024x1024) (View.ld ((arg9).view.read (Elt F) f8) r4_S1024x1024) (View.ld ((arg13).view.read (Elt F) f12) r4_S128x1024) (View.ld ((arg14).view.read (Elt F) f13) r4_S1024x128)) = _
    rw [View.ld_unit_zero (S := S1024x2048) zz4 inb_S1024x2048_S1024x2048_0_0 (arg3.view.read (Elt F) f2), View.ld_unit_zero (S := S2048x1024) zz4 inb_S2048x1024_S2048x1024_0_0 (arg4.view.read (Elt F) f3), View.ld_unit_zero (S := S1024x1024) zz4 inb_S1024x1024_S1024x1024_0_0 (arg6.view.read (Elt F) f5), View.ld_unit_zero (S := S1024x1024) zz4 inb_S1024x1024_S1024x1024_0_0 (arg7.view.read (Elt F) f6), View.ld_unit_zero (S := S1024x1024) zz4 inb_S1024x1024_S1024x1024_0_0 (arg9.view.read (Elt F) f8), View.ld_unit_zero (S := S1024x128) zz4 inb_S1024x128_S1024x128_0_0 (arg11.view.read (Elt F) f10), View.ld_unit_zero (S := S128x1024) zz4 inb_S128x1024_S128x1024_0_0 (arg13.view.read (Elt F) f12), View.ld_unit_zero (S := S1024x128) zz4 inb_S1024x128_S1024x128_0_0 (arg14.view.read (Elt F) f13)]; unfold out4_13_last; rfl
  iexists _; isplitr
  swap; · iexact H14
  ipureintro
  refine (View.read_writes_eq_canon _ _ _ (fun y => ⟨_, List.mem_cons_self, View.mem_set_unit_zero zz4 inb_S1024x128_S1024x128_0_0 y⟩)).trans ?_
  refine (View.canon_cons_unit_zero zz4 _ _ _).trans ?_
  refine (congrArg (k4_pay5 (F := F)) (View.readCov_unit_zero _ zz4 _ _)).trans ?_
  show k4_pay5 (F := F) (k4_pay3 (k4_pay9 (View.ld ((arg1).view.read (Elt F) f0) r4_S1024x2048) (View.ld ((arg2).view.read (Elt F) f1) r4_S2048x1024) (View.ld ((arg5).view.read (Elt F) f4) r4_S1024x1024) (View.ld ((arg8).view.read (Elt F) f7) r4_S1024x1024)) (k4_pay10 (View.ld ((arg10).view.read (Elt F) f9) r4_S1024x1024)) (k4_pay11 (View.ld ((arg11).view.read (Elt F) f10) r4_S1024x128)) (View.ld ((arg12).view.read (Elt F) f11) r4_S128x1024) (View.ld ((arg15).view.read (Elt F) f14) r4_S1024x128)) = _
  rw [View.ld_unit_zero (S := S1024x2048) zz4 inb_S1024x2048_S1024x2048_0_0 (arg1.view.read (Elt F) f0), View.ld_unit_zero (S := S2048x1024) zz4 inb_S2048x1024_S2048x1024_0_0 (arg2.view.read (Elt F) f1), View.ld_unit_zero (S := S1024x1024) zz4 inb_S1024x1024_S1024x1024_0_0 (arg5.view.read (Elt F) f4), View.ld_unit_zero (S := S1024x1024) zz4 inb_S1024x1024_S1024x1024_0_0 (arg8.view.read (Elt F) f7), View.ld_unit_zero (S := S1024x1024) zz4 inb_S1024x1024_S1024x1024_0_0 (arg10.view.read (Elt F) f9), View.ld_unit_zero (S := S1024x128) zz4 inb_S1024x128_S1024x128_0_0 (arg11.view.read (Elt F) f10), View.ld_unit_zero (S := S128x1024) zz4 inb_S128x1024_S128x1024_0_0 (arg12.view.read (Elt F) f11), View.ld_unit_zero (S := S1024x128) zz4 inb_S1024x128_S1024x128_0_0 (arg15.view.read (Elt F) f14)]; unfold out4_14_last; rfl

/-- The running contents of output window 13 after grid point `n`. -/
def acc4_13 (c : Dev nD) : (n : ℕ) → n < cfg4.N → Vec F S1024x128 .i32
  | 0, hn => out4_13_first (iblk4 V c 2 ⟨0, hn⟩) (iblk4 V c 3 ⟨0, hn⟩) (iblk4 V c 5 ⟨0, hn⟩) (iblk4 V c 6 ⟨0, hn⟩) (iblk4 V c 8 ⟨0, hn⟩) (iblk4 V c 10 ⟨0, hn⟩) (iblk4 V c 12 ⟨0, hn⟩)
  | n + 1, hn =>
    if n + 1 = 3 then out4_13_last (iblk4 V c 2 ⟨n + 1, hn⟩) (iblk4 V c 3 ⟨n + 1, hn⟩) (iblk4 V c 5 ⟨n + 1, hn⟩) (iblk4 V c 6 ⟨n + 1, hn⟩) (iblk4 V c 8 ⟨n + 1, hn⟩) (iblk4 V c 10 ⟨n + 1, hn⟩) (iblk4 V c 12 ⟨n + 1, hn⟩) (acc4_13 c n (Nat.lt_of_succ_lt hn))
    else out4_13_next (iblk4 V c 2 ⟨n + 1, hn⟩) (iblk4 V c 3 ⟨n + 1, hn⟩) (iblk4 V c 5 ⟨n + 1, hn⟩) (iblk4 V c 6 ⟨n + 1, hn⟩) (iblk4 V c 8 ⟨n + 1, hn⟩) (iblk4 V c 10 ⟨n + 1, hn⟩) (iblk4 V c 12 ⟨n + 1, hn⟩) (acc4_13 c n (Nat.lt_of_succ_lt hn))

/-- The running contents of output window 14 after grid point `n`. -/
def acc4_14 (c : Dev nD) : (n : ℕ) → n < cfg4.N → Vec F S1024x128 .i32
  | 0, hn => out4_14_first (iblk4 V c 0 ⟨0, hn⟩) (iblk4 V c 1 ⟨0, hn⟩) (iblk4 V c 4 ⟨0, hn⟩) (iblk4 V c 7 ⟨0, hn⟩) (iblk4 V c 9 ⟨0, hn⟩) (iblk4 V c 10 ⟨0, hn⟩) (iblk4 V c 11 ⟨0, hn⟩)
  | n + 1, hn =>
    if n + 1 = 3 then out4_14_last (iblk4 V c 0 ⟨n + 1, hn⟩) (iblk4 V c 1 ⟨n + 1, hn⟩) (iblk4 V c 4 ⟨n + 1, hn⟩) (iblk4 V c 7 ⟨n + 1, hn⟩) (iblk4 V c 9 ⟨n + 1, hn⟩) (iblk4 V c 10 ⟨n + 1, hn⟩) (iblk4 V c 11 ⟨n + 1, hn⟩) (acc4_14 c n (Nat.lt_of_succ_lt hn))
    else out4_14_next (iblk4 V c 0 ⟨n + 1, hn⟩) (iblk4 V c 1 ⟨n + 1, hn⟩) (iblk4 V c 4 ⟨n + 1, hn⟩) (iblk4 V c 7 ⟨n + 1, hn⟩) (iblk4 V c 9 ⟨n + 1, hn⟩) (iblk4 V c 10 ⟨n + 1, hn⟩) (iblk4 V c 11 ⟨n + 1, hn⟩) (acc4_14 c n (Nat.lt_of_succ_lt hn))

/-- The contents the call works with: the arrays as found, each input buffer at its block, each output as computed. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => iblk4 V c 8 t
    | ⟨9, _⟩ => iblk4 V c 9 t
    | ⟨10, _⟩ => iblk4 V c 10 t
    | ⟨11, _⟩ => iblk4 V c 11 t
    | ⟨12, _⟩ => iblk4 V c 12 t
    | ⟨13, _⟩ => acc4_13 V c t.val t.isLt
    | ⟨14, _⟩ => acc4_14 V c t.val t.isLt
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = iblk4 V c 7 t := by dsimp only [dat4]
theorem after4_8 (c : Dev nD) (t : Fin cfg4.N) : (dat4 V c).after 8 t = iblk4 V c 8 t := by dsimp only [dat4]
theorem after4_9 (c : Dev nD) (t : Fin cfg4.N) : (dat4 V c).after 9 t = iblk4 V c 9 t := by dsimp only [dat4]
theorem after4_10 (c : Dev nD) (t : Fin cfg4.N) : (dat4 V c).after 10 t = iblk4 V c 10 t := by dsimp only [dat4]
theorem after4_11 (c : Dev nD) (t : Fin cfg4.N) : (dat4 V c).after 11 t = iblk4 V c 11 t := by dsimp only [dat4]
theorem after4_12 (c : Dev nD) (t : Fin cfg4.N) : (dat4 V c).after 12 t = iblk4 V c 12 t := by dsimp only [dat4]
theorem after4_13 (c : Dev nD) (t : Fin cfg4.N) : (dat4 V c).after 13 t = acc4_13 V c t.val t.isLt := by dsimp only [dat4]
theorem after4_14 (c : Dev nD) (t : Fin cfg4.N) : (dat4 V c).after 14 t = acc4_14 V c t.val t.isLt := by dsimp only [dat4]

theorem before4_0 (c : Dev nD) (t : Fin cfg4.N) (d) : (dat4 V c).before 0 t d = iblk4 V c 0 t :=
  ((dat4 V c).before_in_eq_fetched 0 rfl (fun _ => rfl) (fun _ _ _ => rfl) (fun t => by rw [after4_0]; unfold Dat.blockOf iblk4; rw [A_eq4]; try rfl) t d).trans
    (by unfold Dat.fetched Dat.blockOf iblk4; rw [A_eq4]; try rfl)
theorem before4_1 (c : Dev nD) (t : Fin cfg4.N) (d) : (dat4 V c).before 1 t d = iblk4 V c 1 t :=
  ((dat4 V c).before_in_eq_fetched 1 rfl (fun _ => rfl) (fun _ _ _ => rfl) (fun t => by rw [after4_1]; unfold Dat.blockOf iblk4; rw [A_eq4]; try rfl) t d).trans
    (by unfold Dat.fetched Dat.blockOf iblk4; rw [A_eq4]; try rfl)
theorem before4_2 (c : Dev nD) (t : Fin cfg4.N) (d) : (dat4 V c).before 2 t d = iblk4 V c 2 t :=
  ((dat4 V c).before_in_eq_fetched 2 rfl (fun _ => rfl) (fun _ _ _ => rfl) (fun t => by rw [after4_2]; unfold Dat.blockOf iblk4; rw [A_eq4]; try rfl) t d).trans
    (by unfold Dat.fetched Dat.blockOf iblk4; rw [A_eq4]; try rfl)
theorem before4_3 (c : Dev nD) (t : Fin cfg4.N) (d) : (dat4 V c).before 3 t d = iblk4 V c 3 t :=
  ((dat4 V c).before_in_eq_fetched 3 rfl (fun _ => rfl) (fun _ _ _ => rfl) (fun t => by rw [after4_3]; unfold Dat.blockOf iblk4; rw [A_eq4]; try rfl) t d).trans
    (by unfold Dat.fetched Dat.blockOf iblk4; rw [A_eq4]; try rfl)
theorem before4_4 (c : Dev nD) (t : Fin cfg4.N) (d) : (dat4 V c).before 4 t d = iblk4 V c 4 t :=
  ((dat4 V c).before_in_eq_fetched 4 rfl (fun _ => rfl) (fun _ _ _ => rfl) (fun t => by rw [after4_4]; unfold Dat.blockOf iblk4; rw [A_eq4]; try rfl) t d).trans
    (by unfold Dat.fetched Dat.blockOf iblk4; rw [A_eq4]; try rfl)
theorem before4_5 (c : Dev nD) (t : Fin cfg4.N) (d) : (dat4 V c).before 5 t d = iblk4 V c 5 t :=
  ((dat4 V c).before_in_eq_fetched 5 rfl (fun _ => rfl) (fun _ _ _ => rfl) (fun t => by rw [after4_5]; unfold Dat.blockOf iblk4; rw [A_eq4]; try rfl) t d).trans
    (by unfold Dat.fetched Dat.blockOf iblk4; rw [A_eq4]; try rfl)
theorem before4_6 (c : Dev nD) (t : Fin cfg4.N) (d) : (dat4 V c).before 6 t d = iblk4 V c 6 t :=
  ((dat4 V c).before_in_eq_fetched 6 rfl (fun _ => rfl) (fun _ _ _ => rfl) (fun t => by rw [after4_6]; unfold Dat.blockOf iblk4; rw [A_eq4]; try rfl) t d).trans
    (by unfold Dat.fetched Dat.blockOf iblk4; rw [A_eq4]; try rfl)
theorem before4_7 (c : Dev nD) (t : Fin cfg4.N) (d) : (dat4 V c).before 7 t d = iblk4 V c 7 t :=
  ((dat4 V c).before_in_eq_fetched 7 rfl (fun _ => rfl) (fun _ _ _ => rfl) (fun t => by rw [after4_7]; unfold Dat.blockOf iblk4; rw [A_eq4]; try rfl) t d).trans
    (by unfold Dat.fetched Dat.blockOf iblk4; rw [A_eq4]; try rfl)
theorem before4_8 (c : Dev nD) (t : Fin cfg4.N) (d) : (dat4 V c).before 8 t d = iblk4 V c 8 t :=
  ((dat4 V c).before_in_eq_fetched 8 rfl (fun _ => rfl) (fun _ _ _ => rfl) (fun t => by rw [after4_8]; unfold Dat.blockOf iblk4; rw [A_eq4]; try rfl) t d).trans
    (by unfold Dat.fetched Dat.blockOf iblk4; rw [A_eq4]; try rfl)
theorem before4_9 (c : Dev nD) (t : Fin cfg4.N) (d) : (dat4 V c).before 9 t d = iblk4 V c 9 t :=
  ((dat4 V c).before_in_eq_fetched 9 rfl (fun _ => rfl) (fun _ _ _ => rfl) (fun t => by rw [after4_9]; unfold Dat.blockOf iblk4; rw [A_eq4]; try rfl) t d).trans
    (by unfold Dat.fetched Dat.blockOf iblk4; rw [A_eq4]; try rfl)
theorem before4_10 (c : Dev nD) (t : Fin cfg4.N) (d) : (dat4 V c).before 10 t d = iblk4 V c 10 t :=
  ((dat4 V c).before_in_eq_fetched 10 rfl (fun _ => rfl) (fun _ _ _ => rfl) (fun t => by rw [after4_10]; unfold Dat.blockOf iblk4; rw [A_eq4]; try rfl) t d).trans
    (by unfold Dat.fetched Dat.blockOf iblk4; rw [A_eq4]; try rfl)
theorem before4_11 (c : Dev nD) (t : Fin cfg4.N) (d) : (dat4 V c).before 11 t d = iblk4 V c 11 t :=
  ((dat4 V c).before_in_eq_fetched 11 rfl (fun _ => rfl) (fun _ _ _ => rfl) (fun t => by rw [after4_11]; unfold Dat.blockOf iblk4; rw [A_eq4]; try rfl) t d).trans
    (by unfold Dat.fetched Dat.blockOf iblk4; rw [A_eq4]; try rfl)
theorem before4_12 (c : Dev nD) (t : Fin cfg4.N) (d) : (dat4 V c).before 12 t d = iblk4 V c 12 t :=
  ((dat4 V c).before_in_eq_fetched 12 rfl (fun _ => rfl) (fun _ _ _ => rfl) (fun t => by rw [after4_12]; unfold Dat.blockOf iblk4; rw [A_eq4]; try rfl) t d).trans
    (by unfold Dat.fetched Dat.blockOf iblk4; rw [A_eq4]; try rfl)

theorem cond4_1 : ∀ t : Fin grid4.N, k4_cond1 (grid4.coords t) = 1#1 ↔ t.val = 0 := by decide +kernel
theorem cond4_2 : ∀ t : Fin grid4.N, k4_cond2 (grid4.coords t) = 1#1 ↔ t.val ≠ 0 := by decide +kernel
theorem cond4_3 : ∀ t : Fin grid4.N, k4_cond3 (grid4.coords t) = 1#1 ↔ t.val = 3 := by decide +kernel
theorem live4_13 : ∀ i : grid4.Coords, cfg4.idle 13 i = false := by
  intro i
  obtain ⟨t, rfl⟩ := grid4.coords_surjective i
  exact (by decide +kernel : ∀ t : Fin grid4.N, cfg4.idle 13 (grid4.coords t) = false) t
/-- At a later point output window 13 still holds what the point before left. -/
theorem before4_13 (c : Dev nD) (t : Fin cfg4.N) (h0 : t.val ≠ 0) (d) :
    (dat4 V c).before 13 t d = acc4_13 V c (t.val - 1) (Nat.lt_of_le_of_lt (Nat.sub_le _ _) t.isLt) := by
  have hN : t.val < 4 := lt_of_lt_of_eq t.isLt (show cfg4.N = 4 from N_4)
  rw [Dat.before_out_kept _ 13 rfl t (by omega) (Bool.eq_false_iff.mpr fun h => by have := (flush4_13 _).mp h; dsimp only at this; omega)
    live4_13 (fun _ _ => rfl)]
  dsimp only [dat4]

theorem acc4_13_first (c : Dev nD) (t : Fin cfg4.N) (h0 : t.val = 0) :
    acc4_13 V c t.val t.isLt = out4_13_first (iblk4 V c 2 t) (iblk4 V c 3 t) (iblk4 V c 5 t) (iblk4 V c 6 t) (iblk4 V c 8 t) (iblk4 V c 10 t) (iblk4 V c 12 t) := by
  obtain ⟨n, hn⟩ := t; obtain rfl : n = 0 := h0; rfl
theorem acc4_13_next (c : Dev nD) (t : Fin cfg4.N) (h0 : t.val ≠ 0) (hl : t.val ≠ 3) :
    acc4_13 V c t.val t.isLt = out4_13_next (iblk4 V c 2 t) (iblk4 V c 3 t) (iblk4 V c 5 t) (iblk4 V c 6 t) (iblk4 V c 8 t) (iblk4 V c 10 t) (iblk4 V c 12 t) (acc4_13 V c (t.val - 1) (Nat.lt_of_le_of_lt (Nat.sub_le _ _) t.isLt)) := by
  obtain ⟨n, hn⟩ := t
  cases n with
  | zero => exact absurd rfl h0
  | succ n => exact (if_neg hl).trans rfl
theorem acc4_13_last (c : Dev nD) (t : Fin cfg4.N) (hl : t.val = 3) :
    acc4_13 V c t.val t.isLt = out4_13_last (iblk4 V c 2 t) (iblk4 V c 3 t) (iblk4 V c 5 t) (iblk4 V c 6 t) (iblk4 V c 8 t) (iblk4 V c 10 t) (iblk4 V c 12 t) (acc4_13 V c (t.val - 1) (Nat.lt_of_le_of_lt (Nat.sub_le _ _) t.isLt)) := by
  obtain ⟨n, hn⟩ := t
  cases n with
  | zero => simp at hl
  | succ n => exact (if_pos hl).trans rfl

theorem live4_14 : ∀ i : grid4.Coords, cfg4.idle 14 i = false := by
  intro i
  obtain ⟨t, rfl⟩ := grid4.coords_surjective i
  exact (by decide +kernel : ∀ t : Fin grid4.N, cfg4.idle 14 (grid4.coords t) = false) t
/-- At a later point output window 14 still holds what the point before left. -/
theorem before4_14 (c : Dev nD) (t : Fin cfg4.N) (h0 : t.val ≠ 0) (d) :
    (dat4 V c).before 14 t d = acc4_14 V c (t.val - 1) (Nat.lt_of_le_of_lt (Nat.sub_le _ _) t.isLt) := by
  have hN : t.val < 4 := lt_of_lt_of_eq t.isLt (show cfg4.N = 4 from N_4)
  rw [Dat.before_out_kept _ 14 rfl t (by omega) (Bool.eq_false_iff.mpr fun h => by have := (flush4_14 _).mp h; dsimp only at this; omega)
    live4_14 (fun _ _ => rfl)]
  dsimp only [dat4]

theorem acc4_14_first (c : Dev nD) (t : Fin cfg4.N) (h0 : t.val = 0) :
    acc4_14 V c t.val t.isLt = out4_14_first (iblk4 V c 0 t) (iblk4 V c 1 t) (iblk4 V c 4 t) (iblk4 V c 7 t) (iblk4 V c 9 t) (iblk4 V c 10 t) (iblk4 V c 11 t) := by
  obtain ⟨n, hn⟩ := t; obtain rfl : n = 0 := h0; rfl
theorem acc4_14_next (c : Dev nD) (t : Fin cfg4.N) (h0 : t.val ≠ 0) (hl : t.val ≠ 3) :
    acc4_14 V c t.val t.isLt = out4_14_next (iblk4 V c 0 t) (iblk4 V c 1 t) (iblk4 V c 4 t) (iblk4 V c 7 t) (iblk4 V c 9 t) (iblk4 V c 10 t) (iblk4 V c 11 t) (acc4_14 V c (t.val - 1) (Nat.lt_of_le_of_lt (Nat.sub_le _ _) t.isLt)) := by
  obtain ⟨n, hn⟩ := t
  cases n with
  | zero => exact absurd rfl h0
  | succ n => exact (if_neg hl).trans rfl
theorem acc4_14_last (c : Dev nD) (t : Fin cfg4.N) (hl : t.val = 3) :
    acc4_14 V c t.val t.isLt = out4_14_last (iblk4 V c 0 t) (iblk4 V c 1 t) (iblk4 V c 4 t) (iblk4 V c 7 t) (iblk4 V c 9 t) (iblk4 V c 10 t) (iblk4 V c 11 t) (acc4_14 V c (t.val - 1) (Nat.lt_of_le_of_lt (Nat.sub_le _ _) t.isLt)) := by
  obtain ⟨n, hn⟩ := t
  cases n with
  | zero => simp at hl
  | succ n => exact (if_pos hl).trans rfl

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d))
    ∗ (∃ d, owns (c : Thread nD τ) (st4_8 t) fullShare ((dat4 V c).before 8 t d))
    ∗ (∃ d, owns (c : Thread nD τ) (st4_9 t) fullShare ((dat4 V c).before 9 t d))
    ∗ (∃ d, owns (c : Thread nD τ) (st4_10 t) fullShare ((dat4 V c).before 10 t d))
    ∗ (∃ d, owns (c : Thread nD τ) (st4_11 t) fullShare ((dat4 V c).before 11 t d))
    ∗ (∃ d, owns (c : Thread nD τ) (st4_12 t) fullShare ((dat4 V c).before 12 t d))
    ∗ (∃ d, owns (c : Thread nD τ) (st4_13 t) fullShare ((dat4 V c).before 13 t d))
    ∗ (∃ d, owns (c : Thread nD τ) (st4_14 t) fullShare ((dat4 V c).before 14 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t)
    ∗ owns (c : Thread nD τ) (st4_8 t) fullShare ((dat4 V c).after 8 t)
    ∗ owns (c : Thread nD τ) (st4_9 t) fullShare ((dat4 V c).after 9 t)
    ∗ owns (c : Thread nD τ) (st4_10 t) fullShare ((dat4 V c).after 10 t)
    ∗ owns (c : Thread nD τ) (st4_11 t) fullShare ((dat4 V c).after 11 t)
    ∗ owns (c : Thread nD τ) (st4_12 t) fullShare ((dat4 V c).after 12 t)
    ∗ owns (c : Thread nD τ) (st4_13 t) fullShare ((dat4 V c).after 13 t)
    ∗ owns (c : Thread nD τ) (st4_14 t) fullShare ((dat4 V c).after 14 t))

set_option maxHeartbeats 1000000 in
theorem sound4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6, before4_7, before4_8, before4_9, before4_10, before4_11, before4_12]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7, after4_8, after4_9, after4_10, after4_11, after4_12, after4_13, after4_14]
  by_cases h0 : t.val = 0
  · rw [acc4_13_first V c t h0, acc4_14_first V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply (body4_first c Set.univ (grid4.coords t) _ _ _ _ _ _ _ _ _ _ _ _ _ _ _ _ _ _ _ _ _ _ _ _ _ _ _ _ _ _ ((cond4_1 t).mpr h0) (fun h => (cond4_2 t).mp h h0) (fun h => absurd ((cond4_3 t).mp h) (by omega)) (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t) (iblk4 V c 12 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [H14]; · iexists _; iexact H14
    iintro ⟨H0, H1, H2, H3, H4, H5, H6, H7, H8, H9, H10, H11, H12, H13, H14⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  · simp only [before4_13 V c t h0, before4_14 V c t h0]
    by_cases hl : t.val = 3
    · rw [acc4_13_last V c t hl, acc4_14_last V c t hl]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      iapply (body4_last c Set.univ (grid4.coords t) _ _ _ _ _ _ _ _ _ _ _ _ _ _ _ _ _ _ _ _ _ _ _ _ _ _ _ _ _ _ (fun h => h0 ((cond4_1 t).mp h)) ((cond4_2 t).mpr h0) ((cond4_3 t).mpr hl) (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t) (iblk4 V c 12 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      iintro ⟨H0, H1, H2, H3, H4, H5, H6, H7, H8, H9, H10, H11, H12, H13, H14⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      iexact H14
    · rw [acc4_13_next V c t h0 hl, acc4_14_next V c t h0 hl]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      iapply (body4_next c Set.univ (grid4.coords t) _ _ _ _ _ _ _ _ _ _ _ _ _ _ _ _ _ _ _ _ _ _ _ _ _ _ _ _ _ _ (fun h => h0 ((cond4_1 t).mp h)) ((cond4_2 t).mpr h0) (fun h => hl ((cond4_3 t).mp h)) (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t) (iblk4 V c 12 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      iintro ⟨H0, H1, H2, H3, H4, H5, H6, H7, H8, H9, H10, H11, H12, H13, H14⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      iexact H14

theorem row4 (t : Fin cfg4.N) :
    defs₀ (F := F) .tc cfg4.body (cfg4.bodyArgs t (cfg4.slots t)) = bodyAt4 t := by
  unfold defs₀; rw [Defs.onTc_tc]

set_option maxHeartbeats 2000000 in
/-- The call's body obligation at every grid point. -/
theorem obligation4 (c : Dev nD) : BodyObligation (dat4 (F := F) V c) (defs₀ (F := F)) Variants.none () Set.univ := fun t => by
  rw [bigSep_W4, bigSep_W4, row4]
  refine triple_restated (sound4 V c t) rfl .rfl fun _ => ?_
  unfold bodyPost4
  iintro ⟨HΦ, Ho, H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · rw [live4_13]; iexact H13
  · rw [live4_14]; iexact H14

end Cert.KernelIdeal.Run

end
-- ==== Proof.Run.Hosts.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # What the host operations between the calls leave alone -/

/-- The argument arrays. -/
abbrev argRefs : List (Ref sig .tc) := [main_arg0, main_arg1, main_arg2, main_arg3, main_arg4, main_arg5, main_arg6, main_arg7, main_arg8, main_arg9, main_arg10]

/-- `hostOps0` allocates nothing, -/
theorem hostOps0_fresh : (hostOps0 : List (HloOp τ sig (Elt F))).Forall fun op => op.fresh = ∅ := by
  simp only [List.Forall]; repeat' constructor
/-- writes these buffers only, -/
abbrev hostOps0_W : List (Ref sig .tc) := [main_v0, main_v1, main_v2, main_v3, main_c]
theorem hostOps0_writes : (hostOps0 : List (HloOp τ sig (Elt F))).Forall fun op => op.writes ⊆ (hostOps0_W.map (Proc.devRef (τ := τ) .tc)).toFinset :=
  StableHlo.forall_writes_sub_of_map rfl
/-- and no argument. -/
theorem hostOps0_args : ∀ a ∈ argRefs, a ∉ hostOps0_W := ListAll.forall_mem_of_all_decide (by decide +kernel)

/-- `hostOps0_1` allocates nothing, -/
theorem hostOps0_1_fresh : (hostOps0_1 : List (HloOp τ sig (Elt F))).Forall fun op => op.fresh = ∅ := by
  simp only [List.Forall]; repeat' constructor
/-- writes these buffers only, -/
abbrev hostOps0_1_W : List (Ref sig .tc) := [main_call0_v0, main_v4]
theorem hostOps0_1_writes : (hostOps0_1 : List (HloOp τ sig (Elt F))).Forall fun op => op.writes ⊆ (hostOps0_1_W.map (Proc.devRef (τ := τ) .tc)).toFinset :=
  StableHlo.forall_writes_sub_of_map rfl
/-- and no argument. -/
theorem hostOps0_1_args : ∀ a ∈ argRefs, a ∉ hostOps0_1_W := ListAll.forall_mem_of_all_decide (by decide +kernel)

/-- `hostOps0_2` allocates nothing, -/
theorem hostOps0_2_fresh : (hostOps0_2 : List (HloOp τ sig (Elt F))).Forall fun op => op.fresh = ∅ := by
  simp only [List.Forall]; repeat' constructor
/-- writes these buffers only, -/
abbrev hostOps0_2_W : List (Ref sig .tc) := [main_v5, main_c_0]
theorem hostOps0_2_writes : (hostOps0_2 : List (HloOp τ sig (Elt F))).Forall fun op => op.writes ⊆ (hostOps0_2_W.map (Proc.devRef (τ := τ) .tc)).toFinset :=
  StableHlo.forall_writes_sub_of_map rfl
/-- and no argument. -/
theorem hostOps0_2_args : ∀ a ∈ argRefs, a ∉ hostOps0_2_W := ListAll.forall_mem_of_all_decide (by decide +kernel)

/-- `hostOps0_3` allocates nothing, -/
theorem hostOps0_3_fresh : (hostOps0_3 : List (HloOp τ sig (Elt F))).Forall fun op => op.fresh = ∅ := by
  simp only [List.Forall]; repeat' constructor
/-- writes these buffers only, -/
abbrev hostOps0_3_W : List (Ref sig .tc) := [main_call1_v0, main_v6]
theorem hostOps0_3_writes : (hostOps0_3 : List (HloOp τ sig (Elt F))).Forall fun op => op.writes ⊆ (hostOps0_3_W.map (Proc.devRef (τ := τ) .tc)).toFinset :=
  StableHlo.forall_writes_sub_of_map rfl
/-- and no argument. -/
theorem hostOps0_3_args : ∀ a ∈ argRefs, a ∉ hostOps0_3_W := ListAll.forall_mem_of_all_decide (by decide +kernel)

/-- `hostOps0_4` allocates nothing, -/
theorem hostOps0_4_fresh : (hostOps0_4 : List (HloOp τ sig (Elt F))).Forall fun op => op.fresh = ∅ := by
  simp only [List.Forall]; repeat' constructor
/-- writes these buffers only, -/
abbrev hostOps0_4_W : List (Ref sig .tc) := [main_v7, main_c_1]
theorem hostOps0_4_writes : (hostOps0_4 : List (HloOp τ sig (Elt F))).Forall fun op => op.writes ⊆ (hostOps0_4_W.map (Proc.devRef (τ := τ) .tc)).toFinset :=
  StableHlo.forall_writes_sub_of_map rfl
/-- and no argument. -/
theorem hostOps0_4_args : ∀ a ∈ argRefs, a ∉ hostOps0_4_W := ListAll.forall_mem_of_all_decide (by decide +kernel)

/-- `hostOps0_5` allocates nothing, -/
theorem hostOps0_5_fresh : (hostOps0_5 : List (HloOp τ sig (Elt F))).Forall fun op => op.fresh = ∅ := by
  simp only [List.Forall]; repeat' constructor
/-- writes these buffers only, -/
abbrev hostOps0_5_W : List (Ref sig .tc) := [main_call2_v0, main_v8]
theorem hostOps0_5_writes : (hostOps0_5 : List (HloOp τ sig (Elt F))).Forall fun op => op.writes ⊆ (hostOps0_5_W.map (Proc.devRef (τ := τ) .tc)).toFinset :=
  StableHlo.forall_writes_sub_of_map rfl
/-- and no argument. -/
theorem hostOps0_5_args : ∀ a ∈ argRefs, a ∉ hostOps0_5_W := ListAll.forall_mem_of_all_decide (by decide +kernel)

/-- `hostOps0_6` allocates nothing, -/
theorem hostOps0_6_fresh : (hostOps0_6 : List (HloOp τ sig (Elt F))).Forall fun op => op.fresh = ∅ := by
  simp only [List.Forall]; repeat' constructor
/-- writes these buffers only, -/
abbrev hostOps0_6_W : List (Ref sig .tc) := [main_c_2]
theorem hostOps0_6_writes : (hostOps0_6 : List (HloOp τ sig (Elt F))).Forall fun op => op.writes ⊆ (hostOps0_6_W.map (Proc.devRef (τ := τ) .tc)).toFinset :=
  StableHlo.forall_writes_sub_of_map rfl
/-- and no argument. -/
theorem hostOps0_6_args : ∀ a ∈ argRefs, a ∉ hostOps0_6_W := ListAll.forall_mem_of_all_decide (by decide +kernel)

/-- `hostOps0_7` allocates nothing, -/
theorem hostOps0_7_fresh : (hostOps0_7 : List (HloOp τ sig (Elt F))).Forall fun op => op.fresh = ∅ := by
  simp only [List.Forall]; repeat' constructor
/-- writes these buffers only, -/
abbrev hostOps0_7_W : List (Ref sig .tc) := [main_call3_v0, main_v9]
theorem hostOps0_7_writes : (hostOps0_7 : List (HloOp τ sig (Elt F))).Forall fun op => op.writes ⊆ (hostOps0_7_W.map (Proc.devRef (τ := τ) .tc)).toFinset :=
  StableHlo.forall_writes_sub_of_map rfl
/-- and no argument. -/
theorem hostOps0_7_args : ∀ a ∈ argRefs, a ∉ hostOps0_7_W := ListAll.forall_mem_of_all_decide (by decide +kernel)

/-- `hostOps0_8` allocates nothing, -/
theorem hostOps0_8_fresh : (hostOps0_8 : List (HloOp τ sig (Elt F))).Forall fun op => op.fresh = ∅ := by
  simp only [List.Forall]; repeat' constructor
/-- writes these buffers only, -/
abbrev hostOps0_8_W : List (Ref sig .tc) := [main_v10, main_v11, main_v12, main_v13, main_v14, main_v15, main_v16, main_v17, main_v18, main_v19, main_v20, main_v21, main_v22, main_v23, main_v24, main_c_3]
theorem hostOps0_8_writes : (hostOps0_8 : List (HloOp τ sig (Elt F))).Forall fun op => op.writes ⊆ (hostOps0_8_W.map (Proc.devRef (τ := τ) .tc)).toFinset :=
  StableHlo.forall_writes_sub_of_map rfl
/-- and no argument. -/
theorem hostOps0_8_args : ∀ a ∈ argRefs, a ∉ hostOps0_8_W := ListAll.forall_mem_of_all_decide (by decide +kernel)

/-- `hostOps0_9` allocates nothing, -/
theorem hostOps0_9_fresh : (hostOps0_9 : List (HloOp τ sig (Elt F))).Forall fun op => op.fresh = ∅ := by
  simp only [List.Forall]; repeat' constructor
/-- writes these buffers only, -/
abbrev hostOps0_9_W : List (Ref sig .tc) := [main_call4_v0, main_v25]
theorem hostOps0_9_writes : (hostOps0_9 : List (HloOp τ sig (Elt F))).Forall fun op => op.writes ⊆ (hostOps0_9_W.map (Proc.devRef (τ := τ) .tc)).toFinset :=
  StableHlo.forall_writes_sub_of_map rfl
/-- and no argument. -/
theorem hostOps0_9_args : ∀ a ∈ argRefs, a ∉ hostOps0_9_W := ListAll.forall_mem_of_all_decide (by decide +kernel)

/-- `hostOps0_10` allocates nothing, -/
theorem hostOps0_10_fresh : (hostOps0_10 : List (HloOp τ sig (Elt F))).Forall fun op => op.fresh = ∅ := by
  simp only [List.Forall]; repeat' constructor
/-- writes these buffers only, -/
abbrev hostOps0_10_W : List (Ref sig .tc) := [main_v26, main_c_4]
theorem hostOps0_10_writes : (hostOps0_10 : List (HloOp τ sig (Elt F))).Forall fun op => op.writes ⊆ (hostOps0_10_W.map (Proc.devRef (τ := τ) .tc)).toFinset :=
  StableHlo.forall_writes_sub_of_map rfl
/-- and no argument. -/
theorem hostOps0_10_args : ∀ a ∈ argRefs, a ∉ hostOps0_10_W := ListAll.forall_mem_of_all_decide (by decide +kernel)

/-- `hostOps0_11` allocates nothing, -/
theorem hostOps0_11_fresh : (hostOps0_11 : List (HloOp τ sig (Elt F))).Forall fun op => op.fresh = ∅ := by
  simp only [List.Forall]; repeat' constructor
/-- writes these buffers only, -/
abbrev hostOps0_11_W : List (Ref sig .tc) := [main_call5_v0, main_v27]
theorem hostOps0_11_writes : (hostOps0_11 : List (HloOp τ sig (Elt F))).Forall fun op => op.writes ⊆ (hostOps0_11_W.map (Proc.devRef (τ := τ) .tc)).toFinset :=
  StableHlo.forall_writes_sub_of_map rfl
/-- and no argument. -/
theorem hostOps0_11_args : ∀ a ∈ argRefs, a ∉ hostOps0_11_W := ListAll.forall_mem_of_all_decide (by decide +kernel)

/-- `hostOps0_12` allocates nothing, -/
theorem hostOps0_12_fresh : (hostOps0_12 : List (HloOp τ sig (Elt F))).Forall fun op => op.fresh = ∅ := by
  simp only [List.Forall]; repeat' constructor
/-- writes these buffers only, -/
abbrev hostOps0_12_W : List (Ref sig .tc) := [main_v28]
theorem hostOps0_12_writes : (hostOps0_12 : List (HloOp τ sig (Elt F))).Forall fun op => op.writes ⊆ (hostOps0_12_W.map (Proc.devRef (τ := τ) .tc)).toFinset :=
  StableHlo.forall_writes_sub_of_map rfl
/-- and no argument. -/
theorem hostOps0_12_args : ∀ a ∈ argRefs, a ∉ hostOps0_12_W := ListAll.forall_mem_of_all_decide (by decide +kernel)

/-- `hostOps3` allocates nothing, -/
theorem hostOps3_fresh : (hostOps3 : List (HloOp τ sig (Elt F))).Forall fun op => op.fresh = ∅ := by
  simp only [List.Forall]; repeat' constructor
/-- writes these buffers only, -/
abbrev hostOps3_W : List (Ref sig .tc) := [main_v32, main_v33]
theorem hostOps3_writes : (hostOps3 : List (HloOp τ sig (Elt F))).Forall fun op => op.writes ⊆ (hostOps3_W.map (Proc.devRef (τ := τ) .tc)).toFinset :=
  StableHlo.forall_writes_sub_of_map rfl
/-- and no argument. -/
theorem hostOps3_args : ∀ a ∈ argRefs, a ∉ hostOps3_W := ListAll.forall_mem_of_all_decide (by decide +kernel)

/-- `hostOps5` allocates nothing, -/
theorem hostOps5_fresh : (hostOps5 : List (HloOp τ sig (Elt F))).Forall fun op => op.fresh = ∅ := by
  simp only [List.Forall]; repeat' constructor
/-- writes these buffers only, -/
abbrev hostOps5_W : List (Ref sig .tc) := [main_v36, main_v37, main_v38, main_c_5, main_v39]
theorem hostOps5_writes : (hostOps5 : List (HloOp τ sig (Elt F))).Forall fun op => op.writes ⊆ (hostOps5_W.map (Proc.devRef (τ := τ) .tc)).toFinset :=
  StableHlo.forall_writes_sub_of_map rfl
/-- and no argument. -/
theorem hostOps5_args : ∀ a ∈ argRefs, a ∉ hostOps5_W := ListAll.forall_mem_of_all_decide (by decide +kernel)

end Cert.KernelIdeal.Run

end
-- ==== Proof.Run.Fold.lean ====
module

public import proofs.«01_k».proof.Proof.Run.Call0
public import proofs.«01_k».proof.Proof.Run.Call1
public import proofs.«01_k».proof.Proof.Run.Call2
public import proofs.«01_k».proof.Proof.Run.Call3
public import proofs.«01_k».proof.Proof.Run.Call4
public import proofs.«01_k».proof.Proof.Run.Hosts

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffers' contents from the launch to the return

`WJ` is what the buffers of a core hold before item `J` of the program, an item being a stretch of host operations or a
call; `WJ_of` is what item `J - 1` leaves as it was. -/

/-- At launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl

/-- After `hostOps0`. -/
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)

/-- After `hostOps0_1`. -/
abbrev W2 : Dev nD → Valuation τ sig (Elt F) := fun c => StableHlo.after hostOps0_1 (W1 m ρ c)
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
theorem W2_args (c : Dev nD) : ∀ a ∈ argRefs, W2 m ρ c (Proc.devRef .tc a) = m ((c : Thread nD τ).loc a) :=
  fun a ha => (W2_of m ρ c a (hostOps0_1_args a ha)).trans (W1_args m ρ c a ha)

/-- After `hostOps0_2`. -/
abbrev W3 : Dev nD → Valuation τ sig (Elt F) := fun c => StableHlo.after hostOps0_2 (W2 m ρ c)
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
theorem W3_args (c : Dev nD) : ∀ a ∈ argRefs, W3 m ρ c (Proc.devRef .tc a) = m ((c : Thread nD τ).loc a) :=
  fun a ha => (W3_of m ρ c a (hostOps0_2_args a ha)).trans (W2_args m ρ c a ha)

/-- After `hostOps0_3`. -/
abbrev W4 : Dev nD → Valuation τ sig (Elt F) := fun c => StableHlo.after hostOps0_3 (W3 m ρ c)
theorem W4_of (c : Dev nD) (r : Ref sig .tc) (h : r ∉ hostOps0_3_W) : W4 m ρ c (Proc.devRef .tc r) = W3 m ρ c (Proc.devRef .tc r) :=
  StableHlo.after_of_writes_sub hostOps0_3 _ hostOps0_3_writes h
theorem W4_args (c : Dev nD) : ∀ a ∈ argRefs, W4 m ρ c (Proc.devRef .tc a) = m ((c : Thread nD τ).loc a) :=
  fun a ha => (W4_of m ρ c a (hostOps0_3_args a ha)).trans (W3_args m ρ c a ha)

/-- After `hostOps0_4`. -/
abbrev W5 : Dev nD → Valuation τ sig (Elt F) := fun c => StableHlo.after hostOps0_4 (W4 m ρ c)
theorem W5_of (c : Dev nD) (r : Ref sig .tc) (h : r ∉ hostOps0_4_W) : W5 m ρ c (Proc.devRef .tc r) = W4 m ρ c (Proc.devRef .tc r) :=
  StableHlo.after_of_writes_sub hostOps0_4 _ hostOps0_4_writes h
theorem W5_args (c : Dev nD) : ∀ a ∈ argRefs, W5 m ρ c (Proc.devRef .tc a) = m ((c : Thread nD τ).loc a) :=
  fun a ha => (W5_of m ρ c a (hostOps0_4_args a ha)).trans (W4_args m ρ c a ha)

/-- After `hostOps0_5`. -/
abbrev W6 : Dev nD → Valuation τ sig (Elt F) := fun c => StableHlo.after hostOps0_5 (W5 m ρ c)
theorem W6_of (c : Dev nD) (r : Ref sig .tc) (h : r ∉ hostOps0_5_W) : W6 m ρ c (Proc.devRef .tc r) = W5 m ρ c (Proc.devRef .tc r) :=
  StableHlo.after_of_writes_sub hostOps0_5 _ hostOps0_5_writes h
theorem W6_args (c : Dev nD) : ∀ a ∈ argRefs, W6 m ρ c (Proc.devRef .tc a) = m ((c : Thread nD τ).loc a) :=
  fun a ha => (W6_of m ρ c a (hostOps0_5_args a ha)).trans (W5_args m ρ c a ha)

/-- After `hostOps0_6`. -/
abbrev W7 : Dev nD → Valuation τ sig (Elt F) := fun c => StableHlo.after hostOps0_6 (W6 m ρ c)
theorem W7_of (c : Dev nD) (r : Ref sig .tc) (h : r ∉ hostOps0_6_W) : W7 m ρ c (Proc.devRef .tc r) = W6 m ρ c (Proc.devRef .tc r) :=
  StableHlo.after_of_writes_sub hostOps0_6 _ hostOps0_6_writes h
theorem W7_args (c : Dev nD) : ∀ a ∈ argRefs, W7 m ρ c (Proc.devRef .tc a) = m ((c : Thread nD τ).loc a) :=
  fun a ha => (W7_of m ρ c a (hostOps0_6_args a ha)).trans (W6_args m ρ c a ha)

/-- After `hostOps0_7`. -/
abbrev W8 : Dev nD → Valuation τ sig (Elt F) := fun c => StableHlo.after hostOps0_7 (W7 m ρ c)
theorem W8_of (c : Dev nD) (r : Ref sig .tc) (h : r ∉ hostOps0_7_W) : W8 m ρ c (Proc.devRef .tc r) = W7 m ρ c (Proc.devRef .tc r) :=
  StableHlo.after_of_writes_sub hostOps0_7 _ hostOps0_7_writes h
theorem W8_args (c : Dev nD) : ∀ a ∈ argRefs, W8 m ρ c (Proc.devRef .tc a) = m ((c : Thread nD τ).loc a) :=
  fun a ha => (W8_of m ρ c a (hostOps0_7_args a ha)).trans (W7_args m ρ c a ha)

/-- After `hostOps0_8`. -/
abbrev W9 : Dev nD → Valuation τ sig (Elt F) := fun c => StableHlo.after hostOps0_8 (W8 m ρ c)
theorem W9_of (c : Dev nD) (r : Ref sig .tc) (h : r ∉ hostOps0_8_W) : W9 m ρ c (Proc.devRef .tc r) = W8 m ρ c (Proc.devRef .tc r) :=
  StableHlo.after_of_writes_sub hostOps0_8 _ hostOps0_8_writes h
theorem W9_args (c : Dev nD) : ∀ a ∈ argRefs, W9 m ρ c (Proc.devRef .tc a) = m ((c : Thread nD τ).loc a) :=
  fun a ha => (W9_of m ρ c a (hostOps0_8_args a ha)).trans (W8_args m ρ c a ha)

/-- After `hostOps0_9`. -/
abbrev W10 : Dev nD → Valuation τ sig (Elt F) := fun c => StableHlo.after hostOps0_9 (W9 m ρ c)
theorem W10_of (c : Dev nD) (r : Ref sig .tc) (h : r ∉ hostOps0_9_W) : W10 m ρ c (Proc.devRef .tc r) = W9 m ρ c (Proc.devRef .tc r) :=
  StableHlo.after_of_writes_sub hostOps0_9 _ hostOps0_9_writes h
theorem W10_args (c : Dev nD) : ∀ a ∈ argRefs, W10 m ρ c (Proc.devRef .tc a) = m ((c : Thread nD τ).loc a) :=
  fun a ha => (W10_of m ρ c a (hostOps0_9_args a ha)).trans (W9_args m ρ c a ha)

/-- After `hostOps0_10`. -/
abbrev W11 : Dev nD → Valuation τ sig (Elt F) := fun c => StableHlo.after hostOps0_10 (W10 m ρ c)
theorem W11_of (c : Dev nD) (r : Ref sig .tc) (h : r ∉ hostOps0_10_W) : W11 m ρ c (Proc.devRef .tc r) = W10 m ρ c (Proc.devRef .tc r) :=
  StableHlo.after_of_writes_sub hostOps0_10 _ hostOps0_10_writes h
theorem W11_args (c : Dev nD) : ∀ a ∈ argRefs, W11 m ρ c (Proc.devRef .tc a) = m ((c : Thread nD τ).loc a) :=
  fun a ha => (W11_of m ρ c a (hostOps0_10_args a ha)).trans (W10_args m ρ c a ha)

/-- After `hostOps0_11`. -/
abbrev W12 : Dev nD → Valuation τ sig (Elt F) := fun c => StableHlo.after hostOps0_11 (W11 m ρ c)
theorem W12_of (c : Dev nD) (r : Ref sig .tc) (h : r ∉ hostOps0_11_W) : W12 m ρ c (Proc.devRef .tc r) = W11 m ρ c (Proc.devRef .tc r) :=
  StableHlo.after_of_writes_sub hostOps0_11 _ hostOps0_11_writes h
theorem W12_args (c : Dev nD) : ∀ a ∈ argRefs, W12 m ρ c (Proc.devRef .tc a) = m ((c : Thread nD τ).loc a) :=
  fun a ha => (W12_of m ρ c a (hostOps0_11_args a ha)).trans (W11_args m ρ c a ha)

/-- After `hostOps0_12`. -/
abbrev W13 : Dev nD → Valuation τ sig (Elt F) := fun c => StableHlo.after hostOps0_12 (W12 m ρ c)
theorem W13_of (c : Dev nD) (r : Ref sig .tc) (h : r ∉ hostOps0_12_W) : W13 m ρ c (Proc.devRef .tc r) = W12 m ρ c (Proc.devRef .tc r) :=
  StableHlo.after_of_writes_sub hostOps0_12 _ hostOps0_12_writes h
theorem W13_args (c : Dev nD) : ∀ a ∈ argRefs, W13 m ρ c (Proc.devRef .tc a) = m ((c : Thread nD τ).loc a) :=
  fun a ha => (W13_of m ρ c a (hostOps0_12_args a ha)).trans (W12_args m ρ c a ha)
/-- The contents call 0 starts from. -/
abbrev V13 : (c : Dev nD) → (b : Ref sig .tc) → Buf (Elt F) ((c : Thread nD τ).loc b) := fun c b => W13 m ρ c b

/-- After call 0: its arrays hold what its write-backs leave, all other buffers are as before. -/
def W14 (c : Dev nD) : Valuation τ sig (Elt F) :=
  Pipeline.withArrays spec0 c (W13 m ρ c) fun w => (dat0 (V13 m ρ) c).arrAt w cfg0.N
theorem W14_arr (c : Dev nD) (w : Fin cfg0.W) :
    W14 m ρ c (Proc.devRef .tc (Pipeline.arrRef spec0 w)) = (dat0 (V13 m ρ) c).arrAt w cfg0.N := by
  unfold W14; exact Pipeline.withArrays_arr spec0 launch0.win.arr_inj c _ _ w
theorem W14_of_ne (c : Dev nD) (b : Ref sig .tc) (hb : ∀ w, Pipeline.arrRef spec0 w ≠ b) :
    W14 m ρ c (Proc.devRef .tc b) = W13 m ρ c (Proc.devRef .tc b) := by
  unfold W14; exact Pipeline.withArrays_of_ne spec0 c _ _ b hb
/-- An array the call only reads keeps its contents, and so does a buffer that is none of its arrays. -/
theorem W14_of (c : Dev nD) (r : Ref sig .tc) (h : ∀ w : Fin cfg0.W, Pipeline.arrRef spec0 w = r → (cfg0.win w).isOut = false) :
    W14 m ρ c (Proc.devRef .tc r) = W13 m ρ c (Proc.devRef .tc r) := by
  by_cases hw : ∃ w : Fin cfg0.W, Pipeline.arrRef spec0 w = r
  · obtain ⟨w, rfl⟩ := hw
    exact (W14_arr m ρ c w).trans (((dat0 (V13 m ρ) c).arrAt_in w (h w rfl) _).trans (A_eq0 (V13 m ρ) c w))
  · exact W14_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W14_args (c : Dev nD) : ∀ a ∈ argRefs, W14 m ρ c (Proc.devRef .tc a) = m ((c : Thread nD τ).loc a) :=
  fun a ha => (W14_of m ρ c a (argsIn0 a ha)).trans (W13_args m ρ c a ha)
abbrev V14 : (c : Dev nD) → (b : Ref sig .tc) → Buf (Elt F) ((c : Thread nD τ).loc b) := fun c b => W14 m ρ c b
theorem hF0 (c : Dev nD) (w : Fin cfg0.W) : (dat0 (V13 m ρ) c).arrAt w cfg0.N = V14 m ρ c (Pipeline.arrRef spec0 w) :=
  (W14_arr m ρ c w).symm
theorem hrest0 (c : Dev nD) : ∀ b, b ∉ Finset.univ.image (Pipeline.arrRef spec0) → V14 m ρ c b = V13 m ρ c b :=
  fun b hb => W14_of_ne m ρ c b fun w e => hb (Finset.mem_image.mpr ⟨w, Finset.mem_univ _, e⟩)

/-- After call 1: its arrays hold what its write-backs leave, all other buffers are as before. -/
def W15 (c : Dev nD) : Valuation τ sig (Elt F) :=
  Pipeline.withArrays spec1 c (W14 m ρ c) fun w => (dat1 (V14 m ρ) c).arrAt w cfg1.N
theorem W15_arr (c : Dev nD) (w : Fin cfg1.W) :
    W15 m ρ c (Proc.devRef .tc (Pipeline.arrRef spec1 w)) = (dat1 (V14 m ρ) c).arrAt w cfg1.N := by
  unfold W15; exact Pipeline.withArrays_arr spec1 launch1.win.arr_inj c _ _ w
theorem W15_of_ne (c : Dev nD) (b : Ref sig .tc) (hb : ∀ w, Pipeline.arrRef spec1 w ≠ b) :
    W15 m ρ c (Proc.devRef .tc b) = W14 m ρ c (Proc.devRef .tc b) := by
  unfold W15; exact Pipeline.withArrays_of_ne spec1 c _ _ b hb
/-- An array the call only reads keeps its contents, and so does a buffer that is none of its arrays. -/
theorem W15_of (c : Dev nD) (r : Ref sig .tc) (h : ∀ w : Fin cfg1.W, Pipeline.arrRef spec1 w = r → (cfg1.win w).isOut = false) :
    W15 m ρ c (Proc.devRef .tc r) = W14 m ρ c (Proc.devRef .tc r) := by
  by_cases hw : ∃ w : Fin cfg1.W, Pipeline.arrRef spec1 w = r
  · obtain ⟨w, rfl⟩ := hw
    exact (W15_arr m ρ c w).trans (((dat1 (V14 m ρ) c).arrAt_in w (h w rfl) _).trans (A_eq1 (V14 m ρ) c w))
  · exact W15_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W15_args (c : Dev nD) : ∀ a ∈ argRefs, W15 m ρ c (Proc.devRef .tc a) = m ((c : Thread nD τ).loc a) :=
  fun a ha => (W15_of m ρ c a (argsIn1 a ha)).trans (W14_args m ρ c a ha)
abbrev V15 : (c : Dev nD) → (b : Ref sig .tc) → Buf (Elt F) ((c : Thread nD τ).loc b) := fun c b => W15 m ρ c b
theorem hF1 (c : Dev nD) (w : Fin cfg1.W) : (dat1 (V14 m ρ) c).arrAt w cfg1.N = V15 m ρ c (Pipeline.arrRef spec1 w) :=
  (W15_arr m ρ c w).symm
theorem hrest1 (c : Dev nD) : ∀ b, b ∉ Finset.univ.image (Pipeline.arrRef spec1) → V15 m ρ c b = V14 m ρ c b :=
  fun b hb => W15_of_ne m ρ c b fun w e => hb (Finset.mem_image.mpr ⟨w, Finset.mem_univ _, e⟩)

/-- After call 2: its arrays hold what its write-backs leave, all other buffers are as before. -/
def W16 (c : Dev nD) : Valuation τ sig (Elt F) :=
  Pipeline.withArrays spec2 c (W15 m ρ c) fun w => (dat2 (V15 m ρ) c).arrAt w cfg2.N
theorem W16_arr (c : Dev nD) (w : Fin cfg2.W) :
    W16 m ρ c (Proc.devRef .tc (Pipeline.arrRef spec2 w)) = (dat2 (V15 m ρ) c).arrAt w cfg2.N := by
  unfold W16; exact Pipeline.withArrays_arr spec2 launch2.win.arr_inj c _ _ w
theorem W16_of_ne (c : Dev nD) (b : Ref sig .tc) (hb : ∀ w, Pipeline.arrRef spec2 w ≠ b) :
    W16 m ρ c (Proc.devRef .tc b) = W15 m ρ c (Proc.devRef .tc b) := by
  unfold W16; exact Pipeline.withArrays_of_ne spec2 c _ _ b hb
/-- An array the call only reads keeps its contents, and so does a buffer that is none of its arrays. -/
theorem W16_of (c : Dev nD) (r : Ref sig .tc) (h : ∀ w : Fin cfg2.W, Pipeline.arrRef spec2 w = r → (cfg2.win w).isOut = false) :
    W16 m ρ c (Proc.devRef .tc r) = W15 m ρ c (Proc.devRef .tc r) := by
  by_cases hw : ∃ w : Fin cfg2.W, Pipeline.arrRef spec2 w = r
  · obtain ⟨w, rfl⟩ := hw
    exact (W16_arr m ρ c w).trans (((dat2 (V15 m ρ) c).arrAt_in w (h w rfl) _).trans (A_eq2 (V15 m ρ) c w))
  · exact W16_of_ne m ρ c r fun w e => hw ⟨w, e⟩
theorem argsIn2 : ∀ a ∈ argRefs, ∀ w : Fin cfg2.W, Pipeline.arrRef spec2 w = a → (cfg2.win w).isOut = false :=
  ListAll.forall_mem_of_all_decide (by decide +kernel)
theorem W16_args (c : Dev nD) : ∀ a ∈ argRefs, W16 m ρ c (Proc.devRef .tc a) = m ((c : Thread nD τ).loc a) :=
  fun a ha => (W16_of m ρ c a (argsIn2 a ha)).trans (W15_args m ρ c a ha)
abbrev V16 : (c : Dev nD) → (b : Ref sig .tc) → Buf (Elt F) ((c : Thread nD τ).loc b) := fun c b => W16 m ρ c b
theorem hF2 (c : Dev nD) (w : Fin cfg2.W) : (dat2 (V15 m ρ) c).arrAt w cfg2.N = V16 m ρ c (Pipeline.arrRef spec2 w) :=
  (W16_arr m ρ c w).symm
theorem hrest2 (c : Dev nD) : ∀ b, b ∉ Finset.univ.image (Pipeline.arrRef spec2) → V16 m ρ c b = V15 m ρ c b :=
  fun b hb => W16_of_ne m ρ c b fun w e => hb (Finset.mem_image.mpr ⟨w, Finset.mem_univ _, e⟩)

/-- After `hostOps3`. -/
abbrev W17 : Dev nD → Valuation τ sig (Elt F) := fun c => StableHlo.after hostOps3 (W16 m ρ c)
theorem W17_of (c : Dev nD) (r : Ref sig .tc) (h : r ∉ hostOps3_W) : W17 m ρ c (Proc.devRef .tc r) = W16 m ρ c (Proc.devRef .tc r) :=
  StableHlo.after_of_writes_sub hostOps3 _ hostOps3_writes h
theorem W17_args (c : Dev nD) : ∀ a ∈ argRefs, W17 m ρ c (Proc.devRef .tc a) = m ((c : Thread nD τ).loc a) :=
  fun a ha => (W17_of m ρ c a (hostOps3_args a ha)).trans (W16_args m ρ c a ha)
/-- The contents call 3 starts from. -/
abbrev V17 : (c : Dev nD) → (b : Ref sig .tc) → Buf (Elt F) ((c : Thread nD τ).loc b) := fun c b => W17 m ρ c b

/-- After call 3: its arrays hold what its write-backs leave, all other buffers are as before. -/
def W18 (c : Dev nD) : Valuation τ sig (Elt F) :=
  Pipeline.withArrays spec3 c (W17 m ρ c) fun w => (dat3 (V17 m ρ) c).arrAt w cfg3.N
theorem W18_arr (c : Dev nD) (w : Fin cfg3.W) :
    W18 m ρ c (Proc.devRef .tc (Pipeline.arrRef spec3 w)) = (dat3 (V17 m ρ) c).arrAt w cfg3.N := by
  unfold W18; exact Pipeline.withArrays_arr spec3 launch3.win.arr_inj c _ _ w
theorem W18_of_ne (c : Dev nD) (b : Ref sig .tc) (hb : ∀ w, Pipeline.arrRef spec3 w ≠ b) :
    W18 m ρ c (Proc.devRef .tc b) = W17 m ρ c (Proc.devRef .tc b) := by
  unfold W18; exact Pipeline.withArrays_of_ne spec3 c _ _ b hb
/-- An array the call only reads keeps its contents, and so does a buffer that is none of its arrays. -/
theorem W18_of (c : Dev nD) (r : Ref sig .tc) (h : ∀ w : Fin cfg3.W, Pipeline.arrRef spec3 w = r → (cfg3.win w).isOut = false) :
    W18 m ρ c (Proc.devRef .tc r) = W17 m ρ c (Proc.devRef .tc r) := by
  by_cases hw : ∃ w : Fin cfg3.W, Pipeline.arrRef spec3 w = r
  · obtain ⟨w, rfl⟩ := hw
    exact (W18_arr m ρ c w).trans (((dat3 (V17 m ρ) c).arrAt_in w (h w rfl) _).trans (A_eq3 (V17 m ρ) c w))
  · exact W18_of_ne m ρ c r fun w e => hw ⟨w, e⟩
theorem argsIn3 : ∀ a ∈ argRefs, ∀ w : Fin cfg3.W, Pipeline.arrRef spec3 w = a → (cfg3.win w).isOut = false :=
  ListAll.forall_mem_of_all_decide (by decide +kernel)
theorem W18_args (c : Dev nD) : ∀ a ∈ argRefs, W18 m ρ c (Proc.devRef .tc a) = m ((c : Thread nD τ).loc a) :=
  fun a ha => (W18_of m ρ c a (argsIn3 a ha)).trans (W17_args m ρ c a ha)
abbrev V18 : (c : Dev nD) → (b : Ref sig .tc) → Buf (Elt F) ((c : Thread nD τ).loc b) := fun c b => W18 m ρ c b
theorem hF3 (c : Dev nD) (w : Fin cfg3.W) : (dat3 (V17 m ρ) c).arrAt w cfg3.N = V18 m ρ c (Pipeline.arrRef spec3 w) :=
  (W18_arr m ρ c w).symm
theorem hrest3 (c : Dev nD) : ∀ b, b ∉ Finset.univ.image (Pipeline.arrRef spec3) → V18 m ρ c b = V17 m ρ c b :=
  fun b hb => W18_of_ne m ρ c b fun w e => hb (Finset.mem_image.mpr ⟨w, Finset.mem_univ _, e⟩)

/-- After call 4: its arrays hold what its write-backs leave, all other buffers are as before. -/
def W19 (c : Dev nD) : Valuation τ sig (Elt F) :=
  Pipeline.withArrays spec4 c (W18 m ρ c) fun w => (dat4 (V18 m ρ) c).arrAt w cfg4.N
theorem W19_arr (c : Dev nD) (w : Fin cfg4.W) :
    W19 m ρ c (Proc.devRef .tc (Pipeline.arrRef spec4 w)) = (dat4 (V18 m ρ) c).arrAt w cfg4.N := by
  unfold W19; exact Pipeline.withArrays_arr spec4 launch4.win.arr_inj c _ _ w
theorem W19_of_ne (c : Dev nD) (b : Ref sig .tc) (hb : ∀ w, Pipeline.arrRef spec4 w ≠ b) :
    W19 m ρ c (Proc.devRef .tc b) = W18 m ρ c (Proc.devRef .tc b) := by
  unfold W19; exact Pipeline.withArrays_of_ne spec4 c _ _ b hb
/-- An array the call only reads keeps its contents, and so does a buffer that is none of its arrays. -/
theorem W19_of (c : Dev nD) (r : Ref sig .tc) (h : ∀ w : Fin cfg4.W, Pipeline.arrRef spec4 w = r → (cfg4.win w).isOut = false) :
    W19 m ρ c (Proc.devRef .tc r) = W18 m ρ c (Proc.devRef .tc r) := by
  by_cases hw : ∃ w : Fin cfg4.W, Pipeline.arrRef spec4 w = r
  · obtain ⟨w, rfl⟩ := hw
    exact (W19_arr m ρ c w).trans (((dat4 (V18 m ρ) c).arrAt_in w (h w rfl) _).trans (A_eq4 (V18 m ρ) c w))
  · exact W19_of_ne m ρ c r fun w e => hw ⟨w, e⟩
theorem argsIn4 : ∀ a ∈ argRefs, ∀ w : Fin cfg4.W, Pipeline.arrRef spec4 w = a → (cfg4.win w).isOut = false :=
  ListAll.forall_mem_of_all_decide (by decide +kernel)
theorem W19_args (c : Dev nD) : ∀ a ∈ argRefs, W19 m ρ c (Proc.devRef .tc a) = m ((c : Thread nD τ).loc a) :=
  fun a ha => (W19_of m ρ c a (argsIn4 a ha)).trans (W18_args m ρ c a ha)
abbrev V19 : (c : Dev nD) → (b : Ref sig .tc) → Buf (Elt F) ((c : Thread nD τ).loc b) := fun c b => W19 m ρ c b
theorem hF4 (c : Dev nD) (w : Fin cfg4.W) : (dat4 (V18 m ρ) c).arrAt w cfg4.N = V19 m ρ c (Pipeline.arrRef spec4 w) :=
  (W19_arr m ρ c w).symm
theorem hrest4 (c : Dev nD) : ∀ b, b ∉ Finset.univ.image (Pipeline.arrRef spec4) → V19 m ρ c b = V18 m ρ c b :=
  fun b hb => W19_of_ne m ρ c b fun w e => hb (Finset.mem_image.mpr ⟨w, Finset.mem_univ _, e⟩)

/-- After `hostOps5`. -/
abbrev W20 : Dev nD → Valuation τ sig (Elt F) := fun c => StableHlo.after hostOps5 (W19 m ρ c)
theorem W20_of (c : Dev nD) (r : Ref sig .tc) (h : r ∉ hostOps5_W) : W20 m ρ c (Proc.devRef .tc r) = W19 m ρ c (Proc.devRef .tc r) :=
  StableHlo.after_of_writes_sub hostOps5 _ hostOps5_writes h
theorem W20_args (c : Dev nD) : ∀ a ∈ argRefs, W20 m ρ c (Proc.devRef .tc a) = m ((c : Thread nD τ).loc a) :=
  fun a ha => (W20_of m ρ c a (hostOps5_args a ha)).trans (W19_args m ρ c a ha)

end Cert.KernelIdeal.Run

end
-- ==== Proof.Run.State.lean ====
module

public import proofs.«01_k».proof.Proof.Run.Fold

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The calls as segments of the program -/

/-- No call has a table to prefetch. -/
abbrev adm : (p : Fin 5) → (pcfgs (F := F) p).Adm := fun p => (cfgs p).toPCfg_adm
/-- The proof data of each call at the contents it starts from. -/
def pdats : (p : Fin 5) → (c : Dev nD) → Dat τ (Elt F) Unit ℕ (UR sig nD τ) ℕ (Pipeline.pin (pcfgs (F := F)) adm p) c
  | ⟨0, _⟩ => fun c => dat0 (V13 m ρ) c
  | ⟨1, _⟩ => fun c => dat1 (V14 m ρ) c
  | ⟨2, _⟩ => fun c => dat2 (V15 m ρ) c
  | ⟨3, _⟩ => fun c => dat3 (V17 m ρ) c
  | ⟨4, _⟩ => fun c => dat4 (V18 m ρ) c
abbrev 𝒱₀ : Variants := Variants.none
abbrev L : GSem nD τ sig → Finset Unit := fun _ => ∅
abbrev lv : GSem nD τ sig → Unit → ℕ := fun _ _ => 0
/-- What stays beside the buffers throughout: the generator register, and a core owing nothing. -/
abbrev R (c : Dev nD) : sProp 𝕄 := iprop((∃ r, prngReg c r) ∗ ∃ W, owes (c : Thread nD τ) (0 : CellTallies nD τ sig Unit) W)
/-- A stretch of host operations as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The state at the return. -/
abbrev Tₙ (c : Dev nD) : sProp 𝕄 := iprop(StableHlo.held (c : Thread nD τ) (Pipeline.ucRefs τ sig) (W20 m ρ c) ∗ ∃ r, prngReg c r)

end Cert.KernelIdeal.Run

end
-- ==== Proof.Run.Segment0.lean ====
module

public import proofs.«01_k».proof.Proof.Run.State

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Call 0 as a segment, from contents `W13` to contents `W14`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (obligation0 (V13 m ρ) c).loose
  hwaits := Pipeline.hwaits_of_owed_zero _ _ _ _ L lv 0 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec0 c (V13 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V13 m ρ c) (A_eq0 (V13 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V13 m ρ c) (V14 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.Run.Segment1.lean ====
module

public import proofs.«01_k».proof.Proof.Run.State

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Call 1 as a segment, from contents `W14` to contents `W15`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (obligation1 (V14 m ρ) c).loose
  hwaits := Pipeline.hwaits_of_owed_zero _ _ _ _ L lv 1 fun _ _ => rfl
  pre c := iprop(StableHlo.held (c : Thread nD τ) (Pipeline.ucRefs τ sig) (W14 m ρ c) ∗ R c)
  post c := iprop(StableHlo.held (c : Thread nD τ) (Pipeline.ucRefs τ sig) (W15 m ρ c) ∗ R c)
  X c := iprop(∃ r, prngReg c r)
  Y c := iprop(∃ r, prngReg c r)
  Z c := Pipeline.unscopedRest (Ix := Unit) (Name := ℕ) (U := UR sig nD τ) (Lvl := ℕ) spec1 c (V14 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V14 m ρ c) (A_eq1 (V14 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V14 m ρ c) (V15 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.Run.Segment2.lean ====
module

public import proofs.«01_k».proof.Proof.Run.State

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Call 2 as a segment, from contents `W15` to contents `W16`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (obligation2 (V15 m ρ) c).loose
  hwaits := Pipeline.hwaits_of_owed_zero _ _ _ _ L lv 2 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec2 c (V15 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V15 m ρ c) (A_eq2 (V15 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V15 m ρ c) (V16 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.Run.Segment3.lean ====
module

public import proofs.«01_k».proof.Proof.Run.State

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Call 3 as a segment, from contents `W17` to contents `W18`. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (obligation3 (V17 m ρ) c).loose
  hwaits := Pipeline.hwaits_of_owed_zero _ _ _ _ L lv 3 fun _ _ => rfl
  pre c := iprop(StableHlo.held (c : Thread nD τ) (Pipeline.ucRefs τ sig) (W17 m ρ c) ∗ R c)
  post c := iprop(StableHlo.held (c : Thread nD τ) (Pipeline.ucRefs τ sig) (W18 m ρ c) ∗ R c)
  X c := iprop(∃ r, prngReg c r)
  Y c := iprop(∃ r, prngReg c r)
  Z c := Pipeline.unscopedRest (Ix := Unit) (Name := ℕ) (U := UR sig nD τ) (Lvl := ℕ) spec3 c (V17 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V17 m ρ c) (A_eq3 (V17 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V17 m ρ c) (V18 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.Run.Segment4.lean ====
module

public import proofs.«01_k».proof.Proof.Run.State

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Call 4 as a segment, from contents `W18` to contents `W19`. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (obligation4 (V18 m ρ) c).loose
  hwaits := Pipeline.hwaits_of_owed_zero _ _ _ _ L lv 4 fun _ _ => rfl
  pre c := iprop(StableHlo.held (c : Thread nD τ) (Pipeline.ucRefs τ sig) (W18 m ρ c) ∗ R c)
  post c := iprop(StableHlo.held (c : Thread nD τ) (Pipeline.ucRefs τ sig) (W19 m ρ c) ∗ R c)
  X c := iprop(∃ r, prngReg c r)
  Y c := iprop(∃ r, prngReg c r)
  Z c := Pipeline.unscopedRest (Ix := Unit) (Name := ℕ) (U := UR sig nD τ) (Lvl := ℕ) spec4 c (V18 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V18 m ρ c) (A_eq4 (V18 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V18 m ρ c) (V19 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.Run.Whole.lean ====
module

public import proofs.«01_k».proof.Proof.Run.Segment0
public import proofs.«01_k».proof.Proof.Run.Segment1
public import proofs.«01_k».proof.Proof.Run.Segment2
public import proofs.«01_k».proof.Proof.Run.Segment3
public import proofs.«01_k».proof.Proof.Run.Segment4

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The whole run -/

/-- The program as its 20 segments. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .host (hseg hostOps0_5 hostOps0_5_sub hostOps0_5_fresh (W5 m ρ)),
    .host (hseg hostOps0_6 hostOps0_6_sub hostOps0_6_fresh (W6 m ρ)),
    .host (hseg hostOps0_7 hostOps0_7_sub hostOps0_7_fresh (W7 m ρ)),
    .host (hseg hostOps0_8 hostOps0_8_sub hostOps0_8_fresh (W8 m ρ)),
    .host (hseg hostOps0_9 hostOps0_9_sub hostOps0_9_fresh (W9 m ρ)),
    .host (hseg hostOps0_10 hostOps0_10_sub hostOps0_10_fresh (W10 m ρ)),
    .host (hseg hostOps0_11 hostOps0_11_sub hostOps0_11_fresh (W11 m ρ)),
    .host (hseg hostOps0_12 hostOps0_12_sub hostOps0_12_fresh (W12 m ρ)),
    .region (reg0 m ρ),
    .region (reg1 m ρ),
    .region (reg2 m ρ),
    .host (hseg hostOps3 hostOps3_sub hostOps3_fresh (W16 m ρ)),
    .region (reg3 m ρ),
    .region (reg4 m ρ),
    .host (hseg hostOps5 hostOps5_sub hostOps5_fresh (W19 m ρ)) ]
theorem main_run (c : Dev nD) : main (F := F) c = Pipeline.Seg.run (segs m ρ) := (main_chain c).trans (by chain_rfl)

theorem no_unscoped : ∀ sm : SemLoc sig, sm.isScoped .tc = true := by decide

set_option backward.isDefEq.respectTransparency.types false in
/-- Every fair execution from zero counters ends, without a fault, with every buffer at `W20` and every counter at zero. -/
theorem whole : θ_run defs (onTc (τ := τ) (main (F := F))) ⟨m, fun _ => 0, ρ⟩ (fun r =>
      (∀ c : Dev nD, ∀ b ∈ Pipeline.ucRefs τ sig, r.2.mem (((c : Thread nD τ)).1, b) = W20 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m ρ c b)
    (hfin := fun c s' => by
      iintro ⟨⟨Hh, -⟩, HSI⟩
      unfold StableHlo.held
      imodintro
      iapply (pointsTo_read_all (Pipeline.ucRefs τ sig) (fun b => (((c : Thread nD τ)).1, b)) (W20 m ρ c) s')
      isplitl [Hh] <;> iassumption)
    (hQ := fun s h hz => ⟨h, funext fun g => hz g (.inr (no_unscoped g.2))⟩)

/-- The argument arrays end as they began. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun r h =>
    have a : ∀ c : Dev nD, ∀ b ∈ argRefs, ¬ (Proc.devRef .tc b : DevRef τ sig).isScoped →
        r.2.mem ((c.tc : Thread nD τ).loc b) = m ((c.tc : Thread nD τ).loc b) :=
      fun c b hb hs => (h.1 c _ (mem_uc b hs)).trans (W20_args m ρ c b hb)
    ⟨fun c => ⟨a c main_arg0 (by decide) (by decide), a c main_arg1 (by decide) (by decide), a c main_arg2 (by decide) (by decide), a c main_arg3 (by decide) (by decide), a c main_arg4 (by decide) (by decide), a c main_arg5 (by decide) (by decide), a c main_arg6 (by decide) (by decide), a c main_arg7 (by decide) (by decide), a c main_arg8 (by decide) (by decide), a c main_arg9 (by decide) (by decide), a c main_arg10 (by decide) (by decide)⟩, h.2⟩) (whole m ρ)

end Cert.KernelIdeal.Run

end
-- ==== Proof.Val.Bits.lean ====
/-
  WORDS THAT ARE BITS. The kernel computes over the two-element field, on words that hold 0 or 1. Here: a bit as a word (`bw`),
  an array of such words read as a function of natural coordinates (`IsB`), the parity of a word (`par`), and what the printed
  integer operations do to them: the exclusive or is the sum, the reference's remainder by two and the kernel's mask with one are
  both the parity, and a product on the matrix unit with one operand of bits, exact at this size, has the parity of the sum of
  products.
-/
module

public import Idealize.ShloMosaic.Lib.IntMxu
public import Idealize.ShloMosaic.Lib.MatmulPlain
public import Idealize.ShloMosaic.Lib.Pointwise
public import Mathlib.Data.ZMod.Basic
public import Mathlib.Data.BitVec

@[expose] public section

set_option maxRecDepth 16384

noncomputable section

namespace Cert.Val

open Idealize.ShloMosaic
open scoped BigOperators

/-- A bit as a word of `w` bits. -/
def bw (w : ℕ) (z : ZMod 2) : BitVec w := BitVec.ofNat w z.val

/-- The shape of `a` rows and `b` columns. -/
abbrev Sh2 (a b : ℕ) : Shape := ⟨2, ![a, b]⟩

/-- The array `X` holds the bits `x`. -/
def IsB {a b w : ℕ} (X : (Sh2 a b).Idx → BitVec w) (x : ℕ → ℕ → ZMod 2) : Prop :=
  ∀ j : (Sh2 a b).Idx, X j = bw w (x (j 0).val (j 1).val)

/-- The array `X` has the parities `x`. -/
def IsV {a b w : ℕ} (X : (Sh2 a b).Idx → BitVec w) (x : ℕ → ℕ → ZMod 2) : Prop :=
  ∀ j : (Sh2 a b).Idx, ((X j).toNat : ZMod 2) = x (j 0).val (j 1).val

/-- The parity of a word. -/
def par (x : BitVec 32) : ZMod 2 := (x.toNat : ZMod 2)

theorem par_bw (z : ZMod 2) : par (bw 32 z) = z := by revert z; decide

theorem par_add (x y : BitVec 32) : par (x + y) = par x + par y := by
  unfold par
  rw [BitVec.toNat_add, ← Nat.cast_add]
  rw [ZMod.natCast_eq_natCast_iff]
  exact (Nat.mod_modEq_of_dvd _ (by decide : 2 ∣ 2 ^ 32))
where
  Nat.mod_modEq_of_dvd (n : ℕ) {k m : ℕ} (h : k ∣ m) : n % m ≡ n [MOD k] := (Nat.mod_mod_of_dvd n h)

theorem par_mul (x y : BitVec 32) : par (x * y) = par x * par y := by
  unfold par
  rw [BitVec.toNat_mul, ← Nat.cast_mul]
  rw [ZMod.natCast_eq_natCast_iff]
  exact (Nat.mod_mod_of_dvd _ (by decide : 2 ∣ 2 ^ 32))

theorem par_sum {ι : Type} (s : Finset ι) (f : ι → BitVec 32) : par (∑ k ∈ s, f k) = ∑ k ∈ s, par (f k) := by
  classical
  induction s using Finset.induction_on with
  | empty => simp [par]
  | insert a s ha ih => rw [Finset.sum_insert ha, Finset.sum_insert ha, par_add, ih]

/-- A word masked with one is its parity. -/
theorem and_one (x : BitVec 32) : x &&& 1#32 = bw 32 (par x) := by
  apply BitVec.eq_of_toNat_eq
  unfold bw par
  rw [BitVec.toNat_and, BitVec.toNat_ofNat, BitVec.toNat_ofNat, ZMod.val_natCast]
  show x.toNat &&& 1 = _
  rw [Nat.and_one_is_mod]
  omega

theorem par_ofInt (n : ℤ) : par (BitVec.ofInt 32 n) = (n : ZMod 2) := by
  unfold par
  rw [← Int.cast_natCast (R := ZMod 2), ZMod.intCast_eq_intCast_iff]
  show _ % _ = _ % _
  rw [BitVec.toNat_ofInt]
  omega

theorem xor_bw32 (a b : ZMod 2) : bw 32 a ^^^ bw 32 b = bw 32 (a + b) := by revert a b; decide
theorem trunc_bw (a : ZMod 2) : (bw 32 a).setWidth 8 = bw 8 a := by revert a; decide
theorem sext_bw (a : ZMod 2) : (bw 8 a).signExtend 32 = bw 32 a := by revert a; decide
theorem zext_bw1 (a : ZMod 2) : (bw 1 a).setWidth 32 = bw 32 a := by revert a; decide
theorem toInt_bw8 (a : ZMod 2) : (bw 8 a).toInt = (a.val : ℤ) := by revert a; decide
theorem toInt_bw32 (a : ZMod 2) : (bw 32 a).toInt = (a.val : ℤ) := by revert a; decide
theorem pm_word (a : ZMod 2) : ((1#32 - 2#32 * bw 32 a).setWidth 8).toInt = 1 - 2 * (a.val : ℤ) := by revert a; decide
theorem bw_ne_zero (a : ZMod 2) : IntOp.cmpi .ne (bw 32 a) 0#32 = bw 1 a := by revert a; decide

/-- The reference's remainder by two, with the divisor's sign, is the mask with one. -/
theorem mod2_word (W t z : BitVec 32) (b : BitVec 1) (ht : t = 2#32) (hz : z = 0#32) (hb : b = 0#1) :
    Scalar.select (IntOp.andi (IntOp.cmpi .ne (IntOp.cmpi .slt (IntOp.remsi .host W t) z) b)
      (IntOp.cmpi .ne (IntOp.remsi .host W t) z)) (IntOp.addi (IntOp.remsi .host W t) t) (IntOp.remsi .host W t)
      = bw 32 (par W) := by
  subst ht hz hb
  have e : IntOp.remsi .host W 2#32 = W.srem 2#32 := by
    unfold IntOp.remsi
    rw [if_neg]
    unfold IntOp.SDivCorner
    simp
  rw [e, ← and_one]
  have hi : (W.srem 2#32).toInt = W.toInt.tmod 2 := by rw [BitVec.toInt_srem]; rfl
  have hp : (W &&& 1#32).toNat = W.toNat % 2 := by
    rw [BitVec.toNat_and]; show W.toNat &&& 1 = _; rw [Nat.and_one_is_mod]
  have hw : W.toInt % 2 = (W.toNat % 2 : ℕ) := by rw [BitVec.toInt_eq_toNat_cond]; split <;> omega
  generalize W.srem 2#32 = R at hi
  rcases Nat.mod_two_eq_zero_or_one W.toNat with h | h
  · have h1 : R = 0#32 := by
      apply BitVec.eq_of_toInt_eq; rw [hi]
      have : W.toInt.tmod 2 = 0 := Int.tmod_eq_zero_of_dvd (by omega)
      rw [this]; rfl
    have h2 : W &&& 1#32 = 0#32 := BitVec.eq_of_toNat_eq (by rw [hp, h]; rfl)
    rw [h1, h2]; decide
  · have h2 : W &&& 1#32 = 1#32 := BitVec.eq_of_toNat_eq (by rw [hp, h]; rfl)
    have h1 : R = 1#32 ∨ R = (-1#32) := by
      have hb := Int.tmod_two_eq W.toInt
      rcases hb with hb | hb | hb
      · exact absurd (Int.dvd_of_tmod_eq_zero hb) (by omega)
      · left; apply BitVec.eq_of_toInt_eq; rw [hi, hb]; rfl
      · right; apply BitVec.eq_of_toInt_eq; rw [hi, hb]; rfl
    rw [h2]
    rcases h1 with h1 | h1 <;> rw [h1] <;> decide
where
  Int.tmod_two_eq (n : ℤ) : n.tmod 2 = 0 ∨ n.tmod 2 = 1 ∨ n.tmod 2 = -1 := by
    rw [Int.tmod_eq_emod]; split <;> omega

/-! ## Products on the matrix unit -/

section Mxu
variable {α : Type} [AddCommMonoid α] {M K N : ℕ}

/-- A contraction of the second axis with the second axis, whatever is summed. -/
theorem sum_transposed (f : (Sh2 M K).Idx → (Sh2 N K).Idx → α) (j : (Sh2 M N).Idx) :
    (∑ k : (DotDims.transposedRhs M K N).contr.Idx, f ((DotDims.transposedRhs M K N).lhsIdx j k) ((DotDims.transposedRhs M K N).rhsIdx j k))
      = ∑ k : Fin K, f (ix2 (n0 := M) (j 0) k) (ix2 (n0 := N) (j 1) k) := by
  rw [← Equiv.sum_comp (DotDims.transposedRhsContr M K N).symm]
  refine Finset.sum_congr rfl fun k _ => ?_
  have hk := ValueIdx.contrEquiv1_symm_val _ K (DotDims.transposedRhs_contr_rank M K N) (DotDims.transposedRhs_contr_size M K N) k
  congr 1
  · funext a; apply Fin.ext
    match a with
    | ⟨0, _⟩ => rfl
    | ⟨1, _⟩ => exact hk
  · funext a; apply Fin.ext
    match a with
    | ⟨0, _⟩ => rfl
    | ⟨1, _⟩ => exact hk

/-- A contraction of the second axis with the first, whatever is summed. -/
theorem sum_plain (f : (Sh2 M K).Idx → (Sh2 K N).Idx → α) (j : (Sh2 M N).Idx) :
    (∑ k : (DotDims.plain M K N).contr.Idx, f ((DotDims.plain M K N).lhsIdx j k) ((DotDims.plain M K N).rhsIdx j k))
      = ∑ k : Fin K, f (ix2 (n0 := M) (j 0) k) (ix2 (n1 := N) k (j 1)) := by
  rw [← Equiv.sum_comp (DotDims.plainContr M K N).symm]
  refine Finset.sum_congr rfl fun k _ => ?_
  have hk := ValueIdx.contrEquiv1_symm_val _ K (DotDims.plain_contr_rank M K N) (DotDims.plain_contr_size M K N) k
  congr 1
  · funext a; apply Fin.ext
    match a with
    | ⟨0, _⟩ => rfl
    | ⟨1, _⟩ => exact hk
  · funext a; apply Fin.ext
    match a with
    | ⟨0, _⟩ => exact hk
    | ⟨1, _⟩ => rfl

end Mxu

theorem byte_natAbs (y : BitVec 8) : y.toInt.natAbs ≤ 128 := by
  rw [BitVec.toInt_eq_toNat_cond]
  have := y.isLt
  split <;> omega

theorem natAbs_mul_le {a : ℤ} (y : BitVec 8) (ha : a.natAbs ≤ 1) : (a * y.toInt).natAbs ≤ 128 := by
  rw [Int.natAbs_mul]; exact Nat.mul_le_mul ha (byte_natAbs y)

theorem byte_parity (y : BitVec 8) : ((y.toInt : ℤ) : ZMod 2) = (y.toNat : ZMod 2) := by
  rw [← Int.cast_natCast (R := ZMod 2), ZMod.intCast_eq_intCast_iff]
  show _ % _ = _ % _
  rw [BitVec.toInt_eq_toNat_cond]
  split <;> omega

theorem IsB.parity {a b : ℕ} {X : (Sh2 a b).Idx → BitVec 8} {x : ℕ → ℕ → ZMod 2} (h : IsB X x) : IsV X x := by
  intro j
  rw [h j]
  generalize x (j 0).val (j 1).val = z
  revert z; decide

theorem IsB.natAbs {a b : ℕ} {X : (Sh2 a b).Idx → BitVec 8} {x : ℕ → ℕ → ZMod 2} (h : IsB X x) (i : (Sh2 a b).Idx) :
    (X i).toInt.natAbs ≤ 1 := by
  rw [h i, toInt_bw8]
  have := ZMod.val_lt (x (i 0).val (i 1).val)
  omega

theorem cast_val (z : ZMod 2) : (((z.val : ℕ) : ℤ) : ZMod 2) = z := by revert z; decide

section
variable {M K N : ℕ} (hK : K ≤ 8192)
include hK

/-- The matrix unit's `[M,K] × [N,K]ᵀ` on a left operand of magnitude at most one. -/
theorem mxu_transposed (X : IVec (Sh2 M K) 8) (Y : IVec (Sh2 N K) 8) (acc : IVec (Sh2 M N) 32) (j : (Sh2 M N).Idx)
    (h0 : acc j = 0) (hX : ∀ i, (X i).toInt.natAbs ≤ 1) :
    matmulI8 IntMxuNumerics.v7x (DotDims.transposedRhs M K N) X Y acc j
      = BitVec.ofInt 32 (∑ k : Fin K, (X (ix2 (n0 := M) (j 0) k)).toInt * (Y (ix2 (n0 := N) (j 1) k)).toInt) := by
  rw [matmulI8_exact _ _ _ _ _ _ h0]
  · exact congrArg _ (sum_transposed (fun p q => (X p).toInt * (Y q).toInt) j)
  · refine le_trans (le_of_eq (sum_transposed (fun p q => ((X p).toInt * (Y q).toInt).natAbs) j)) ?_
    refine le_trans (Finset.sum_le_sum fun k _ => natAbs_mul_le _ (hX _)) ?_
    rw [Finset.sum_const, Finset.card_univ, Fintype.card_fin, smul_eq_mul]
    exact (Nat.mul_le_mul_right 128 hK).trans (by decide)

/-- The matrix unit's `[M,K] × [K,N]` on a left operand of magnitude at most one. -/
theorem mxu_plain (X : IVec (Sh2 M K) 8) (Y : IVec (Sh2 K N) 8) (acc : IVec (Sh2 M N) 32) (j : (Sh2 M N).Idx)
    (h0 : acc j = 0) (hX : ∀ i, (X i).toInt.natAbs ≤ 1) :
    (matmulI8 IntMxuNumerics.v7x (DotDims.plain M K N) X Y acc j).toInt
      = ∑ k : Fin K, (X (ix2 (n0 := M) (j 0) k)).toInt * (Y (ix2 (n1 := N) k (j 1))).toInt := by
  rw [matmulI8_toInt _ _ _ _ _ _ h0]
  · exact sum_plain (fun p q => (X p).toInt * (Y q).toInt) j
  · refine le_trans (le_of_eq (sum_plain (fun p q => ((X p).toInt * (Y q).toInt).natAbs) j)) ?_
    refine le_trans (Finset.sum_le_sum fun k _ => natAbs_mul_le _ (hX _)) ?_
    rw [Finset.sum_const, Finset.card_univ, Fintype.card_fin, smul_eq_mul]
    exact (Nat.mul_le_mul_right 128 hK).trans (by decide)

/-- The parity of the matrix unit's `[M,K] × [N,K]ᵀ` of an array of bits and an array of any bytes. -/
theorem par_mxu_transposed {X : IVec (Sh2 M K) 8} {Y : IVec (Sh2 N K) 8} {x y : ℕ → ℕ → ZMod 2} (hX : IsB X x) (hY : IsV Y y)
    (acc : IVec (Sh2 M N) 32) (j : (Sh2 M N).Idx) (h0 : acc j = 0) :
    par (matmulI8 IntMxuNumerics.v7x (DotDims.transposedRhs M K N) X Y acc j)
      = ∑ k ∈ Finset.range K, x (j 0).val k * y (j 1).val k := by
  rw [mxu_transposed hK X Y acc j h0 hX.natAbs, par_ofInt, Int.cast_sum, Finset.sum_range]
  refine Finset.sum_congr rfl fun k _ => ?_
  rw [hX, toInt_bw8, Int.cast_mul, cast_val, byte_parity, hY]
  rfl

/-- The parity of the matrix unit's `[M,K] × [K,N]` of an array of bits and an array of any bytes. -/
theorem par_mxu_plain {X : IVec (Sh2 M K) 8} {Y : IVec (Sh2 K N) 8} {x y : ℕ → ℕ → ZMod 2} (hX : IsB X x) (hY : IsV Y y)
    (acc : IVec (Sh2 M N) 32) (j : (Sh2 M N).Idx) (h0 : acc j = 0) :
    par (matmulI8 IntMxuNumerics.v7x (DotDims.plain M K N) X Y acc j)
      = ∑ k ∈ Finset.range K, x (j 0).val k * y k (j 1).val := by
  rw [← BitVec.ofInt_toInt (x := matmulI8 _ _ _ _ _ _),
    mxu_plain hK X Y acc j h0 hX.natAbs, par_ofInt, Int.cast_sum, Finset.sum_range]
  refine Finset.sum_congr rfl fun k _ => ?_
  rw [hX, toInt_bw8, Int.cast_mul, cast_val, byte_parity, hY]
  rfl

end

end Cert.Val
-- ==== Proof.Val.Spec.lean ====
/-
  WHAT IS COMPUTED, on data read at natural coordinates: a decoder of quantum codes over the two-element field. Both programs are
  shown to compute `out` of the same data. The noise is measured by two check matrices (`syn`), the measured bits move the channel's
  log-likelihood ratios (`llr`), their signs are a first guess; where a guess fails its checks in a batch row, the ordered-statistics guess
  (`osd`, repaired on a basis of the checks: `red`, `flip`) replaces it in the whole row; what the logical operators see of noise and
  guess together is the result.
-/
module

public import proofs.«01_k».proof.Proof.Val.Bits
public import Idealize.ShloMosaic.Lib.IdealHost
public import Mathlib.Analysis.SpecialFunctions.Log.Basic

@[expose] public section

noncomputable section

namespace Cert.Val

open Idealize.ShloMosaic
open scoped BigOperators
open Classical

/-- The data: the two kinds of noise and of check, logical and basis matrices as bits, the channel's ratios, the pivots. -/
structure Data where
  nx : ℕ → ℕ → ZMod 2
  nz : ℕ → ℕ → ZMod 2
  L : ℕ → ℕ → ℝ
  hx : ℕ → ℕ → ZMod 2
  hz : ℕ → ℕ → ZMod 2
  lx : ℕ → ℕ → ZMod 2
  lz : ℕ → ℕ → ZMod 2
  px : ℕ → ℕ
  pz : ℕ → ℕ
  bx : ℕ → ℕ → ZMod 2
  bz : ℕ → ℕ → ZMod 2

/-- One where `p` holds. -/
def bit (p : Prop) : ZMod 2 := if p then 1 else 0

/-- The measured bits of the noise `n` under the checks `h`, by batch row and check. -/
def syn (h n : ℕ → ℕ → ZMod 2) (b j : ℕ) : ZMod 2 := ∑ k ∈ Finset.range 4096, n b k * h j k

/-- The weight of the messages: the number the word of 0.1 names. -/
def tenth : ℝ := (Ideal.ofBits .f32 0x3DCCCCCD#32).toReal

/-- The sum of the measured signs over the checks of a bit. -/
def votes (h s : ℕ → ℕ → ZMod 2) (b n : ℕ) : ℤ := ∑ j ∈ Finset.range 2048, (1 - 2 * ((s b j).val : ℤ)) * ((h j n).val : ℤ)

def llr (L : ℕ → ℕ → ℝ) (h s : ℕ → ℕ → ZMod 2) (b n : ℕ) : ℝ := L b n + tenth * (votes h s b n : ℝ)

/-- The soft decision of one kind against the other kind and both. -/
def osd (a b y : ℝ) : ℝ :=
  max (-a) 0 + Real.log (1 + Real.exp (-|(-a)|)) - Real.log (Real.exp (-b) + Real.exp (-y))

/-- The reduced measured bits: the guess under the basis, and the measured bit of the pivot. -/
def red (basis e s : ℕ → ℕ → ZMod 2) (p : ℕ → ℕ) (b i : ℕ) : ZMod 2 :=
  (∑ k ∈ Finset.range 4096, e b k * basis i k) + s b (p i)

/-- The repair carried back to the bits. -/
def flip (basis r : ℕ → ℕ → ZMod 2) (b n : ℕ) : ZMod 2 := ∑ i ∈ Finset.range 2040, r b i * basis i n

namespace Data
variable (D : Data)

def sx : ℕ → ℕ → ZMod 2 := syn D.hx D.nz
def sz : ℕ → ℕ → ZMod 2 := syn D.hz D.nx
def az : ℕ → ℕ → ℝ := llr D.L D.hx D.sx
def ax : ℕ → ℕ → ℝ := llr D.L D.hz D.sz
def ay (b n : ℕ) : ℝ := 1 / 2 * (D.ax b n + D.az b n)
/-- The guesses by sign. -/
def xh (b n : ℕ) : ZMod 2 := bit (D.ax b n < 0)
def zh (b n : ℕ) : ZMod 2 := bit (D.az b n < 0)
/-- What is left of the noise after them. -/
def xd (b n : ℕ) : ZMod 2 := D.nx b n + D.xh b n
def zd (b n : ℕ) : ZMod 2 := D.nz b n + D.zh b n
/-- A check of the row fails. -/
def err (b : ℕ) : Prop := (∃ j < 2048, syn D.hz D.xd b j ≠ 0) ∨ (∃ j < 2048, syn D.hx D.zd b j ≠ 0)
def e0z (b n : ℕ) : ZMod 2 := bit (osd (D.ax b n) (D.az b n) (D.ay b n) < 0)
def e0x (b n : ℕ) : ZMod 2 := bit (osd (D.az b n) (D.ax b n) (D.ay b n) < 0)
def rz : ℕ → ℕ → ZMod 2 := red D.bx D.e0z D.sx D.px
def rx : ℕ → ℕ → ZMod 2 := red D.bz D.e0x D.sz D.pz
def ez (b n : ℕ) : ZMod 2 := D.e0z b n + flip D.bx D.rz b n
def ex (b n : ℕ) : ZMod 2 := D.e0x b n + flip D.bz D.rx b n
/-- What is left of the noise in the end. -/
def d2z (b n : ℕ) : ZMod 2 := D.nz b n + if D.err b then D.ez b n else D.zh b n
def d2x (b n : ℕ) : ZMod 2 := D.nx b n + if D.err b then D.ex b n else D.xh b n
/-- The result, by batch row and logical operator: sixteen of the one kind, then sixteen of the other. -/
def outx (b k : ℕ) : ZMod 2 := ∑ n ∈ Finset.range 4096, D.d2x b n * D.lz k n
def outz (b k : ℕ) : ZMod 2 := ∑ n ∈ Finset.range 4096, D.d2z b n * D.lx k n
def out (b k : ℕ) : ZMod 2 := if k < 16 then D.outx b k else D.outz b (k - 16)

end Data

/-- The eleven arguments hold the data. -/
structure Reads (D : Data) (x0 x1 : IVec (Sh2 1024 4096) 32) (x2 : (Sh2 1024 4096).Idx → EReal) (x3 x4 : IVec (Sh2 2048 4096) 32)
    (x5 x6 : IVec (Sh2 16 4096) 32) (x7 x8 : IVec ⟨1, ![2040]⟩ 32) (x9 x10 : IVec (Sh2 2040 4096) 32) : Prop where
  nx : IsB x0 D.nx
  nz : IsB x1 D.nz
  L : ∀ j, x2 j = ((D.L (j 0).val (j 1).val : ℝ) : EReal)
  hx : IsB x3 D.hx
  hz : IsB x4 D.hz
  lx : IsV x5 D.lx
  lz : IsV x6 D.lz
  px : ∀ j, x7 j = BitVec.ofNat 32 (D.px (j 0).val)
  px_lt : ∀ i, D.px i < 2048
  pz : ∀ j, x8 j = BitVec.ofNat 32 (D.pz (j 0).val)
  pz_lt : ∀ i, D.pz i < 2048
  bx : IsV x9 D.bx
  bz : IsV x10 D.bz

/-! ## The numbers over the extended reals -/

theorem tenth_coe : Ideal.ofBits .f32 0x3DCCCCCD#32 = ((tenth : ℝ) : EReal) := by
  have h : ∃ r : ℝ, Ideal.ofBits .f32 0x3DCCCCCD#32 = (r : EReal) := by
    simp [Ideal.ofBits, Ideal.ieee, -EReal.coe_mul]
  obtain ⟨r, hr⟩ := h
  unfold tenth
  rw [hr, EReal.toReal_coe]

theorem two_coe : Ideal.ofBits .f32 0x40000000#32 = ((2 : ℝ) : EReal) := by
  simp [Ideal.ofBits, Ideal.ieee, -EReal.coe_mul]; norm_num

theorem half_coe : Ideal.ofBits .f32 0x3F000000#32 = ((1 / 2 : ℝ) : EReal) := by
  simp [Ideal.ofBits, Ideal.ieee, -EReal.coe_mul]; norm_num

theorem max_coe (a b : ℝ) : max (a : EReal) (b : EReal) = ((max a b : ℝ) : EReal) := (EReal.coe_strictMono.monotone.map_max).symm

theorem max_zero_coe (a : ℝ) : max (a : EReal) 0 = ((max a 0 : ℝ) : EReal) := by
  rw [← EReal.coe_zero, max_coe]

theorem abs_coe (a : ℝ) : max (a : EReal) (-(a : EReal)) = ((|a| : ℝ) : EReal) := by
  rw [← EReal.coe_neg, max_coe, abs_eq_max_neg]

theorem log_pos_coe {a : ℝ} (h : 0 < a) : Ideal.log (a : EReal) = ((Real.log a : ℝ) : EReal) := by
  rw [Ideal.log_coe, if_neg (not_le.mpr h)]

theorem log1p_exp_coe (a : ℝ) : Ideal.log1p (Ideal.exp (a : EReal)) = ((Real.log (1 + Real.exp a) : ℝ) : EReal) := by
  unfold Ideal.log1p
  rw [Ideal.exp_coe, ← EReal.coe_one, ← EReal.coe_add, log_pos_coe (by positivity)]

theorem log_exp_add_coe (a b : ℝ) :
    Ideal.log (Ideal.exp (a : EReal) + Ideal.exp (b : EReal)) = ((Real.log (Real.exp a + Real.exp b) : ℝ) : EReal) := by
  rw [Ideal.exp_coe, Ideal.exp_coe, ← EReal.coe_add, log_pos_coe (by positivity)]

/-- The logarithm of the sum of two exponentials, the greater taken out. -/
theorem log_exp_shift (a b : ℝ) :
    Real.log (Real.exp (a - max a b) + Real.exp (b - max a b)) + max a b = Real.log (Real.exp a + Real.exp b) := by
  rw [Real.exp_sub, Real.exp_sub, ← add_div, Real.log_div (by positivity) (by positivity), Real.log_exp]
  ring

/-- The reference's text of the soft decision. -/
theorem osd_coe (a b y : ℝ) :
    max (((-a : ℝ) : EReal)) 0 + Ideal.log1p (Ideal.exp (-(max ((-a : ℝ) : EReal) (-((-a : ℝ) : EReal))))) -
      Ideal.log (Ideal.exp ((-b : ℝ) : EReal) + Ideal.exp ((-y : ℝ) : EReal)) = ((osd a b y : ℝ) : EReal) := by
  rw [max_zero_coe, abs_coe, ← EReal.coe_neg, log1p_exp_coe, log_exp_add_coe, ← EReal.coe_add, ← EReal.coe_sub]
  rfl

/-- The kernel's text of the soft decision, with the greater exponent taken out. -/
theorem osd_shift_coe (a b y : ℝ) :
    max (((-a : ℝ) : EReal)) 0 + Ideal.log1p (Ideal.exp (-(max ((-a : ℝ) : EReal) (-((-a : ℝ) : EReal))))) -
      (Ideal.log (Ideal.exp (((-b : ℝ) : EReal) - max ((-b : ℝ) : EReal) ((-y : ℝ) : EReal))
          + Ideal.exp (((-y : ℝ) : EReal) - max ((-b : ℝ) : EReal) ((-y : ℝ) : EReal)))
        + max ((-b : ℝ) : EReal) ((-y : ℝ) : EReal)) = ((osd a b y : ℝ) : EReal) := by
  rw [max_coe, ← EReal.coe_sub, ← EReal.coe_sub, log_exp_add_coe, ← EReal.coe_add, log_exp_shift, ← log_exp_add_coe, osd_coe]

/-- The sign of a real as a word. -/
theorem lt_zero_word (a : ℝ) : FloatOps.cmpf (F := Ideal) (φ := .f32) .olt ((a : ℝ) : EReal) (0 : EReal) = bw 1 (bit (a < 0)) := by
  show BitVec.ofBool (decide ((a : EReal) < 0)) = _
  have : ((a : EReal) < 0) ↔ a < 0 := by rw [← EReal.coe_zero, EReal.coe_lt_coe_iff]
  unfold bit
  by_cases h : a < 0
  · rw [if_pos h, decide_eq_true (this.mpr h)]; rfl
  · rw [if_neg h, decide_eq_false (fun k => h (this.mp k))]; rfl

end Cert.Val
-- ==== Proof.Val.Host.lean ====
/-
  THE HOST'S PREPARATION, READ. What the host's operations before the first call leave: the argument arrays as bytes, the two
  bases and the two logical matrices padded with zero rows, the pivots as rows with a single one, and each basis beside its
  pivots.
-/
module

public import proofs.«01_k».proof.Proof.Run.Fold
public import proofs.«01_k».proof.Proof.Val.Spec
public import Idealize.ShloMosaic.Lib.Pointwise

@[expose] public section

set_option maxRecDepth 16384

noncomputable section

namespace Cert.Val

open Idealize.ShloMosaic Idealize.ShloMosaic.TcCoe Idealize.ShloMosaic.Tactic
open Cert.KernelIdeal Cert.KernelIdeal.Gen Cert.KernelIdeal.Run
open scoped BigOperators
open Classical

/-- The rows below `n` of `x`, and rows of zeros from there on. -/
def rows (n : ℕ) (x : ℕ → ℕ → ZMod 2) (i k : ℕ) : ZMod 2 := if i < n then x i k else 0

/-- A one where the pivot of the row is. -/
def ones (p : ℕ → ℕ) : ℕ → ℕ → ZMod 2 := rows 2040 fun i k => bit (p i = k)

/-- The columns of `x` up to `n`, and then those of `y`. -/
def beside (n : ℕ) (x y : ℕ → ℕ → ZMod 2) (i k : ℕ) : ZMod 2 := if k < n then x i k else y i (k - n)

theorem bytes {a b : ℕ} {X : (Sh2 a b).Idx → BitVec 32} {x : ℕ → ℕ → ZMod 2} (h : IsB X x) (hw : 8 < 32) :
    IsB (trunci 8 (X : IVec (Sh2 a b) 32) hw) x := by
  intro j
  show (X j).setWidth 8 = _
  rw [h j, trunc_bw]

theorem byteParities {a b : ℕ} {X : (Sh2 a b).Idx → BitVec 32} {x : ℕ → ℕ → ZMod 2} (h : IsV X x) (hw : 8 < 32) :
    IsV (trunci 8 (X : IVec (Sh2 a b) 32) hw) x := by
  intro j
  refine Eq.trans ?_ (h j)
  show (((X j).setWidth 8).toNat : ZMod 2) = _
  rw [BitVec.toNat_setWidth, ZMod.natCast_eq_natCast_iff]
  exact Nat.mod_mod_of_dvd _ (by decide : 2 ∣ 2 ^ 8)

theorem padded_basis {X : IVec S2040x4096 32} {x : ℕ → ℕ → ZMod 2} (h : IsV (a := 2040) (b := 4096) X x) (v : IVec S_ 32) (hv : ∀ i, v i = 0#32)
    (hp) : IsV (a := 2048) (b := 4096) (pad S2048x4096 ![0, 0] ![8, 0] ![0, 0] X v hp h_S_) (rows 2040 x) := by
  intro j
  pointwise
  unfold rows
  split
  · exact h _
  · exact (congrArg (fun w : BitVec 32 => (w.toNat : ZMod 2)) (hv _)).trans (by decide)

theorem padded_logical {X : IVec S16x4096 32} {x : ℕ → ℕ → ZMod 2} (h : IsV (a := 16) (b := 4096) X x) (v : IVec S_ 32) (hv : ∀ i, v i = 0#32)
    (hp) : IsV (a := 128) (b := 4096) (pad S128x4096 ![0, 0] ![112, 0] ![0, 0] X v hp h_S_) (rows 16 x) := by
  intro j
  pointwise
  unfold rows
  split
  · exact h _
  · exact (congrArg (fun w : BitVec 32 => (w.toNat : ZMod 2)) (hv _)).trans (by decide)

theorem padded_pivots {X : IVec S2040 32} {p : ℕ → ℕ} (h : ∀ j, X j = BitVec.ofNat 32 (p (j 0).val)) (v : IVec S_ 32) (hv : ∀ i, v i = 4294967295#32)
    (hp) (i : S2048.Idx) : pad S2048 ![0] ![8] ![0] X v hp h_S_ i = if (i 0).val < 2040 then BitVec.ofNat 32 (p (i 0).val) else 4294967295#32 := by
  pointwise
  split
  · exact h _
  · exact hv _

/-- The comparison of each row's pivot with each column, as bytes. -/
def pivotRows (P : IVec S2048 32) : IVec S2048x2048 8 :=
  extui 8 (cmpi .eq (broadcastInDim S2048x2048 ![0, 1] bcast_S2048x1_S2048x2048_0_1 (broadcastInDim S2048x1 ![0] bcast_S2048_S2048x1_0 P))
    (broadcastInDim S2048x2048 ![0, 1] bcast_S1x2048_S2048x2048_0_1 (broadcastInDim S1x2048 ![1] bcast_S2048_S1x2048_1 (iotaInDim S2048 32 0)))) natLt_1_8

theorem pivotRows_ones {P : IVec S2048 32} {p : ℕ → ℕ} (hp : ∀ i, p i < 2048)
    (h : ∀ i, P i = if (i 0).val < 2040 then BitVec.ofNat 32 (p (i 0).val) else 4294967295#32) :
    IsB (a := 2048) (b := 2048) (pivotRows P) (ones p) := by
  intro j
  have e : pivotRows P j = (IntOp.cmpi .eq (P (ix1 (j 0))) (BitVec.ofNat 32 (j 1).val)).setWidth 8 := by
    unfold pivotRows
    pointwise
  rw [e, h]
  have hj : (j 1).val < 2048 := (j 1).isLt
  have h0 : ((ix1 (j 0) : S2048.Idx) 0).val = (j 0).val := rfl
  rw [h0]
  unfold ones rows bit
  beta_reduce
  have hpj := hp (j 0).val
  by_cases hr : (j 0).val < 2040
  · rw [if_pos hr, if_pos hr]
    by_cases hq : p (j 0).val = (j 1).val
    · rw [if_pos hq, hq]
      show (BitVec.ofBool (BitVec.ofNat 32 (j 1).val == BitVec.ofNat 32 (j 1).val)).setWidth 8 = _
      rw [beq_self_eq_true]; rfl
    · rw [if_neg hq]
      show (BitVec.ofBool (BitVec.ofNat 32 (p (j 0).val) == BitVec.ofNat 32 (j 1).val)).setWidth 8 = _
      rw [beq_eq_false_iff_ne.mpr]
      · rfl
      · intro hh
        have := congrArg BitVec.toNat hh
        rw [BitVec.toNat_ofNat, BitVec.toNat_ofNat] at this
        omega
  · rw [if_neg hr, if_neg hr]
    show (BitVec.ofBool (4294967295#32 == BitVec.ofNat 32 (j 1).val)).setWidth 8 = _
    rw [beq_eq_false_iff_ne.mpr]
    · rfl
    · intro hh
      have := congrArg BitVec.toNat hh
      rw [BitVec.toNat_ofNat, BitVec.toNat_ofNat] at this
      omega

theorem beside_basis {A : IVec S2048x4096 8} {B : IVec S2048x2048 8} {x y : ℕ → ℕ → ZMod 2} (hA : IsV (a := 2048) (b := 4096) A x)
    (hB : IsB (a := 2048) (b := 2048) B y) (hc) :
    IsV (a := 2048) (b := 6144) (concatenate S2048x6144 1 [⟨S2048x4096, A⟩, ⟨S2048x2048, B⟩] hc) (beside 4096 x y) := by
  intro j
  pointwise
  unfold beside
  split
  · exact hA _
  · exact hB.parity _

theorem beside_batch {A : IVec S1024x4096 8} {B : IVec S1024x2048 8} {x y : ℕ → ℕ → ZMod 2} (hA : IsB (a := 1024) (b := 4096) A x)
    (hB : IsB (a := 1024) (b := 2048) B y) (hc) :
    IsB (a := 1024) (b := 6144) (concatenate S1024x6144 1 [⟨S1024x4096, A⟩, ⟨S1024x2048, B⟩] hc) (beside 4096 x y) := by
  intro j
  pointwise
  unfold beside
  split
  · exact hA _
  · exact hB _

/-! ## The stretches of operations -/

variable (W : Valuation τ sig (Elt Ideal))

theorem read_v0 : StableHlo.after hostOps0 W main_v0 = trunci 8 (W main_arg0) natLt_8_32 := by
  after_results
theorem read_v1 : StableHlo.after hostOps0 W main_v1 = trunci 8 (W main_arg1) natLt_8_32 := by
  after_results
theorem read_v2 : StableHlo.after hostOps0 W main_v2 = trunci 8 (W main_arg3) natLt_8_32 := by
  after_results
theorem read_v3 : StableHlo.after hostOps0 W main_v3 = trunci 8 (W main_arg4) natLt_8_32 := by
  after_results
theorem read_c : StableHlo.after hostOps0 W main_c = constantI S_ 32 0#32 := by
  after_results
theorem read_v4 : StableHlo.after hostOps0_1 W main_v4 = pad S2048x4096 ![0, 0] ![8, 0] ![0, 0] (W main_arg9) (W main_c) pads_S2040x4096_S2048x4096_080_000 h_S_ := by
  after_results; rfl
theorem read_v5 : StableHlo.after hostOps0_2 W main_v5 = trunci 8 (W main_v4) natLt_8_32 := by
  after_results
theorem read_c_0 : StableHlo.after hostOps0_2 W main_c_0 = constantI S_ 32 0#32 := by
  after_results
theorem read_v6 : StableHlo.after hostOps0_3 W main_v6 = pad S2048x4096 ![0, 0] ![8, 0] ![0, 0] (W main_arg10) (W main_c_0) pads_S2040x4096_S2048x4096_080_000 h_S_ := by
  after_results; rfl
theorem read_v7 : StableHlo.after hostOps0_4 W main_v7 = trunci 8 (W main_v6) natLt_8_32 := by
  after_results
theorem read_c_1 : StableHlo.after hostOps0_4 W main_c_1 = constantI S_ 32 4294967295#32 := by
  after_results
theorem read_v8 : StableHlo.after hostOps0_5 W main_v8 = pad S2048 ![0] ![8] ![0] (W main_arg7) (W main_c_1) pads_S2040_S2048_080 h_S_ := by
  after_results; rfl
theorem read_c_2 : StableHlo.after hostOps0_6 W main_c_2 = constantI S_ 32 4294967295#32 := by
  after_results
theorem read_v9 : StableHlo.after hostOps0_7 W main_v9 = pad S2048 ![0] ![8] ![0] (W main_arg8) (W main_c_2) pads_S2040_S2048_080 h_S_ := by
  after_results; rfl
theorem read_v23 : StableHlo.after hostOps0_8 W main_v23 = concatenate S2048x6144 1 [⟨S2048x4096, W main_v5⟩, ⟨S2048x2048, pivotRows (W main_v8)⟩] concatenates_S2048x4096_S2048x2048_S2048x6144_d1 := by
  unfold pivotRows
  after_results
theorem read_v24 : StableHlo.after hostOps0_8 W main_v24 = concatenate S2048x6144 1 [⟨S2048x4096, W main_v7⟩, ⟨S2048x2048, pivotRows (W main_v9)⟩] concatenates_S2048x4096_S2048x2048_S2048x6144_d1 := by
  unfold pivotRows
  after_results
theorem read_c_3 : StableHlo.after hostOps0_8 W main_c_3 = constantI S_ 32 0#32 := by
  after_results
theorem read_v25 : StableHlo.after hostOps0_9 W main_v25 = pad S128x4096 ![0, 0] ![112, 0] ![0, 0] (W main_arg5) (W main_c_3) pads_S16x4096_S128x4096_01120_000 h_S_ := by
  after_results; rfl
theorem read_v26 : StableHlo.after hostOps0_10 W main_v26 = trunci 8 (W main_v25) natLt_8_32 := by
  after_results
theorem read_c_4 : StableHlo.after hostOps0_10 W main_c_4 = constantI S_ 32 0#32 := by
  after_results
theorem read_v27 : StableHlo.after hostOps0_11 W main_v27 = pad S128x4096 ![0, 0] ![112, 0] ![0, 0] (W main_arg6) (W main_c_4) pads_S16x4096_S128x4096_01120_000 h_S_ := by
  after_results; rfl
theorem read_v28 : StableHlo.after hostOps0_12 W main_v28 = trunci 8 (W main_v27) natLt_8_32 := by
  after_results

/-! ## What the first call finds -/

variable {m : (ℓ : Loc nD τ sig) → Buf (Elt Ideal) ℓ} (ρ : Dev nD → PrngReg) {D : Data} {c : Dev nD}

/-- The arguments hold the data. -/
abbrev KerReads (D : Data) (m : (ℓ : Loc nD τ sig) → Buf (Elt Ideal) ℓ) (c : Dev nD) : Prop :=
  Reads D (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10))

theorem host_v0 (R : KerReads D m c) : IsB (a := 1024) (b := 4096) (W13 m ρ c main_v0) D.nx := by
  rw [W13_of m ρ c main_v0 (by decide), W12_of m ρ c main_v0 (by decide), W11_of m ρ c main_v0 (by decide), W10_of m ρ c main_v0 (by decide), W9_of m ρ c main_v0 (by decide), W8_of m ρ c main_v0 (by decide), W7_of m ρ c main_v0 (by decide), W6_of m ρ c main_v0 (by decide), W5_of m ρ c main_v0 (by decide), W4_of m ρ c main_v0 (by decide), W3_of m ρ c main_v0 (by decide), W2_of m ρ c main_v0 (by decide), show W1 m ρ c main_v0 = _ from read_v0 (W0 m ρ c)]
  exact bytes R.nx _
theorem host_v1 (R : KerReads D m c) : IsB (a := 1024) (b := 4096) (W13 m ρ c main_v1) D.nz := by
  rw [W13_of m ρ c main_v1 (by decide), W12_of m ρ c main_v1 (by decide), W11_of m ρ c main_v1 (by decide), W10_of m ρ c main_v1 (by decide), W9_of m ρ c main_v1 (by decide), W8_of m ρ c main_v1 (by decide), W7_of m ρ c main_v1 (by decide), W6_of m ρ c main_v1 (by decide), W5_of m ρ c main_v1 (by decide), W4_of m ρ c main_v1 (by decide), W3_of m ρ c main_v1 (by decide), W2_of m ρ c main_v1 (by decide), show W1 m ρ c main_v1 = _ from read_v1 (W0 m ρ c)]
  exact bytes R.nz _
theorem host_v2 (R : KerReads D m c) : IsB (a := 2048) (b := 4096) (W13 m ρ c main_v2) D.hx := by
  rw [W13_of m ρ c main_v2 (by decide), W12_of m ρ c main_v2 (by decide), W11_of m ρ c main_v2 (by decide), W10_of m ρ c main_v2 (by decide), W9_of m ρ c main_v2 (by decide), W8_of m ρ c main_v2 (by decide), W7_of m ρ c main_v2 (by decide), W6_of m ρ c main_v2 (by decide), W5_of m ρ c main_v2 (by decide), W4_of m ρ c main_v2 (by decide), W3_of m ρ c main_v2 (by decide), W2_of m ρ c main_v2 (by decide), show W1 m ρ c main_v2 = _ from read_v2 (W0 m ρ c)]
  exact bytes R.hx _
theorem host_v3 (R : KerReads D m c) : IsB (a := 2048) (b := 4096) (W13 m ρ c main_v3) D.hz := by
  rw [W13_of m ρ c main_v3 (by decide), W12_of m ρ c main_v3 (by decide), W11_of m ρ c main_v3 (by decide), W10_of m ρ c main_v3 (by decide), W9_of m ρ c main_v3 (by decide), W8_of m ρ c main_v3 (by decide), W7_of m ρ c main_v3 (by decide), W6_of m ρ c main_v3 (by decide), W5_of m ρ c main_v3 (by decide), W4_of m ρ c main_v3 (by decide), W3_of m ρ c main_v3 (by decide), W2_of m ρ c main_v3 (by decide), show W1 m ρ c main_v3 = _ from read_v3 (W0 m ρ c)]
  exact bytes R.hz _
theorem at_v5 (R : KerReads D m c) : IsV (a := 2048) (b := 4096) (W3 m ρ c main_v5) (rows 2040 D.bx) := by
  rw [show W3 m ρ c main_v5 = _ from read_v5 (W2 m ρ c)]
  refine byteParities ?_ _
  rw [show W2 m ρ c main_v4 = _ from read_v4 (W1 m ρ c)]
  refine padded_basis ?_ _ ?_ _
  · rw [W1_args m ρ c main_arg9 (by decide)]; exact R.bx
  · rw [show W1 m ρ c main_c = _ from read_c (W0 m ρ c)]; exact fun _ => rfl
theorem host_v5 (R : KerReads D m c) : IsV (a := 2048) (b := 4096) (W13 m ρ c main_v5) (rows 2040 D.bx) := by
  rw [W13_of m ρ c main_v5 (by decide), W12_of m ρ c main_v5 (by decide), W11_of m ρ c main_v5 (by decide), W10_of m ρ c main_v5 (by decide), W9_of m ρ c main_v5 (by decide), W8_of m ρ c main_v5 (by decide), W7_of m ρ c main_v5 (by decide), W6_of m ρ c main_v5 (by decide), W5_of m ρ c main_v5 (by decide), W4_of m ρ c main_v5 (by decide)]
  exact at_v5 ρ R
theorem at_v7 (R : KerReads D m c) : IsV (a := 2048) (b := 4096) (W5 m ρ c main_v7) (rows 2040 D.bz) := by
  rw [show W5 m ρ c main_v7 = _ from read_v7 (W4 m ρ c)]
  refine byteParities ?_ _
  rw [show W4 m ρ c main_v6 = _ from read_v6 (W3 m ρ c)]
  refine padded_basis ?_ _ ?_ _
  · rw [W3_args m ρ c main_arg10 (by decide)]; exact R.bz
  · rw [show W3 m ρ c main_c_0 = _ from read_c_0 (W2 m ρ c)]; exact fun _ => rfl
theorem host_v7 (R : KerReads D m c) : IsV (a := 2048) (b := 4096) (W13 m ρ c main_v7) (rows 2040 D.bz) := by
  rw [W13_of m ρ c main_v7 (by decide), W12_of m ρ c main_v7 (by decide), W11_of m ρ c main_v7 (by decide), W10_of m ρ c main_v7 (by decide), W9_of m ρ c main_v7 (by decide), W8_of m ρ c main_v7 (by decide), W7_of m ρ c main_v7 (by decide), W6_of m ρ c main_v7 (by decide)]
  exact at_v7 ρ R
theorem at_v26 (R : KerReads D m c) : IsV (a := 128) (b := 4096) (W11 m ρ c main_v26) (rows 16 D.lx) := by
  rw [show W11 m ρ c main_v26 = _ from read_v26 (W10 m ρ c)]
  refine byteParities ?_ _
  rw [show W10 m ρ c main_v25 = _ from read_v25 (W9 m ρ c)]
  refine padded_logical ?_ _ ?_ _
  · rw [W9_args m ρ c main_arg5 (by decide)]; exact R.lx
  · rw [show W9 m ρ c main_c_3 = _ from read_c_3 (W8 m ρ c)]; exact fun _ => rfl
theorem host_v26 (R : KerReads D m c) : IsV (a := 128) (b := 4096) (W13 m ρ c main_v26) (rows 16 D.lx) := by
  rw [W13_of m ρ c main_v26 (by decide), W12_of m ρ c main_v26 (by decide)]
  exact at_v26 ρ R
theorem at_v28 (R : KerReads D m c) : IsV (a := 128) (b := 4096) (W13 m ρ c main_v28) (rows 16 D.lz) := by
  rw [show W13 m ρ c main_v28 = _ from read_v28 (W12 m ρ c)]
  refine byteParities ?_ _
  rw [show W12 m ρ c main_v27 = _ from read_v27 (W11 m ρ c)]
  refine padded_logical ?_ _ ?_ _
  · rw [W11_args m ρ c main_arg6 (by decide)]; exact R.lz
  · rw [show W11 m ρ c main_c_4 = _ from read_c_4 (W10 m ρ c)]; exact fun _ => rfl
theorem host_v28 (R : KerReads D m c) : IsV (a := 128) (b := 4096) (W13 m ρ c main_v28) (rows 16 D.lz) := by
  exact at_v28 ρ R
theorem at_v8 (R : KerReads D m c) (i : S2048.Idx) :
    (W8 m ρ c main_v8 : IVec S2048 32) i = if (i 0).val < 2040 then BitVec.ofNat 32 (D.px (i 0).val) else 4294967295#32 := by
  rw [W8_of m ρ c main_v8 (by decide), W7_of m ρ c main_v8 (by decide), show W6 m ρ c main_v8 = _ from read_v8 (W5 m ρ c)]
  refine padded_pivots ?_ _ ?_ _ i
  · rw [W5_args m ρ c main_arg7 (by decide)]; exact R.px
  · rw [show W5 m ρ c main_c_1 = _ from read_c_1 (W4 m ρ c)]; exact fun _ => rfl
theorem at_v9 (R : KerReads D m c) (i : S2048.Idx) :
    (W8 m ρ c main_v9 : IVec S2048 32) i = if (i 0).val < 2040 then BitVec.ofNat 32 (D.pz (i 0).val) else 4294967295#32 := by
  rw [show W8 m ρ c main_v9 = _ from read_v9 (W7 m ρ c)]
  refine padded_pivots ?_ _ ?_ _ i
  · rw [W7_args m ρ c main_arg8 (by decide)]; exact R.pz
  · rw [show W7 m ρ c main_c_2 = _ from read_c_2 (W6 m ρ c)]; exact fun _ => rfl
theorem host_v23 (R : KerReads D m c) : IsV (a := 2048) (b := 6144) (W13 m ρ c main_v23) (beside 4096 (rows 2040 D.bx) (ones D.px)) := by
  rw [W13_of m ρ c main_v23 (by decide), W12_of m ρ c main_v23 (by decide), W11_of m ρ c main_v23 (by decide), W10_of m ρ c main_v23 (by decide), show W9 m ρ c main_v23 = _ from read_v23 (W8 m ρ c)]
  refine beside_basis ?_ (pivotRows_ones R.px_lt (at_v8 ρ R)) _
  rw [W8_of m ρ c main_v5 (by decide), W7_of m ρ c main_v5 (by decide), W6_of m ρ c main_v5 (by decide), W5_of m ρ c main_v5 (by decide), W4_of m ρ c main_v5 (by decide)]
  exact at_v5 ρ R
theorem host_v24 (R : KerReads D m c) : IsV (a := 2048) (b := 6144) (W13 m ρ c main_v24) (beside 4096 (rows 2040 D.bz) (ones D.pz)) := by
  rw [W13_of m ρ c main_v24 (by decide), W12_of m ρ c main_v24 (by decide), W11_of m ρ c main_v24 (by decide), W10_of m ρ c main_v24 (by decide), show W9 m ρ c main_v24 = _ from read_v24 (W8 m ρ c)]
  refine beside_basis ?_ (pivotRows_ones R.pz_lt (at_v9 ρ R)) _
  rw [W8_of m ρ c main_v7 (by decide), W7_of m ρ c main_v7 (by decide), W6_of m ρ c main_v7 (by decide)]
  exact at_v7 ρ R
theorem host_arg2 (R : KerReads D m c) (j : (Sh2 1024 4096).Idx) :
    (W13 m ρ c main_arg2 : (Sh2 1024 4096).Idx → EReal) j = ((D.L (j 0).val (j 1).val : ℝ) : EReal) := by
  rw [W13_args m ρ c main_arg2 (by decide)]; exact R.L j

end Cert.Val
-- ==== Proof.Val.Call0.lean ====
/-
  THE FIRST CALL, VALUED. Its four arrays: the two kinds of measured bits, as bits and as signs.
-/
module

public import proofs.«01_k».proof.Proof.Val.Host
public import Idealize.ShloMosaic.Lib.Pipeline.ValueKit

@[expose] public section

set_option maxRecDepth 16384

noncomputable section

namespace Cert.Val

open Idealize.ShloMosaic Idealize.ShloMosaic.TcCoe Idealize.ShloMosaic.Tactic
open Cert.KernelIdeal Cert.KernelIdeal.Gen Cert.KernelIdeal.Run
open scoped BigOperators
open Classical

/-- The array holds the signs `1 - 2x` of the bits `x`. -/
def IsPm {a b : ℕ} (X : (Sh2 a b).Idx → BitVec 8) (x : ℕ → ℕ → ZMod 2) : Prop :=
  ∀ j : (Sh2 a b).Idx, (X j).toInt = 1 - 2 * ((x (j 0).val (j 1).val).val : ℤ)

theorem ofInt_pm (z : ZMod 2) : (BitVec.ofInt 8 (1 - 2 * (z.val : ℤ))).toInt = 1 - 2 * (z.val : ℤ) := by revert z; decide

theorem IsPm.word {a b : ℕ} {X : (Sh2 a b).Idx → BitVec 8} {x : ℕ → ℕ → ZMod 2} (h : IsPm X x) (j : (Sh2 a b).Idx) :
    X j = BitVec.ofInt 8 (1 - 2 * ((x (j 0).val (j 1).val).val : ℤ)) :=
  BitVec.eq_of_toInt_eq ((h j).trans (ofInt_pm _).symm)

theorem IsPm.natAbs {a b : ℕ} {X : (Sh2 a b).Idx → BitVec 8} {x : ℕ → ℕ → ZMod 2} (h : IsPm X x) (i : (Sh2 a b).Idx) :
    (X i).toInt.natAbs ≤ 1 := by
  rw [h i]
  generalize x (i 0).val (i 1).val = z
  revert z; decide

/-- The product of two arrays along their second axes. -/
def dotT (K : ℕ) (a b : ℕ → ℕ → ZMod 2) (i j : ℕ) : ZMod 2 := ∑ k ∈ Finset.range K, a i k * b j k

section
variable {x0 x1 : Vec Ideal S1024x4096 .i8} {a b : ℕ → ℕ → ZMod 2} (h0 : IsB (a := 1024) (b := 4096) x0 a) (h1 : IsB (a := 1024) (b := 4096) x1 b)
include h0 h1

theorem pay0_1 : IsB (a := 1024) (b := 1024) (k0_pay1 (F := Ideal) x0 x1) (dotT 4096 a b) := by
  intro j
  unfold k0_pay1
  rw [shapeCast_self, shapeCast_self]
  show IntOp.andi (matmulI8 IntMxuNumerics.v7x (DotDims.transposedRhs 1024 4096 1024) x0 x1 _ j) 1#32 = _
  show matmulI8 IntMxuNumerics.v7x (DotDims.transposedRhs 1024 4096 1024) x0 x1 _ j &&& 1#32 = _
  rw [and_one, par_mxu_transposed (by norm_num) h0 h1.parity _ j rfl]
  rfl

theorem pay0_2 : IsB (a := 1024) (b := 1024) (k0_pay2 (F := Ideal) x0 x1) (dotT 4096 a b) := pay0_1 h0 h1

theorem pay0_3 : IsB (a := 1024) (b := 1024) (k0_pay3 (F := Ideal) x0 x1) (dotT 4096 a b) := bytes (pay0_1 h0 h1) natLt_8_32
theorem pay0_4 : IsB (a := 1024) (b := 1024) (k0_pay4 (F := Ideal) x0 x1) (dotT 4096 a b) := bytes (pay0_2 h0 h1) natLt_8_32

theorem pay0_5 : IsPm (a := 1024) (b := 1024) (k0_pay5 (F := Ideal) x0 x1) (dotT 4096 a b) := by
  intro j
  show ((1#32 - 2#32 * k0_pay1 (F := Ideal) x0 x1 j).setWidth 8).toInt = _
  rw [pay0_1 h0 h1 j, pm_word]

theorem pay0_6 : IsPm (a := 1024) (b := 1024) (k0_pay6 (F := Ideal) x0 x1) (dotT 4096 a b) := by
  intro j
  show ((1#32 - 2#32 * k0_pay2 (F := Ideal) x0 x1 j).setWidth 8).toInt = _
  rw [pay0_2 h0 h1 j, pm_word]

end

/-- Where the blocks of a point lie. -/
theorem idx0 : ∀ t : Fin cfg0.N, win0_0.index t = ![0, 0] ∧ win0_1.index t = ![t.val, 0] ∧ win0_2.index t = ![0, 0] ∧ win0_3.index t = ![t.val, 0] ∧ win0_4.index t = ![0, t.val] ∧ win0_5.index t = ![0, t.val] ∧ win0_6.index t = ![0, t.val] ∧ win0_7.index t = ![0, t.val] := by decide +kernel

section
variable (V : (c : Dev nD) → (b : Ref sig .tc) → Buf (Elt Ideal) ((c : Thread nD τ).loc b)) (c : Dev nD) {D : Data}

theorem blk0_0 {x : ℕ → ℕ → ZMod 2} (h : IsB (a := 1024) (b := 4096) (V c main_v1) x) (t : Fin cfg0.N) :
    IsB (a := 1024) (b := 4096) (iblk0 V c 0 t) x := by
  intro j
  obtain ⟨e0, e1, e2, e3, e4, e5, e6, e7⟩ := idx0 t
  have := h (((cfg0.win 0).blk t).view.emb j)
  refine Eq.trans this ?_
  blk_simp [e0]
theorem blk0_1 {x : ℕ → ℕ → ZMod 2} (h : IsB (a := 2048) (b := 4096) (V c main_v2) x) (t : Fin cfg0.N) :
    IsB (a := 1024) (b := 4096) (iblk0 V c 1 t) (fun i k => x (t.val * 1024 + i) k) := by
  intro j
  obtain ⟨e0, e1, e2, e3, e4, e5, e6, e7⟩ := idx0 t
  have := h (((cfg0.win 1).blk t).view.emb j)
  refine Eq.trans this ?_
  blk_simp [e1]
theorem blk0_2 {x : ℕ → ℕ → ZMod 2} (h : IsB (a := 1024) (b := 4096) (V c main_v0) x) (t : Fin cfg0.N) :
    IsB (a := 1024) (b := 4096) (iblk0 V c 2 t) x := by
  intro j
  obtain ⟨e0, e1, e2, e3, e4, e5, e6, e7⟩ := idx0 t
  have := h (((cfg0.win 2).blk t).view.emb j)
  refine Eq.trans this ?_
  blk_simp [e2]
theorem blk0_3 {x : ℕ → ℕ → ZMod 2} (h : IsB (a := 2048) (b := 4096) (V c main_v3) x) (t : Fin cfg0.N) :
    IsB (a := 1024) (b := 4096) (iblk0 V c 3 t) (fun i k => x (t.val * 1024 + i) k) := by
  intro j
  obtain ⟨e0, e1, e2, e3, e4, e5, e6, e7⟩ := idx0 t
  have := h (((cfg0.win 3).blk t).view.emb j)
  refine Eq.trans this ?_
  blk_simp [e3]
theorem arr0_4 (hn : IsB (a := 1024) (b := 4096) (V c main_v1) D.nz) (hh : IsB (a := 2048) (b := 4096) (V c main_v2) D.hx) :
    IsB (a := 1024) (b := 2048) ((dat0 V c).arrAt 4 cfg0.N) D.sx := by
  intro j
  refine congrFun ((dat0 V c).arrAt_eq_of_covers 4 (fun j => bw 8 (D.sx (j 0).val (j 1).val)) (by decide +kernel) fun t hf y => ?_) j
  obtain ⟨e0, e1, e2, e3, e4, e5, e6, e7⟩ := idx0 t
  blk_simp [e4]
  rw [after0_4]
  exact (pay0_3 (blk0_0 V c hn t) (blk0_1 V c hh t) y).trans (by rfl)
theorem arr0_5 (hn : IsB (a := 1024) (b := 4096) (V c main_v0) D.nx) (hh : IsB (a := 2048) (b := 4096) (V c main_v3) D.hz) :
    IsB (a := 1024) (b := 2048) ((dat0 V c).arrAt 5 cfg0.N) D.sz := by
  intro j
  refine congrFun ((dat0 V c).arrAt_eq_of_covers 5 (fun j => bw 8 (D.sz (j 0).val (j 1).val)) (by decide +kernel) fun t hf y => ?_) j
  obtain ⟨e0, e1, e2, e3, e4, e5, e6, e7⟩ := idx0 t
  blk_simp [e5]
  rw [after0_5]
  exact (pay0_4 (blk0_2 V c hn t) (blk0_3 V c hh t) y).trans (by rfl)
theorem arr0_6 (hn : IsB (a := 1024) (b := 4096) (V c main_v1) D.nz) (hh : IsB (a := 2048) (b := 4096) (V c main_v2) D.hx) :
    IsPm (a := 1024) (b := 2048) ((dat0 V c).arrAt 6 cfg0.N) D.sx := by
  have key : (dat0 V c).arrAt 6 cfg0.N = fun j => BitVec.ofInt 8 (1 - 2 * ((D.sx (j 0).val (j 1).val).val : ℤ)) := by
    refine (dat0 V c).arrAt_eq_of_covers 6 _ (by decide +kernel) fun t hf y => ?_
    obtain ⟨e0, e1, e2, e3, e4, e5, e6, e7⟩ := idx0 t
    blk_simp [e6]
    rw [after0_6]
    exact (IsPm.word (pay0_5 (blk0_0 V c hn t) (blk0_1 V c hh t)) y).trans (by rfl)
  intro j
  rw [key]
  exact ofInt_pm _
theorem arr0_7 (hn : IsB (a := 1024) (b := 4096) (V c main_v0) D.nx) (hh : IsB (a := 2048) (b := 4096) (V c main_v3) D.hz) :
    IsPm (a := 1024) (b := 2048) ((dat0 V c).arrAt 7 cfg0.N) D.sz := by
  have key : (dat0 V c).arrAt 7 cfg0.N = fun j => BitVec.ofInt 8 (1 - 2 * ((D.sz (j 0).val (j 1).val).val : ℤ)) := by
    refine (dat0 V c).arrAt_eq_of_covers 7 _ (by decide +kernel) fun t hf y => ?_
    obtain ⟨e0, e1, e2, e3, e4, e5, e6, e7⟩ := idx0 t
    blk_simp [e7]
    rw [after0_7]
    exact (IsPm.word (pay0_6 (blk0_2 V c hn t) (blk0_3 V c hh t)) y).trans (by rfl)
  intro j
  rw [key]
  exact ofInt_pm _

end

end Cert.Val
-- ==== Proof.Val.Call1.lean ====
/-
  THE SECOND CALL, VALUED. Its four arrays: what the first guesses leave of the noise, and the guesses of the soft decision.
-/
module

public import proofs.«01_k».proof.Proof.Val.Call0

@[expose] public section

set_option maxRecDepth 16384

noncomputable section

namespace Cert.Val

open Idealize.ShloMosaic Idealize.ShloMosaic.TcCoe Idealize.ShloMosaic.Tactic
open Cert.KernelIdeal Cert.KernelIdeal.Gen Cert.KernelIdeal.Run
open scoped BigOperators
open Classical

/-- The array holds the reals `x`. -/
def IsR {a b : ℕ} (X : (Sh2 a b).Idx → EReal) (x : ℕ → ℕ → ℝ) : Prop :=
  ∀ j : (Sh2 a b).Idx, X j = ((x (j 0).val (j 1).val : ℝ) : EReal)

/-- The weighted votes of one kind of check, added to the channel's ratio. -/
theorem votes_block {x0 : Vec Ideal S1024x2048 .i8} {x1 : Vec Ideal S2048x1024 .i8} {x4 : Vec Ideal S1024x1024 .f32} {s h : ℕ → ℕ → ZMod 2} {L : ℕ → ℕ → ℝ}
    (h0 : IsPm (a := 1024) (b := 2048) x0 s) (h1 : IsB (a := 2048) (b := 1024) x1 h)
    (hL : IsR (a := 1024) (b := 1024) x4 L) : IsR (a := 1024) (b := 1024) (k1_pay3 (F := Ideal) x0 x1 x4) (llr L h s) := by
  intro j
  unfold k1_pay3
  rw [shapeCast_self, shapeCast_self]
  show x4 j + Ideal.ofBits .f32 0x3DCCCCCD#32 * ((((matmulI8 IntMxuNumerics.v7x (DotDims.plain 1024 2048 1024) x0 x1 _ j).toInt : ℝ)) : EReal) = _
  rw [mxu_plain (by norm_num) x0 x1 _ j rfl h0.natAbs, hL, tenth_coe, ← EReal.coe_mul, ← EReal.coe_add]
  unfold llr votes
  rw [Finset.sum_range, Finset.sum_congr rfl fun k _ => congrArg₂ (· * ·) (h0 _) ((congrArg BitVec.toInt (h1 _)).trans (toInt_bw8 _))]
  rfl

theorem votes_block' {x0 : Vec Ideal S1024x2048 .i8} {x1 : Vec Ideal S2048x1024 .i8} {x4 : Vec Ideal S1024x1024 .f32} {s h : ℕ → ℕ → ZMod 2} {L : ℕ → ℕ → ℝ}
    (h0 : IsPm (a := 1024) (b := 2048) x0 s) (h1 : IsB (a := 2048) (b := 1024) x1 h)
    (hL : IsR (a := 1024) (b := 1024) x4 L) : IsR (a := 1024) (b := 1024) (k1_pay4 (F := Ideal) x0 x1 x4) (llr L h s) := votes_block h0 h1 hL

/-- The sign of a real array as words. -/
theorem sign_word {X : FVec Ideal S1024x1024 .f32} {a : ℕ → ℕ → ℝ} (h : IsR (a := 1024) (b := 1024) X a) :
    IsB (a := 1024) (b := 1024) (extui 32 (cmpf .olt X (broadcast S1024x1024 (Scalar.ofBits (F := Ideal) .f32 0x00000000#32))) natLt_1_32)
      (fun i k => bit (a i k < 0)) := by
  intro j
  show (FloatOps.cmpf (F := Ideal) (φ := .f32) .olt (X j) (Ideal.ofBits .f32 0x00000000#32)).setWidth 32 = _
  rw [h, Ideal.ofBits_zero_f32, lt_zero_word, zext_bw1]

/-- A guess flips a bit. -/
theorem flipped {X : IVec S1024x1024 8} {Y : IVec S1024x1024 32} {x y : ℕ → ℕ → ZMod 2} (hX : IsB (a := 1024) (b := 1024) X x)
    (hY : IsB (a := 1024) (b := 1024) Y y) : IsB (a := 1024) (b := 1024) (xori (extsi 32 X natLt_8_32) Y) (fun i k => x i k + y i k) := by
  intro j
  show (X j).signExtend 32 ^^^ Y j = _
  rw [hX, hY, sext_bw, xor_bw32]

/-- The text of the soft decision. -/
theorem soft_text {a b y : FVec Ideal S1024x1024 .f32} {A Bv Y : ℝ} (j : S1024x1024.Idx) (ha : a j = ((A : ℝ) : EReal)) (hb : b j = ((Bv : ℝ) : EReal))
    (hy : y j = ((Y : ℝ) : EReal)) : k1_pay9 (F := Ideal) b a y j = ((osd A Bv Y : ℝ) : EReal) := by
  unfold k1_pay9
  pointwise
  rw [ha, hb, hy, if_neg (not_not.mpr rfl), zero_sub, zero_sub, zero_sub, zero_sub, ← EReal.coe_neg, ← EReal.coe_neg, ← EReal.coe_neg]
  exact osd_shift_coe A Bv Y

theorem soft_text' {a b y : FVec Ideal S1024x1024 .f32} {A Bv Y : ℝ} (j : S1024x1024.Idx) (ha : a j = ((A : ℝ) : EReal)) (hb : b j = ((Bv : ℝ) : EReal))
    (hy : y j = ((Y : ℝ) : EReal)) : k1_pay2 (F := Ideal) b y (k1_pay12 a) (k1_pay13 a) (k1_pay14 a) j = bw 8 (bit (osd A Bv Y < 0)) := by
  have e : k1_pay2 (F := Ideal) b y (k1_pay12 a) (k1_pay13 a) (k1_pay14 a) = k1_pay1 (k1_pay9 b a y) := rfl
  rw [e]
  show ((FloatOps.cmpf (F := Ideal) (φ := .f32) .olt (k1_pay9 (F := Ideal) b a y j) (Ideal.ofBits .f32 0x00000000#32)).setWidth 32).setWidth 8 = _
  rw [soft_text j ha hb hy, Ideal.ofBits_zero_f32, lt_zero_word, zext_bw1, trunc_bw]

section
variable {x0 x2 : Vec Ideal S1024x2048 .i8} {x1 x3 : Vec Ideal S2048x1024 .i8} {x4 : Vec Ideal S1024x1024 .f32} {x5 : Vec Ideal S1024x1024 .i8}
  {s1 s2 h1 h2 n : ℕ → ℕ → ZMod 2} {L : ℕ → ℕ → ℝ}

theorem pay1_7 (a2 : IsPm (a := 1024) (b := 2048) x2 s2) (a3 : IsB (a := 2048) (b := 1024) x3 h2)
    (a4 : IsR (a := 1024) (b := 1024) x4 L) (a5 : IsB (a := 1024) (b := 1024) x5 n) :
    IsB (a := 1024) (b := 1024) (out1_7 (F := Ideal) x2 x3 x4 x5) (fun i k => n i k + bit (llr L h2 s2 i k < 0)) := by
  unfold out1_7 k1_pay7
  rw [shapeCast_self]
  exact bytes (flipped a5 (sign_word (votes_block' a2 a3 a4))) natLt_8_32

theorem pay1_8 (a2 : IsPm (a := 1024) (b := 2048) x2 s2) (a3 : IsB (a := 2048) (b := 1024) x3 h2)
    (a4 : IsR (a := 1024) (b := 1024) x4 L) (a5 : IsB (a := 1024) (b := 1024) x5 n) :
    IsB (a := 1024) (b := 1024) (out1_8 (F := Ideal) x2 x3 x4 x5) (fun i k => n i k + bit (llr L h2 s2 i k < 0)) := by
  unfold out1_8 k1_pay8 k1_pay6
  rw [shapeCast_self]
  exact bytes (flipped a5 (sign_word (votes_block a2 a3 a4))) natLt_8_32

theorem pay1_5 (a0 : IsPm (a := 1024) (b := 2048) x0 s1) (a1 : IsB (a := 2048) (b := 1024) x1 h1) (a2 : IsPm (a := 1024) (b := 2048) x2 s2)
    (a3 : IsB (a := 2048) (b := 1024) x3 h2) (a4 : IsR (a := 1024) (b := 1024) x4 L) (j : S1024x1024.Idx) :
    k1_pay5 (F := Ideal) x0 x1 x2 x3 x4 j = ((1 / 2 * (llr L h2 s2 (j 0).val (j 1).val + llr L h1 s1 (j 0).val (j 1).val) : ℝ) : EReal) := by
  show Ideal.ofBits .f32 0x3F000000#32 * (k1_pay4 (F := Ideal) x2 x3 x4 j + k1_pay3 (F := Ideal) x0 x1 x4 j) = _
  rw [votes_block' a2 a3 a4, votes_block a0 a1 a4, half_coe, ← EReal.coe_add, ← EReal.coe_mul]

theorem pay1_9 (a0 : IsPm (a := 1024) (b := 2048) x0 s1) (a1 : IsB (a := 2048) (b := 1024) x1 h1) (a2 : IsPm (a := 1024) (b := 2048) x2 s2)
    (a3 : IsB (a := 2048) (b := 1024) x3 h2) (a4 : IsR (a := 1024) (b := 1024) x4 L) :
    IsB (a := 1024) (b := 1024) (out1_9 (F := Ideal) x0 x1 x2 x3 x4)
      (fun i k => bit (osd (llr L h1 s1 i k) (llr L h2 s2 i k) (1 / 2 * (llr L h2 s2 i k + llr L h1 s1 i k)) < 0)) := by
  intro j
  unfold out1_9
  exact soft_text' j (votes_block a0 a1 a4 j) (votes_block' a2 a3 a4 j) (pay1_5 a0 a1 a2 a3 a4 j)

theorem pay1_10 (a0 : IsPm (a := 1024) (b := 2048) x0 s1) (a1 : IsB (a := 2048) (b := 1024) x1 h1) (a2 : IsPm (a := 1024) (b := 2048) x2 s2)
    (a3 : IsB (a := 2048) (b := 1024) x3 h2) (a4 : IsR (a := 1024) (b := 1024) x4 L) :
    IsB (a := 1024) (b := 1024) (out1_10 (F := Ideal) x0 x1 x2 x3 x4)
      (fun i k => bit (osd (llr L h2 s2 i k) (llr L h1 s1 i k) (1 / 2 * (llr L h2 s2 i k + llr L h1 s1 i k)) < 0)) := by
  intro j
  unfold out1_10
  exact soft_text' j (votes_block' a2 a3 a4 j) (votes_block a0 a1 a4 j) (pay1_5 a0 a1 a2 a3 a4 j)

end

/-- Where the blocks of a point lie. -/
theorem idx1 : ∀ t : Fin cfg1.N, win1_0.index t = ![0, 0] ∧ win1_1.index t = ![0, t.val] ∧ win1_2.index t = ![0, 0] ∧ win1_3.index t = ![0, t.val] ∧ win1_4.index t = ![0, t.val] ∧ win1_5.index t = ![0, t.val] ∧ win1_6.index t = ![0, t.val] ∧ win1_7.index t = ![0, t.val] ∧ win1_8.index t = ![0, t.val] ∧ win1_9.index t = ![0, t.val] ∧ win1_10.index t = ![0, t.val] := by decide +kernel

section
variable (V : (c : Dev nD) → (b : Ref sig .tc) → Buf (Elt Ideal) ((c : Thread nD τ).loc b)) (c : Dev nD) {D : Data}

theorem blk1_0 {x : ℕ → ℕ → ZMod 2} (h : IsPm (a := 1024) (b := 2048) (V c main_v29_2) x) (t : Fin cfg1.N) :
    IsPm (a := 1024) (b := 2048) (iblk1 V c 0 t) x := by
  intro j
  obtain ⟨e0, e1, e2, e3, e4, e5, e6, e7, e8, e9, e10⟩ := idx1 t
  have := h (((cfg1.win 0).blk t).view.emb j)
  refine Eq.trans this ?_
  blk_simp [e0]
theorem blk1_1 {x : ℕ → ℕ → ZMod 2} (h : IsB (a := 2048) (b := 4096) (V c main_v2) x) (t : Fin cfg1.N) :
    IsB (a := 2048) (b := 1024) (iblk1 V c 1 t) (fun i k => x i (t.val * 1024 + k)) := by
  intro j
  obtain ⟨e0, e1, e2, e3, e4, e5, e6, e7, e8, e9, e10⟩ := idx1 t
  have := h (((cfg1.win 1).blk t).view.emb j)
  refine Eq.trans this ?_
  blk_simp [e1]
theorem blk1_2 {x : ℕ → ℕ → ZMod 2} (h : IsPm (a := 1024) (b := 2048) (V c main_v29_3) x) (t : Fin cfg1.N) :
    IsPm (a := 1024) (b := 2048) (iblk1 V c 2 t) x := by
  intro j
  obtain ⟨e0, e1, e2, e3, e4, e5, e6, e7, e8, e9, e10⟩ := idx1 t
  have := h (((cfg1.win 2).blk t).view.emb j)
  refine Eq.trans this ?_
  blk_simp [e2]
theorem blk1_3 {x : ℕ → ℕ → ZMod 2} (h : IsB (a := 2048) (b := 4096) (V c main_v3) x) (t : Fin cfg1.N) :
    IsB (a := 2048) (b := 1024) (iblk1 V c 3 t) (fun i k => x i (t.val * 1024 + k)) := by
  intro j
  obtain ⟨e0, e1, e2, e3, e4, e5, e6, e7, e8, e9, e10⟩ := idx1 t
  have := h (((cfg1.win 3).blk t).view.emb j)
  refine Eq.trans this ?_
  blk_simp [e3]
theorem blk1_4 {x : ℕ → ℕ → ℝ} (h : IsR (a := 1024) (b := 4096) (V c main_arg2) x) (t : Fin cfg1.N) :
    IsR (a := 1024) (b := 1024) (iblk1 V c 4 t) (fun i k => x i (t.val * 1024 + k)) := by
  intro j
  obtain ⟨e0, e1, e2, e3, e4, e5, e6, e7, e8, e9, e10⟩ := idx1 t
  have := h (((cfg1.win 4).blk t).view.emb j)
  refine Eq.trans this ?_
  blk_simp [e4]
theorem blk1_5 {x : ℕ → ℕ → ZMod 2} (h : IsB (a := 1024) (b := 4096) (V c main_v0) x) (t : Fin cfg1.N) :
    IsB (a := 1024) (b := 1024) (iblk1 V c 5 t) (fun i k => x i (t.val * 1024 + k)) := by
  intro j
  obtain ⟨e0, e1, e2, e3, e4, e5, e6, e7, e8, e9, e10⟩ := idx1 t
  have := h (((cfg1.win 5).blk t).view.emb j)
  refine Eq.trans this ?_
  blk_simp [e5]
theorem blk1_6 {x : ℕ → ℕ → ZMod 2} (h : IsB (a := 1024) (b := 4096) (V c main_v1) x) (t : Fin cfg1.N) :
    IsB (a := 1024) (b := 1024) (iblk1 V c 6 t) (fun i k => x i (t.val * 1024 + k)) := by
  intro j
  obtain ⟨e0, e1, e2, e3, e4, e5, e6, e7, e8, e9, e10⟩ := idx1 t
  have := h (((cfg1.win 6).blk t).view.emb j)
  refine Eq.trans this ?_
  blk_simp [e6]
theorem arr1_7 (h2 : IsPm (a := 1024) (b := 2048) (V c main_v29_3) D.sz) (h3 : IsB (a := 2048) (b := 4096) (V c main_v3) D.hz) (h4 : IsR (a := 1024) (b := 4096) (V c main_arg2) D.L) (h5 : IsB (a := 1024) (b := 4096) (V c main_v0) D.nx) :
    IsB (a := 1024) (b := 4096) ((dat1 V c).arrAt 7 cfg1.N) D.xd := by
  intro j
  refine congrFun ((dat1 V c).arrAt_eq_of_covers 7 (fun j => bw 8 (D.xd (j 0).val (j 1).val)) (by decide +kernel) fun t hf y => ?_) j
  obtain ⟨e0, e1, e2, e3, e4, e5, e6, e7, e8, e9, e10⟩ := idx1 t
  blk_simp [e7]
  rw [after1_7]
  exact (pay1_7 (blk1_2 V c h2 t) (blk1_3 V c h3 t) (blk1_4 V c h4 t) (blk1_5 V c h5 t) y).trans (by rfl)
theorem arr1_8 (h0 : IsPm (a := 1024) (b := 2048) (V c main_v29_2) D.sx) (h1 : IsB (a := 2048) (b := 4096) (V c main_v2) D.hx) (h4 : IsR (a := 1024) (b := 4096) (V c main_arg2) D.L) (h6 : IsB (a := 1024) (b := 4096) (V c main_v1) D.nz) :
    IsB (a := 1024) (b := 4096) ((dat1 V c).arrAt 8 cfg1.N) D.zd := by
  intro j
  refine congrFun ((dat1 V c).arrAt_eq_of_covers 8 (fun j => bw 8 (D.zd (j 0).val (j 1).val)) (by decide +kernel) fun t hf y => ?_) j
  obtain ⟨e0, e1, e2, e3, e4, e5, e6, e7, e8, e9, e10⟩ := idx1 t
  blk_simp [e8]
  rw [after1_8]
  exact (pay1_8 (blk1_0 V c h0 t) (blk1_1 V c h1 t) (blk1_4 V c h4 t) (blk1_6 V c h6 t) y).trans (by rfl)
theorem arr1_9 (h0 : IsPm (a := 1024) (b := 2048) (V c main_v29_2) D.sx) (h1 : IsB (a := 2048) (b := 4096) (V c main_v2) D.hx) (h2 : IsPm (a := 1024) (b := 2048) (V c main_v29_3) D.sz) (h3 : IsB (a := 2048) (b := 4096) (V c main_v3) D.hz) (h4 : IsR (a := 1024) (b := 4096) (V c main_arg2) D.L) :
    IsB (a := 1024) (b := 4096) ((dat1 V c).arrAt 9 cfg1.N) D.e0x := by
  intro j
  refine congrFun ((dat1 V c).arrAt_eq_of_covers 9 (fun j => bw 8 (D.e0x (j 0).val (j 1).val)) (by decide +kernel) fun t hf y => ?_) j
  obtain ⟨e0, e1, e2, e3, e4, e5, e6, e7, e8, e9, e10⟩ := idx1 t
  blk_simp [e9]
  rw [after1_9]
  exact (pay1_9 (blk1_0 V c h0 t) (blk1_1 V c h1 t) (blk1_2 V c h2 t) (blk1_3 V c h3 t) (blk1_4 V c h4 t) y).trans (by rfl)
theorem arr1_10 (h0 : IsPm (a := 1024) (b := 2048) (V c main_v29_2) D.sx) (h1 : IsB (a := 2048) (b := 4096) (V c main_v2) D.hx) (h2 : IsPm (a := 1024) (b := 2048) (V c main_v29_3) D.sz) (h3 : IsB (a := 2048) (b := 4096) (V c main_v3) D.hz) (h4 : IsR (a := 1024) (b := 4096) (V c main_arg2) D.L) :
    IsB (a := 1024) (b := 4096) ((dat1 V c).arrAt 10 cfg1.N) D.e0z := by
  intro j
  refine congrFun ((dat1 V c).arrAt_eq_of_covers 10 (fun j => bw 8 (D.e0z (j 0).val (j 1).val)) (by decide +kernel) fun t hf y => ?_) j
  obtain ⟨e0, e1, e2, e3, e4, e5, e6, e7, e8, e9, e10⟩ := idx1 t
  blk_simp [e10]
  rw [after1_10]
  exact (pay1_10 (blk1_0 V c h0 t) (blk1_1 V c h1 t) (blk1_2 V c h2 t) (blk1_3 V c h3 t) (blk1_4 V c h4 t) y).trans (by rfl)

end

end Cert.Val
-- ==== Proof.Val.Call2.lean ====
/-
  THE THIRD CALL, VALUED. Its array counts, in every column alike, the checks of a batch row that fail.
-/
module

public import proofs.«01_k».proof.Proof.Val.Call0
public import Idealize.ShloMosaic.Lib.WordSum
public import Idealize.ShloMosaic.Lib.WordCmp
public import Idealize.ShloMosaic.Lib.Affine

@[expose] public section

set_option maxRecDepth 16384

noncomputable section

namespace Cert.Val

open Idealize.ShloMosaic Idealize.ShloMosaic.TcCoe Idealize.ShloMosaic.Tactic
open Cert.KernelIdeal Cert.KernelIdeal.Gen Cert.KernelIdeal.Run
open scoped BigOperators
open Classical

/-- What two arrays of checks give on a row, added as numbers, over the checks below `n`. -/
def failing (n : ℕ) (p q : ℕ → ℕ → ZMod 2) (b : ℕ) : ℕ := ∑ k ∈ Finset.range n, ((p b k).val + (q b k).val)

theorem failing_add (n m : ℕ) (p q : ℕ → ℕ → ZMod 2) (b : ℕ) :
    failing (n + m) p q b = failing n p q b + failing m (fun i k => p i (n + k)) (fun i k => q i (n + k)) b := by
  unfold failing; exact Finset.sum_range_add _ n m

theorem failing_le (n : ℕ) (p q : ℕ → ℕ → ZMod 2) (b : ℕ) : failing n p q b ≤ n * 2 := by
  unfold failing
  refine (Finset.sum_le_card_nsmul _ _ 2 fun k _ => ?_).trans (by simp)
  have h1 := ZMod.val_lt (p b k)
  have h2 := ZMod.val_lt (q b k)
  omega

/-- The count of a row as a word, against zero: whether a check of it fails. -/
theorem count_word (p q : ℕ → ℕ → ZMod 2) (b : ℕ) :
    IntOp.cmpi .sgt (BitVec.ofNat 32 (failing 2048 p q b)) 0#32 = bw 1 (bit ((∃ j < 2048, p b j ≠ 0) ∨ (∃ j < 2048, q b j ≠ 0))) := by
  have hle := failing_le 2048 p q b
  have hpos : 0 < failing 2048 p q b ↔ ((∃ j < 2048, p b j ≠ 0) ∨ (∃ j < 2048, q b j ≠ 0)) := by
    unfold failing
    constructor
    · intro h
      by_contra hn
      push Not at hn
      rw [Finset.sum_eq_zero] at h
      · exact absurd h (lt_irrefl 0)
      · intro k hk
        rw [hn.1 k (Finset.mem_range.mp hk), hn.2 k (Finset.mem_range.mp hk)]; rfl
    · rintro (⟨k, hk, h⟩ | ⟨k, hk, h⟩)
      · refine Finset.sum_pos' (fun _ _ => Nat.zero_le _) ⟨k, Finset.mem_range.mpr hk, ?_⟩
        have := Nat.pos_of_ne_zero (fun e => h ((ZMod.val_eq_zero _).mp e))
        omega
      · refine Finset.sum_pos' (fun _ _ => Nat.zero_le _) ⟨k, Finset.mem_range.mpr hk, ?_⟩
        have := Nat.pos_of_ne_zero (fun e => h ((ZMod.val_eq_zero _).mp e))
        omega
  generalize failing 2048 p q b = n at hle hpos
  have ht : (BitVec.ofNat 32 n).toInt = n := by
    rw [BitVec.toInt_eq_toNat_cond, BitVec.toNat_ofNat]; split <;> omega
  show BitVec.ofBool ((0#32).slt (BitVec.ofNat 32 n)) = _
  rw [BitVec.slt, ht, show (0#32).toInt = 0 from rfl]
  unfold bit
  by_cases h : 0 < n
  · rw [if_pos (hpos.mp h), decide_eq_true (by exact_mod_cast h)]; rfl
  · rw [if_neg (fun k => h (hpos.mpr k)), decide_eq_false (by intro k; exact h (by exact_mod_cast k))]; rfl

theorem ofNat_sum {ι : Type} (s : Finset ι) (f : ι → ℕ) : (∑ k ∈ s, BitVec.ofNat 32 (f k)) = BitVec.ofNat 32 (∑ k ∈ s, f k) := by
  induction s using Finset.induction_on with
  | empty => simp
  | insert a s ha ih => rw [Finset.sum_insert ha, Finset.sum_insert ha, ih, BitVec.ofNat_add]

section
variable {x0 x1 x2 x3 : Vec Ideal S1024x4096 .i8} {a b d e : ℕ → ℕ → ZMod 2} (h0 : IsB (a := 1024) (b := 4096) x0 a)
  (h1 : IsB (a := 1024) (b := 4096) x1 b) (h2 : IsB (a := 1024) (b := 4096) x2 d) (h3 : IsB (a := 1024) (b := 4096) x3 e)
include h0 h1 h2 h3

theorem pay2_1 (j : S1024x128.Idx) :
    k2_pay1 (F := Ideal) x0 x1 x2 x3 j = BitVec.ofNat 32 (failing 1024 (dotT 4096 a b) (dotT 4096 d e) (j 0).val) := by
  have key : k2_pay1 (F := Ideal) x0 x1 x2 x3 j
      = ∑ k : Fin 1024, (k0_pay1 (F := Ideal) x0 x1 (ix2 (j 0) k) + k0_pay1 (F := Ideal) x2 x3 (ix2 (j 0) k)) := by
    have t : k2_pay1 (F := Ideal) x0 x1 x2 x3 = broadcastTo S1024x128 (shapeCast S1024x1 (shapeCast S1024x1 (multiReductionI .add [1] S1024 (addi (k0_pay1 (F := Ideal) x0 x1) (k0_pay1 (F := Ideal) x2 x3)) 0#32 reduces_S1024x1024_S1024 rfl) shapeCasts_S1024_S1024x1) shapeCasts_S1024x1_S1024x1) broadcasts_S1024x1_S1024x128 := rfl
    rw [t]
    generalize k0_pay1 (F := Ideal) x0 x1 = p
    generalize k0_pay1 (F := Ideal) x2 x3 = q
    pointwise
    exact (Finset.sum_eq_fold _ _).symm
  rw [key]
  unfold failing
  rw [Finset.sum_range, ← ofNat_sum]
  refine Finset.sum_congr rfl fun k _ => ?_
  rw [pay0_1 h0 h1, pay0_1 h2 h3, BitVec.ofNat_add]
  rfl

end

/-- Where the blocks of a point lie. -/
theorem idx2 : ∀ t : Fin cfg2.N, win2_0.index t = ![0, 0] ∧ win2_1.index t = ![t.val, 0] ∧ win2_2.index t = ![0, 0] ∧ win2_3.index t = ![t.val, 0] ∧ win2_4.index t = ![0, 0] := by decide +kernel

section
variable (V : (c : Dev nD) → (b : Ref sig .tc) → Buf (Elt Ideal) ((c : Thread nD τ).loc b)) (c : Dev nD) {D : Data}

theorem blk2_0 {x : ℕ → ℕ → ZMod 2} (h : IsB (a := 1024) (b := 4096) (V c main_v30_0) x) (t : Fin cfg2.N) :
    IsB (a := 1024) (b := 4096) (iblk2 V c 0 t) x := by
  intro j
  obtain ⟨e0, e1, e2, e3, e4⟩ := idx2 t
  have := h (((cfg2.win 0).blk t).view.emb j)
  refine Eq.trans this ?_
  blk_simp [e0]
theorem blk2_1 {x : ℕ → ℕ → ZMod 2} (h : IsB (a := 2048) (b := 4096) (V c main_v3) x) (t : Fin cfg2.N) :
    IsB (a := 1024) (b := 4096) (iblk2 V c 1 t) (fun i k => x (t.val * 1024 + i) k) := by
  intro j
  obtain ⟨e0, e1, e2, e3, e4⟩ := idx2 t
  have := h (((cfg2.win 1).blk t).view.emb j)
  refine Eq.trans this ?_
  blk_simp [e1]
theorem blk2_2 {x : ℕ → ℕ → ZMod 2} (h : IsB (a := 1024) (b := 4096) (V c main_v30_1) x) (t : Fin cfg2.N) :
    IsB (a := 1024) (b := 4096) (iblk2 V c 2 t) x := by
  intro j
  obtain ⟨e0, e1, e2, e3, e4⟩ := idx2 t
  have := h (((cfg2.win 2).blk t).view.emb j)
  refine Eq.trans this ?_
  blk_simp [e2]
theorem blk2_3 {x : ℕ → ℕ → ZMod 2} (h : IsB (a := 2048) (b := 4096) (V c main_v2) x) (t : Fin cfg2.N) :
    IsB (a := 1024) (b := 4096) (iblk2 V c 3 t) (fun i k => x (t.val * 1024 + i) k) := by
  intro j
  obtain ⟨e0, e1, e2, e3, e4⟩ := idx2 t
  have := h (((cfg2.win 3).blk t).view.emb j)
  refine Eq.trans this ?_
  blk_simp [e3]

theorem arr2_4 (h0 : IsB (a := 1024) (b := 4096) (V c main_v30_0) D.xd) (h1 : IsB (a := 2048) (b := 4096) (V c main_v3) D.hz)
    (h2 : IsB (a := 1024) (b := 4096) (V c main_v30_1) D.zd) (h3 : IsB (a := 2048) (b := 4096) (V c main_v2) D.hx) :
    (dat2 V c).arrAt 4 cfg2.N = fun j : S1024x128.Idx => BitVec.ofNat 32 (failing 2048 (syn D.hz D.xd) (syn D.hx D.zd) (j 0).val) := by
  have part := fun (t : Fin cfg2.N) (j : S1024x128.Idx) => pay2_1 (blk2_0 V c h0 t) (blk2_1 V c h1 t) (blk2_2 V c h2 t) (blk2_3 V c h3 t) j
  refine (dat2 V c).arrAt_eq_of_after_last 4 t2_1 (by decide +kernel) _ fun j => ?_
  blk_simp
  rw [after2_4, acc2_4_next V c t2_1 (by decide +kernel)]
  unfold out2_4_next k2_pay2
  rw [shapeCast_self]
  show acc2_4 V c t2_0.val t2_0.isLt j + _ = _
  rw [acc2_4_first V c t2_0 rfl]
  unfold out2_4_first
  refine (congrArg₂ (· + ·) (part t2_0 j) (part t2_1 j)).trans ?_
  show _ = BitVec.ofNat 32 (failing (1024 + 1024) (syn D.hz D.xd) (syn D.hx D.zd) (j 0).val)
  rw [failing_add, BitVec.ofNat_add]
  refine congrArg₂ (· + ·) (congrArg _ ?_) (congrArg _ ?_)
  · unfold failing
    refine Finset.sum_congr rfl fun k _ => ?_
    show (dotT 4096 D.xd (fun i k => D.hz (0 * 1024 + i) k) (j 0).val k).val + (dotT 4096 D.zd (fun i k => D.hx (0 * 1024 + i) k) (j 0).val k).val = _
    simp only [Nat.zero_mul, Nat.zero_add]
    rfl
  · unfold failing
    refine Finset.sum_congr rfl fun k _ => ?_
    show (dotT 4096 D.xd (fun i k => D.hz (1 * 1024 + i) k) (j 0).val k).val + (dotT 4096 D.zd (fun i k => D.hx (1 * 1024 + i) k) (j 0).val k).val = _
    simp only [Nat.one_mul]
    rfl

end

end Cert.Val
-- ==== Proof.Val.Call3.lean ====
/-
  THE FOURTH CALL, VALUED. Its two arrays: the reduced measured bits, each basis applied to the guess and the pivots picked out of the measured bits.
-/
module

public import proofs.«01_k».proof.Proof.Val.Call0

@[expose] public section

set_option maxRecDepth 16384

noncomputable section

namespace Cert.Val

open Idealize.ShloMosaic Idealize.ShloMosaic.TcCoe Idealize.ShloMosaic.Tactic
open Cert.KernelIdeal Cert.KernelIdeal.Gen Cert.KernelIdeal.Run
open scoped BigOperators
open Classical

theorem pay3_1 {x0 x1 : Vec Ideal S1024x6144 .i8} {a b : ℕ → ℕ → ZMod 2} (h0 : IsB (a := 1024) (b := 6144) x0 a) (h1 : IsV (a := 1024) (b := 6144) x1 b) :
    IsB (a := 1024) (b := 1024) (k3_pay1 (F := Ideal) x0 x1) (dotT 6144 a b) := by
  intro j
  unfold k3_pay1
  rw [shapeCast_self, shapeCast_self]
  show (matmulI8 IntMxuNumerics.v7x (DotDims.transposedRhs 1024 6144 1024) x0 x1 _ j &&& 1#32).setWidth 8 = _
  rw [and_one, par_mxu_transposed (by norm_num) h0 h1 _ j rfl, trunc_bw]
  rfl

theorem pay3_2 {x0 x1 : Vec Ideal S1024x6144 .i8} {a b : ℕ → ℕ → ZMod 2} (h0 : IsB (a := 1024) (b := 6144) x0 a) (h1 : IsV (a := 1024) (b := 6144) x1 b) :
    IsB (a := 1024) (b := 1024) (k3_pay2 (F := Ideal) x0 x1) (dotT 6144 a b) := pay3_1 h0 h1

/-- The guess beside the measured bits, against the basis beside the rows of single ones: the reduced measured bits. -/
theorem reduced (e s bs : ℕ → ℕ → ZMod 2) (p : ℕ → ℕ) (hp : ∀ i, p i < 2048) (b i : ℕ) (hi : i < 2040) :
    dotT 6144 (beside 4096 e s) (beside 4096 (rows 2040 bs) (ones p)) b i = red bs e s p b i := by
  unfold dotT red
  rw [show (6144 : ℕ) = 4096 + 2048 from rfl, Finset.sum_range_add]
  refine congrArg₂ (· + ·) (Finset.sum_congr rfl fun k hk => ?_) ?_
  · have hk := Finset.mem_range.mp hk
    unfold beside rows
    rw [if_pos hk, if_pos hk, if_pos hi]
  · have e1 : ∀ k, beside 4096 e s b (4096 + k) = s b k := fun k => by
      unfold beside; rw [if_neg (by omega), Nat.add_sub_cancel_left]
    have e2 : ∀ k, beside 4096 (rows 2040 bs) (ones p) i (4096 + k) = bit (p i = k) := fun k => by
      unfold beside; rw [if_neg (by omega), Nat.add_sub_cancel_left]
      unfold ones rows; beta_reduce; rw [if_pos hi]
    simp only [e1, e2]
    rw [Finset.sum_eq_single (p i)]
    · unfold bit; rw [if_pos rfl, mul_one]
    · intro k _ hk; unfold bit; rw [if_neg (Ne.symm hk), mul_zero]
    · intro h; exact absurd (Finset.mem_range.mpr (hp i)) h

/-- Carried back over the padded basis. -/
theorem carried (bs r r' : ℕ → ℕ → ZMod 2) (b n : ℕ) (h : ∀ i < 2040, r' b i = r b i) :
    (∑ q ∈ Finset.range 2048, r' b q * rows 2040 bs q n) = flip bs r b n := by
  unfold flip
  rw [show (2048 : ℕ) = 2040 + 8 from rfl, Finset.sum_range_add, Finset.sum_eq_zero (s := Finset.range 8), add_zero]
  · refine Finset.sum_congr rfl fun q hq => ?_
    have hq := Finset.mem_range.mp hq
    rw [h q hq]; unfold rows; rw [if_pos hq]
  · intro q _; unfold rows; rw [if_neg (by omega), mul_zero]

/-- Where the blocks of a point lie. -/
theorem idx3 : ∀ t : Fin cfg3.N, win3_0.index t = ![0, 0] ∧ win3_1.index t = ![t.val, 0] ∧ win3_2.index t = ![0, 0] ∧ win3_3.index t = ![t.val, 0] ∧ win3_4.index t = ![0, t.val] ∧ win3_5.index t = ![0, t.val] := by decide +kernel

section
variable (V : (c : Dev nD) → (b : Ref sig .tc) → Buf (Elt Ideal) ((c : Thread nD τ).loc b)) (c : Dev nD) {x y : ℕ → ℕ → ZMod 2}

theorem blk3_0 {x : ℕ → ℕ → ZMod 2} (h : IsB (a := 1024) (b := 6144) (V c main_v32) x) (t : Fin cfg3.N) :
    IsB (a := 1024) (b := 6144) (iblk3 V c 0 t) x := by
  intro j
  obtain ⟨e0, e1, e2, e3, e4, e5⟩ := idx3 t
  have := h (((cfg3.win 0).blk t).view.emb j)
  refine Eq.trans this ?_
  blk_simp [e0]
theorem blk3_1 {x : ℕ → ℕ → ZMod 2} (h : IsV (a := 2048) (b := 6144) (V c main_v23) x) (t : Fin cfg3.N) :
    IsV (a := 1024) (b := 6144) (iblk3 V c 1 t) (fun i k => x (t.val * 1024 + i) k) := by
  intro j
  obtain ⟨e0, e1, e2, e3, e4, e5⟩ := idx3 t
  have := h (((cfg3.win 1).blk t).view.emb j)
  refine Eq.trans this ?_
  blk_simp [e1]
theorem blk3_2 {x : ℕ → ℕ → ZMod 2} (h : IsB (a := 1024) (b := 6144) (V c main_v33) x) (t : Fin cfg3.N) :
    IsB (a := 1024) (b := 6144) (iblk3 V c 2 t) x := by
  intro j
  obtain ⟨e0, e1, e2, e3, e4, e5⟩ := idx3 t
  have := h (((cfg3.win 2).blk t).view.emb j)
  refine Eq.trans this ?_
  blk_simp [e2]
theorem blk3_3 {x : ℕ → ℕ → ZMod 2} (h : IsV (a := 2048) (b := 6144) (V c main_v24) x) (t : Fin cfg3.N) :
    IsV (a := 1024) (b := 6144) (iblk3 V c 3 t) (fun i k => x (t.val * 1024 + i) k) := by
  intro j
  obtain ⟨e0, e1, e2, e3, e4, e5⟩ := idx3 t
  have := h (((cfg3.win 3).blk t).view.emb j)
  refine Eq.trans this ?_
  blk_simp [e3]
theorem arr3_4 (h0 : IsB (a := 1024) (b := 6144) (V c main_v32) x) (h1 : IsV (a := 2048) (b := 6144) (V c main_v23) y) :
    IsB (a := 1024) (b := 2048) ((dat3 V c).arrAt 4 cfg3.N) (dotT 6144 x y) := by
  intro j
  refine congrFun ((dat3 V c).arrAt_eq_of_covers 4 (fun j => bw 8 ((dotT 6144 x y) (j 0).val (j 1).val)) (by decide +kernel) fun t hf y => ?_) j
  obtain ⟨e0, e1, e2, e3, e4, e5⟩ := idx3 t
  blk_simp [e4]
  rw [after3_4]
  exact (pay3_1 (blk3_0 V c h0 t) (blk3_1 V c h1 t) y).trans (by rfl)
theorem arr3_5 (h2 : IsB (a := 1024) (b := 6144) (V c main_v33) x) (h3 : IsV (a := 2048) (b := 6144) (V c main_v24) y) :
    IsB (a := 1024) (b := 2048) ((dat3 V c).arrAt 5 cfg3.N) (dotT 6144 x y) := by
  intro j
  refine congrFun ((dat3 V c).arrAt_eq_of_covers 5 (fun j => bw 8 ((dotT 6144 x y) (j 0).val (j 1).val)) (by decide +kernel) fun t hf y => ?_) j
  obtain ⟨e0, e1, e2, e3, e4, e5⟩ := idx3 t
  blk_simp [e5]
  rw [after3_5]
  exact (pay3_2 (blk3_2 V c h2 t) (blk3_3 V c h3 t) y).trans (by rfl)

end

end Cert.Val
-- ==== Proof.Val.Call4.lean ====
/-
  THE LAST CALL, VALUED. Its two arrays: the products of what is left of the noise with the logical operators, summed over the tiles and reduced to bits.
-/
module

public import proofs.«01_k».proof.Proof.Val.Call2
public import proofs.«01_k».proof.Proof.Val.Call3

@[expose] public section

set_option maxRecDepth 16384

noncomputable section

namespace Cert.Val

open Idealize.ShloMosaic Idealize.ShloMosaic.TcCoe Idealize.ShloMosaic.Tactic
open Cert.KernelIdeal Cert.KernelIdeal.Gen Cert.KernelIdeal.Run
open scoped BigOperators
open Classical

/-- What is left on a tile: the noise and the repaired guess where a check of the row fails, what was left before elsewhere. -/
def leftOf (E : ℕ → Prop) (n e d r bs : ℕ → ℕ → ZMod 2) (i k : ℕ) : ZMod 2 :=
  if E i then n i k + (e i k + ∑ q ∈ Finset.range 2048, r i q * bs q k) else d i k

/-- A term of the products with the logical operators `l`. -/
def seenOf (E : ℕ → Prop) (n e d r bs l : ℕ → ℕ → ZMod 2) (b i k : ℕ) : ZMod 2 := leftOf E n e d r bs b k * l i k

theorem tile_zero (f : ℕ → ZMod 2) : (∑ k ∈ Finset.range 1024, f (0 * 1024 + k)) = ∑ k ∈ Finset.range ((0 + 1) * 1024), f k := by
  simp only [Nat.zero_mul, Nat.zero_add, Nat.one_mul]

theorem tile_succ (f : ℕ → ZMod 2) (n : ℕ) :
    (∑ k ∈ Finset.range ((n + 1) * 1024), f k) + (∑ k ∈ Finset.range 1024, f ((n + 1) * 1024 + k)) = ∑ k ∈ Finset.range ((n + 1 + 1) * 1024), f k := by
  rw [Nat.add_mul (n + 1) 1 1024, Nat.one_mul, Finset.sum_range_add]

section
variable {x2 : Vec Ideal S1024x2048 .i8} {x3 : Vec Ideal S2048x1024 .i8} {x5 x6 x8 : Vec Ideal S1024x1024 .i8} {x10 : Vec Ideal S1024x128 .i32}
  {x12 : Vec Ideal S128x1024 .i8} {r bs e n d l : ℕ → ℕ → ZMod 2} {E : ℕ → Prop}

theorem pay4_8 (h2 : IsB (a := 1024) (b := 2048) x2 r) (h3 : IsV (a := 2048) (b := 1024) x3 bs) (h5 : IsB (a := 1024) (b := 1024) x5 e) :
    IsB (a := 1024) (b := 1024) (k4_pay8 (F := Ideal) x2 x3 x5) (fun i k => e i k + ∑ q ∈ Finset.range 2048, r i q * bs q k) := by
  intro j
  unfold k4_pay8
  rw [shapeCast_self, shapeCast_self, shapeCast_self]
  show (x5 j).signExtend 32 ^^^ (matmulI8 IntMxuNumerics.v7x (DotDims.plain 1024 2048 1024) x2 x3 _ j &&& 1#32) = _
  rw [and_one, par_mxu_plain (by norm_num) h2 h3 _ j rfl, h5, sext_bw, xor_bw32]

theorem pay4_7 (h10 : ∀ j : S1024x128.Idx, IntOp.cmpi .sgt (x10 j) 0#32 = bw 1 (bit (E (j 0).val))) (j : S1024x1.Idx) :
    k4_pay7 (F := Ideal) x10 j = bw 1 (bit (E (j 0).val)) := by
  unfold k4_pay7
  rw [shapeCast_self]
  pointwise
  exact h10 _

theorem select_bit4 (p : Prop) (a b : BitVec 32) : Scalar.select (bw 1 (bit p)) a b = if p then a else b := by
  unfold bit
  by_cases h : p
  · rw [if_pos h, if_pos h]; rfl
  · rw [if_neg h, if_neg h]; rfl

theorem left_block (h2 : IsB (a := 1024) (b := 2048) x2 r) (h3 : IsV (a := 2048) (b := 1024) x3 bs) (h5 : IsB (a := 1024) (b := 1024) x5 e)
    (h6 : IsB (a := 1024) (b := 1024) x6 n) (h8 : IsB (a := 1024) (b := 1024) x8 d)
    (h10 : ∀ j : S1024x128.Idx, IntOp.cmpi .sgt (x10 j) 0#32 = bw 1 (bit (E (j 0).val))) :
    IsB (a := 1024) (b := 1024) (select (broadcastTo S1024x1024 (k4_pay7 (F := Ideal) x10) broadcasts_S1024x1_S1024x1024)
      (xori (extsi 32 x6 natLt_8_32) (k4_pay8 (F := Ideal) x2 x3 x5)) (extsi 32 x8 natLt_8_32)) (leftOf E n e d r bs) := by
  intro j
  have e7 := pay4_7 h10 (ix2 (j 0) 0)
  have e8 := pay4_8 h2 h3 h5 j
  generalize k4_pay7 (F := Ideal) x10 = P at e7
  generalize k4_pay8 (F := Ideal) x2 x3 x5 = Q at e8
  have t : (select (broadcastTo S1024x1024 P broadcasts_S1024x1_S1024x1024) (xori (extsi 32 x6 natLt_8_32) Q) (extsi 32 x8 natLt_8_32)) j
      = Scalar.select (P (ix2 (j 0) 0)) ((x6 j).signExtend 32 ^^^ Q j) ((x8 j).signExtend 32) := by
    pointwise
    rfl
  rw [t, e7, select_bit4, e8, h6, h8, sext_bw, sext_bw, xor_bw32]
  beta_reduce
  unfold leftOf
  by_cases h : E (j 0).val
  · rw [if_pos h]; exact if_pos h
  · rw [if_neg h]; exact if_neg h

theorem pay4_2 (h2 : IsB (a := 1024) (b := 2048) x2 r) (h3 : IsV (a := 2048) (b := 1024) x3 bs) (h5 : IsB (a := 1024) (b := 1024) x5 e)
    (h6 : IsB (a := 1024) (b := 1024) x6 n) (h8 : IsB (a := 1024) (b := 1024) x8 d)
    (h10 : ∀ j : S1024x128.Idx, IntOp.cmpi .sgt (x10 j) 0#32 = bw 1 (bit (E (j 0).val))) (h12 : IsV (a := 128) (b := 1024) x12 l) (j : S1024x128.Idx) :
    par (k4_pay2 (F := Ideal) (k4_pay7 x10) (k4_pay8 x2 x3 x5) x6 x8 x12 j) = ∑ k ∈ Finset.range 1024, leftOf E n e d r bs (j 0).val k * l (j 1).val k := by
  unfold k4_pay2
  rw [shapeCast_self, shapeCast_self, shapeCast_self, shapeCast_self]
  exact par_mxu_transposed (M := 1024) (K := 1024) (N := 128) (by norm_num) (bytes (left_block h2 h3 h5 h6 h8 h10) natLt_8_32) h12 _ j rfl

end

/-- The two results of the call are the same text on the two kinds. -/
theorem same_first (x0 x1 x4 x7 x9 x10 x11) : out4_14_first (F := Ideal) x0 x1 x4 x7 x9 x10 x11 = out4_13_first x0 x1 x4 x7 x9 x10 x11 := rfl
theorem same_next (x0 x1 x4 x7 x9 x10 x11 y) : out4_14_next (F := Ideal) x0 x1 x4 x7 x9 x10 x11 y = out4_13_next x0 x1 x4 x7 x9 x10 x11 y := rfl
theorem same_last (x0 x1 x4 x7 x9 x10 x11 y) : out4_14_last (F := Ideal) x0 x1 x4 x7 x9 x10 x11 y = out4_13_last x0 x1 x4 x7 x9 x10 x11 y := rfl

/-- Where the blocks of a point lie. -/
theorem idx4 : ∀ t : Fin cfg4.N, win4_0.index t = ![0, 0] ∧ win4_1.index t = ![0, t.val] ∧ win4_2.index t = ![0, 0] ∧ win4_3.index t = ![0, t.val] ∧ win4_4.index t = ![0, t.val] ∧ win4_5.index t = ![0, t.val] ∧ win4_6.index t = ![0, t.val] ∧ win4_7.index t = ![0, t.val] ∧ win4_8.index t = ![0, t.val] ∧ win4_9.index t = ![0, t.val] ∧ win4_10.index t = ![0, 0] ∧ win4_11.index t = ![0, t.val] ∧ win4_12.index t = ![0, t.val] ∧ win4_13.index t = ![0, 0] ∧ win4_14.index t = ![0, 0] := by decide +kernel

section
variable (V : (c : Dev nD) → (b : Ref sig .tc) → Buf (Elt Ideal) ((c : Thread nD τ).loc b)) (c : Dev nD) {D : Data}

theorem blk4_0 {x : ℕ → ℕ → ZMod 2} (h : IsB (a := 1024) (b := 2048) (V c main_v34_0) x) (t : Fin cfg4.N) :
    IsB (a := 1024) (b := 2048) (iblk4 V c 0 t) x := by
  intro j
  obtain ⟨e0, e1, e2, e3, e4, e5, e6, e7, e8, e9, e10, e11, e12, e13, e14⟩ := idx4 t
  have := h (((cfg4.win 0).blk t).view.emb j)
  refine Eq.trans this ?_
  blk_simp [e0]
theorem blk4_1 {x : ℕ → ℕ → ZMod 2} (h : IsV (a := 2048) (b := 4096) (V c main_v5) x) (t : Fin cfg4.N) :
    IsV (a := 2048) (b := 1024) (iblk4 V c 1 t) (fun i k => x i (t.val * 1024 + k)) := by
  intro j
  obtain ⟨e0, e1, e2, e3, e4, e5, e6, e7, e8, e9, e10, e11, e12, e13, e14⟩ := idx4 t
  have := h (((cfg4.win 1).blk t).view.emb j)
  refine Eq.trans this ?_
  blk_simp [e1]
theorem blk4_2 {x : ℕ → ℕ → ZMod 2} (h : IsB (a := 1024) (b := 2048) (V c main_v34_1) x) (t : Fin cfg4.N) :
    IsB (a := 1024) (b := 2048) (iblk4 V c 2 t) x := by
  intro j
  obtain ⟨e0, e1, e2, e3, e4, e5, e6, e7, e8, e9, e10, e11, e12, e13, e14⟩ := idx4 t
  have := h (((cfg4.win 2).blk t).view.emb j)
  refine Eq.trans this ?_
  blk_simp [e2]
theorem blk4_3 {x : ℕ → ℕ → ZMod 2} (h : IsV (a := 2048) (b := 4096) (V c main_v7) x) (t : Fin cfg4.N) :
    IsV (a := 2048) (b := 1024) (iblk4 V c 3 t) (fun i k => x i (t.val * 1024 + k)) := by
  intro j
  obtain ⟨e0, e1, e2, e3, e4, e5, e6, e7, e8, e9, e10, e11, e12, e13, e14⟩ := idx4 t
  have := h (((cfg4.win 3).blk t).view.emb j)
  refine Eq.trans this ?_
  blk_simp [e3]
theorem blk4_4 {x : ℕ → ℕ → ZMod 2} (h : IsB (a := 1024) (b := 4096) (V c main_v30_3) x) (t : Fin cfg4.N) :
    IsB (a := 1024) (b := 1024) (iblk4 V c 4 t) (fun i k => x i (t.val * 1024 + k)) := by
  intro j
  obtain ⟨e0, e1, e2, e3, e4, e5, e6, e7, e8, e9, e10, e11, e12, e13, e14⟩ := idx4 t
  have := h (((cfg4.win 4).blk t).view.emb j)
  refine Eq.trans this ?_
  blk_simp [e4]
theorem blk4_5 {x : ℕ → ℕ → ZMod 2} (h : IsB (a := 1024) (b := 4096) (V c main_v30_2) x) (t : Fin cfg4.N) :
    IsB (a := 1024) (b := 1024) (iblk4 V c 5 t) (fun i k => x i (t.val * 1024 + k)) := by
  intro j
  obtain ⟨e0, e1, e2, e3, e4, e5, e6, e7, e8, e9, e10, e11, e12, e13, e14⟩ := idx4 t
  have := h (((cfg4.win 5).blk t).view.emb j)
  refine Eq.trans this ?_
  blk_simp [e5]
theorem blk4_6 {x : ℕ → ℕ → ZMod 2} (h : IsB (a := 1024) (b := 4096) (V c main_v0) x) (t : Fin cfg4.N) :
    IsB (a := 1024) (b := 1024) (iblk4 V c 6 t) (fun i k => x i (t.val * 1024 + k)) := by
  intro j
  obtain ⟨e0, e1, e2, e3, e4, e5, e6, e7, e8, e9, e10, e11, e12, e13, e14⟩ := idx4 t
  have := h (((cfg4.win 6).blk t).view.emb j)
  refine Eq.trans this ?_
  blk_simp [e6]
theorem blk4_7 {x : ℕ → ℕ → ZMod 2} (h : IsB (a := 1024) (b := 4096) (V c main_v1) x) (t : Fin cfg4.N) :
    IsB (a := 1024) (b := 1024) (iblk4 V c 7 t) (fun i k => x i (t.val * 1024 + k)) := by
  intro j
  obtain ⟨e0, e1, e2, e3, e4, e5, e6, e7, e8, e9, e10, e11, e12, e13, e14⟩ := idx4 t
  have := h (((cfg4.win 7).blk t).view.emb j)
  refine Eq.trans this ?_
  blk_simp [e7]
theorem blk4_8 {x : ℕ → ℕ → ZMod 2} (h : IsB (a := 1024) (b := 4096) (V c main_v30_0) x) (t : Fin cfg4.N) :
    IsB (a := 1024) (b := 1024) (iblk4 V c 8 t) (fun i k => x i (t.val * 1024 + k)) := by
  intro j
  obtain ⟨e0, e1, e2, e3, e4, e5, e6, e7, e8, e9, e10, e11, e12, e13, e14⟩ := idx4 t
  have := h (((cfg4.win 8).blk t).view.emb j)
  refine Eq.trans this ?_
  blk_simp [e8]
theorem blk4_9 {x : ℕ → ℕ → ZMod 2} (h : IsB (a := 1024) (b := 4096) (V c main_v30_1) x) (t : Fin cfg4.N) :
    IsB (a := 1024) (b := 1024) (iblk4 V c 9 t) (fun i k => x i (t.val * 1024 + k)) := by
  intro j
  obtain ⟨e0, e1, e2, e3, e4, e5, e6, e7, e8, e9, e10, e11, e12, e13, e14⟩ := idx4 t
  have := h (((cfg4.win 9).blk t).view.emb j)
  refine Eq.trans this ?_
  blk_simp [e9]
theorem blk4_11 {x : ℕ → ℕ → ZMod 2} (h : IsV (a := 128) (b := 4096) (V c main_v26) x) (t : Fin cfg4.N) :
    IsV (a := 128) (b := 1024) (iblk4 V c 11 t) (fun i k => x i (t.val * 1024 + k)) := by
  intro j
  obtain ⟨e0, e1, e2, e3, e4, e5, e6, e7, e8, e9, e10, e11, e12, e13, e14⟩ := idx4 t
  have := h (((cfg4.win 11).blk t).view.emb j)
  refine Eq.trans this ?_
  blk_simp [e11]
theorem blk4_12 {x : ℕ → ℕ → ZMod 2} (h : IsV (a := 128) (b := 4096) (V c main_v28) x) (t : Fin cfg4.N) :
    IsV (a := 128) (b := 1024) (iblk4 V c 12 t) (fun i k => x i (t.val * 1024 + k)) := by
  intro j
  obtain ⟨e0, e1, e2, e3, e4, e5, e6, e7, e8, e9, e10, e11, e12, e13, e14⟩ := idx4 t
  have := h (((cfg4.win 12).blk t).view.emb j)
  refine Eq.trans this ?_
  blk_simp [e12]
theorem blk4_10 {E : ℕ → Prop} (h : ∀ j : S1024x128.Idx, IntOp.cmpi .sgt ((V c main_v31 : S1024x128.Idx → BitVec 32) j) 0#32 = bw 1 (bit (E (j 0).val)))
    (t : Fin cfg4.N) (j : S1024x128.Idx) : IntOp.cmpi .sgt ((iblk4 V c 10 t : S1024x128.Idx → BitVec 32) j) 0#32 = bw 1 (bit (E (j 0).val)) := by
  obtain ⟨e0, e1, e2, e3, e4, e5, e6, e7, e8, e9, e10, e11, e12, e13, e14⟩ := idx4 t
  have := h (((cfg4.win 10).blk t).view.emb j)
  refine Eq.trans this ?_
  blk_simp [e10]

section
variable {r bs e n d l : ℕ → ℕ → ZMod 2} {E : ℕ → Prop} (h2 : IsB (a := 1024) (b := 2048) (V c main_v34_1) r) (h3 : IsV (a := 2048) (b := 4096) (V c main_v7) bs) (h5 : IsB (a := 1024) (b := 4096) (V c main_v30_2) e) (h6 : IsB (a := 1024) (b := 4096) (V c main_v0) n) (h8 : IsB (a := 1024) (b := 4096) (V c main_v30_0) d) (h10 : ∀ j : S1024x128.Idx, IntOp.cmpi .sgt ((V c main_v31 : S1024x128.Idx → BitVec 32) j) 0#32 = bw 1 (bit (E (j 0).val))) (h12 : IsV (a := 128) (b := 4096) (V c main_v28) l)
include h2 h3 h5 h6 h8 h10 h12

theorem part4_13 (t : Fin cfg4.N) (j : S1024x128.Idx) :
    par (out4_13_first (F := Ideal) (iblk4 V c 2 t) (iblk4 V c 3 t) (iblk4 V c 5 t) (iblk4 V c 6 t) (iblk4 V c 8 t) (iblk4 V c 10 t) (iblk4 V c 12 t) j)
      = ∑ k ∈ Finset.range 1024, seenOf E n e d r bs l (j 0).val (j 1).val (t.val * 1024 + k) := by
  unfold out4_13_first
  exact (pay4_2 (blk4_2 V c h2 t) (blk4_3 V c h3 t) (blk4_5 V c h5 t) (blk4_6 V c h6 t) (blk4_8 V c h8 t) (blk4_10 V c h10 t) (blk4_12 V c h12 t) j).trans (Finset.sum_congr rfl fun _ _ => rfl)

/-- The sum over the tiles up to a point, as a parity. -/
theorem acc4_13_par (t : Fin cfg4.N) (hl : t.val ≠ 3) (j : S1024x128.Idx) :
    par (acc4_13 V c t.val t.isLt j) = ∑ k ∈ Finset.range ((t.val + 1) * 1024), seenOf E n e d r bs l (j 0).val (j 1).val k := by
  obtain ⟨k, hk⟩ := t
  induction k with
  | zero =>
    rw [acc4_13_first V c ⟨0, hk⟩ rfl]
    refine (part4_13 V c h2 h3 h5 h6 h8 h10 h12 ⟨0, hk⟩ j).trans ?_
    exact tile_zero _
  | succ k ih =>
    rw [acc4_13_next V c ⟨k + 1, hk⟩ (Nat.succ_ne_zero k) hl]
    unfold out4_13_next k4_pay4
    rw [shapeCast_self]
    refine (par_add _ _).trans ?_
    refine (congrArg₂ (· + ·) (ih (Nat.lt_of_succ_lt hk) ?_) (part4_13 V c h2 h3 h5 h6 h8 h10 h12 ⟨k + 1, hk⟩ j)).trans ?_
    · have hN : k + 1 < 4 := lt_of_lt_of_eq hk (show cfg4.N = 4 from N_4)
      show k ≠ 3
      omega
    · exact tile_succ _ k

theorem arr4_13 : (dat4 V c).arrAt 13 cfg4.N
    = fun j : S1024x128.Idx => bw 32 (∑ k ∈ Finset.range 4096, seenOf E n e d r bs l (j 0).val (j 1).val k) := by
  refine (dat4 V c).arrAt_eq_of_after_last 13 t4_3 (by decide +kernel) _ fun j => ?_
  blk_simp
  rw [after4_13, acc4_13_last V c t4_3 rfl]
  unfold out4_13_last k4_pay6 k4_pay4
  rw [shapeCast_self, shapeCast_self]
  refine (and_one _).trans (congrArg (bw 32) ?_)
  refine (par_add _ _).trans ?_
  refine (congrArg₂ (· + ·) (acc4_13_par V c h2 h3 h5 h6 h8 h10 h12 t4_2 (by decide +kernel) j) (part4_13 V c h2 h3 h5 h6 h8 h10 h12 t4_3 j)).trans ?_
  exact tile_succ _ 2

end
section
variable {r bs e n d l : ℕ → ℕ → ZMod 2} {E : ℕ → Prop} (h0 : IsB (a := 1024) (b := 2048) (V c main_v34_0) r) (h1 : IsV (a := 2048) (b := 4096) (V c main_v5) bs) (h4 : IsB (a := 1024) (b := 4096) (V c main_v30_3) e) (h7 : IsB (a := 1024) (b := 4096) (V c main_v1) n) (h9 : IsB (a := 1024) (b := 4096) (V c main_v30_1) d) (h10 : ∀ j : S1024x128.Idx, IntOp.cmpi .sgt ((V c main_v31 : S1024x128.Idx → BitVec 32) j) 0#32 = bw 1 (bit (E (j 0).val))) (h11 : IsV (a := 128) (b := 4096) (V c main_v26) l)
include h0 h1 h4 h7 h9 h10 h11

theorem part4_14 (t : Fin cfg4.N) (j : S1024x128.Idx) :
    par (out4_13_first (F := Ideal) (iblk4 V c 0 t) (iblk4 V c 1 t) (iblk4 V c 4 t) (iblk4 V c 7 t) (iblk4 V c 9 t) (iblk4 V c 10 t) (iblk4 V c 11 t) j)
      = ∑ k ∈ Finset.range 1024, seenOf E n e d r bs l (j 0).val (j 1).val (t.val * 1024 + k) := by
  unfold out4_13_first
  exact (pay4_2 (blk4_0 V c h0 t) (blk4_1 V c h1 t) (blk4_4 V c h4 t) (blk4_7 V c h7 t) (blk4_9 V c h9 t) (blk4_10 V c h10 t) (blk4_11 V c h11 t) j).trans (Finset.sum_congr rfl fun _ _ => rfl)

/-- The sum over the tiles up to a point, as a parity. -/
theorem acc4_14_par (t : Fin cfg4.N) (hl : t.val ≠ 3) (j : S1024x128.Idx) :
    par (acc4_14 V c t.val t.isLt j) = ∑ k ∈ Finset.range ((t.val + 1) * 1024), seenOf E n e d r bs l (j 0).val (j 1).val k := by
  obtain ⟨k, hk⟩ := t
  induction k with
  | zero =>
    rw [acc4_14_first V c ⟨0, hk⟩ rfl, same_first]
    refine (part4_14 V c h0 h1 h4 h7 h9 h10 h11 ⟨0, hk⟩ j).trans ?_
    exact tile_zero _
  | succ k ih =>
    rw [acc4_14_next V c ⟨k + 1, hk⟩ (Nat.succ_ne_zero k) hl, same_next]
    unfold out4_13_next k4_pay4
    rw [shapeCast_self]
    refine (par_add _ _).trans ?_
    refine (congrArg₂ (· + ·) (ih (Nat.lt_of_succ_lt hk) ?_) (part4_14 V c h0 h1 h4 h7 h9 h10 h11 ⟨k + 1, hk⟩ j)).trans ?_
    · have hN : k + 1 < 4 := lt_of_lt_of_eq hk (show cfg4.N = 4 from N_4)
      show k ≠ 3
      omega
    · exact tile_succ _ k

theorem arr4_14 : (dat4 V c).arrAt 14 cfg4.N
    = fun j : S1024x128.Idx => bw 32 (∑ k ∈ Finset.range 4096, seenOf E n e d r bs l (j 0).val (j 1).val k) := by
  refine (dat4 V c).arrAt_eq_of_after_last 14 t4_3 (by decide +kernel) _ fun j => ?_
  blk_simp
  rw [after4_14, acc4_14_last V c t4_3 rfl, same_last]
  unfold out4_13_last k4_pay6 k4_pay4
  rw [shapeCast_self, shapeCast_self]
  refine (and_one _).trans (congrArg (bw 32) ?_)
  refine (par_add _ _).trans ?_
  refine (congrArg₂ (· + ·) (acc4_14_par V c h0 h1 h4 h7 h9 h10 h11 t4_2 (by decide +kernel) j) (part4_14 V c h0 h1 h4 h7 h9 h10 h11 t4_3 j)).trans ?_
  exact tile_succ _ 2

end

end

end Cert.Val
-- ==== Proof.Val.KerEnd.lean ====
/-
  THE RESULT OF THE KERNEL. The contents of the arrays from call to call, each as bits of the data, down to the two results.
-/
module

public import proofs.«01_k».proof.Proof.Val.Host
public import proofs.«01_k».proof.Proof.Val.Call1
public import proofs.«01_k».proof.Proof.Val.Call4

@[expose] public section

set_option maxRecDepth 16384

noncomputable section

namespace Cert.Val

open Idealize.ShloMosaic Idealize.ShloMosaic.TcCoe Idealize.ShloMosaic.Tactic
open Cert.KernelIdeal Cert.KernelIdeal.Gen Cert.KernelIdeal.Run
open scoped BigOperators
open Classical

variable (W : Valuation τ sig (Elt Ideal))

theorem read_v32 : StableHlo.after hostOps3 W main_v32 = concatenate S1024x6144 1 [⟨S1024x4096, W main_v30_3⟩, ⟨S1024x2048, W main_v29_0⟩] concatenates_S1024x4096_S1024x2048_S1024x6144_d1 := by
  after_results
theorem read_v33 : StableHlo.after hostOps3 W main_v33 = concatenate S1024x6144 1 [⟨S1024x4096, W main_v30_2⟩, ⟨S1024x2048, W main_v29_1⟩] concatenates_S1024x4096_S1024x2048_S1024x6144_d1 := by
  after_results
theorem read_v38 : StableHlo.after hostOps5 W main_v38 = concatenate S1024x32 1 [⟨S1024x16, extractStridedSlice S1024x16 ![0, 0] (W main_v35_0) slices_S1024x128_S1024x16_0_0⟩, ⟨S1024x16, extractStridedSlice S1024x16 ![0, 0] (W main_v35_1) slices_S1024x128_S1024x16_0_0⟩] concatenates_S1024x16_S1024x16_S1024x32_d1 := by
  after_results
theorem read_v39 : StableHlo.after hostOps5 W main_v39 = broadcastInDim S1024x32 ![] bcast_S_S1024x32 (constantI S_ 32 0#32) := by
  after_results

/-- What the last call leaves of a tile's row is what the problem leaves. -/
theorem left_is (E : ℕ → Prop) (n e h d r r' bs : ℕ → ℕ → ZMod 2) (b k : ℕ) (hr : ∀ i < 2040, r' b i = r b i) (hd : d b k = n b k + h b k) :
    leftOf E n e d r' (rows 2040 bs) b k = n b k + if E b then e b k + flip bs r b k else h b k := by
  unfold leftOf
  by_cases hE : E b
  · rw [if_pos hE, if_pos hE, carried bs r r' b k hr]
  · rw [if_neg hE, if_neg hE, hd]

variable {D : Data} {m : (ℓ : Loc nD τ sig) → Buf (Elt Ideal) ℓ} {c : Dev nD} (ρ : Dev nD → PrngReg) (R : KerReads D m c)
include R

theorem at14_v29_2 : IsPm (a := 1024) (b := 2048) (W14 m ρ c main_v29_2) D.sx := by
  rw [show W14 m ρ c main_v29_2 = _ from W14_arr m ρ c 6]
  exact arr0_6 (V13 m ρ) c (host_v1 ρ R) (host_v2 ρ R)
theorem at14_v2 : IsB (a := 2048) (b := 4096) (W14 m ρ c main_v2) D.hx := by
  rw [W14_of m ρ c main_v2 (by decide +kernel)]
  exact (host_v2 ρ R)
theorem at14_v29_3 : IsPm (a := 1024) (b := 2048) (W14 m ρ c main_v29_3) D.sz := by
  rw [show W14 m ρ c main_v29_3 = _ from W14_arr m ρ c 7]
  exact arr0_7 (V13 m ρ) c (host_v0 ρ R) (host_v3 ρ R)
theorem at14_v3 : IsB (a := 2048) (b := 4096) (W14 m ρ c main_v3) D.hz := by
  rw [W14_of m ρ c main_v3 (by decide +kernel)]
  exact (host_v3 ρ R)
theorem at14_arg2 : IsR (a := 1024) (b := 4096) (W14 m ρ c main_arg2) D.L := by
  rw [W14_of m ρ c main_arg2 (by decide +kernel)]
  exact (host_arg2 ρ R)
theorem at15_v30_2 : IsB (a := 1024) (b := 4096) (W15 m ρ c main_v30_2) D.e0x := by
  rw [show W15 m ρ c main_v30_2 = _ from W15_arr m ρ c 9]
  exact arr1_9 (V14 m ρ) c (at14_v29_2 ρ R) (at14_v2 ρ R) (at14_v29_3 ρ R) (at14_v3 ρ R) (at14_arg2 ρ R)
theorem at16_v30_2 : IsB (a := 1024) (b := 4096) (W16 m ρ c main_v30_2) D.e0x := by
  rw [W16_of m ρ c main_v30_2 (by decide +kernel)]
  exact (at15_v30_2 ρ R)
theorem at14_v29_1 : IsB (a := 1024) (b := 2048) (W14 m ρ c main_v29_1) D.sz := by
  rw [show W14 m ρ c main_v29_1 = _ from W14_arr m ρ c 5]
  exact arr0_5 (V13 m ρ) c (host_v0 ρ R) (host_v3 ρ R)
theorem at15_v29_1 : IsB (a := 1024) (b := 2048) (W15 m ρ c main_v29_1) D.sz := by
  rw [W15_of m ρ c main_v29_1 (by decide +kernel)]
  exact (at14_v29_1 ρ R)
theorem at16_v29_1 : IsB (a := 1024) (b := 2048) (W16 m ρ c main_v29_1) D.sz := by
  rw [W16_of m ρ c main_v29_1 (by decide +kernel)]
  exact (at15_v29_1 ρ R)
theorem at17_v33 : IsB (a := 1024) (b := 6144) (W17 m ρ c main_v33) (beside 4096 D.e0x D.sz) := by
  rw [show W17 m ρ c main_v33 = _ from read_v33 (W16 m ρ c)]
  exact beside_batch (at16_v30_2 ρ R) (at16_v29_1 ρ R) _
theorem at14_v24 : IsV (a := 2048) (b := 6144) (W14 m ρ c main_v24) (beside 4096 (rows 2040 D.bz) (ones D.pz)) := by
  rw [W14_of m ρ c main_v24 (by decide +kernel)]
  exact (host_v24 ρ R)
theorem at15_v24 : IsV (a := 2048) (b := 6144) (W15 m ρ c main_v24) (beside 4096 (rows 2040 D.bz) (ones D.pz)) := by
  rw [W15_of m ρ c main_v24 (by decide +kernel)]
  exact (at14_v24 ρ R)
theorem at16_v24 : IsV (a := 2048) (b := 6144) (W16 m ρ c main_v24) (beside 4096 (rows 2040 D.bz) (ones D.pz)) := by
  rw [W16_of m ρ c main_v24 (by decide +kernel)]
  exact (at15_v24 ρ R)
theorem at17_v24 : IsV (a := 2048) (b := 6144) (W17 m ρ c main_v24) (beside 4096 (rows 2040 D.bz) (ones D.pz)) := by
  rw [W17_of m ρ c main_v24 (by decide +kernel)]
  exact (at16_v24 ρ R)
theorem at18_v34_1 : IsB (a := 1024) (b := 2048) (W18 m ρ c main_v34_1) (dotT 6144 (beside 4096 D.e0x D.sz) (beside 4096 (rows 2040 D.bz) (ones D.pz))) := by
  rw [show W18 m ρ c main_v34_1 = _ from W18_arr m ρ c 5]
  exact arr3_5 (V17 m ρ) c (at17_v33 ρ R) (at17_v24 ρ R)
theorem at14_v7 : IsV (a := 2048) (b := 4096) (W14 m ρ c main_v7) (rows 2040 D.bz) := by
  rw [W14_of m ρ c main_v7 (by decide +kernel)]
  exact (host_v7 ρ R)
theorem at15_v7 : IsV (a := 2048) (b := 4096) (W15 m ρ c main_v7) (rows 2040 D.bz) := by
  rw [W15_of m ρ c main_v7 (by decide +kernel)]
  exact (at14_v7 ρ R)
theorem at16_v7 : IsV (a := 2048) (b := 4096) (W16 m ρ c main_v7) (rows 2040 D.bz) := by
  rw [W16_of m ρ c main_v7 (by decide +kernel)]
  exact (at15_v7 ρ R)
theorem at17_v7 : IsV (a := 2048) (b := 4096) (W17 m ρ c main_v7) (rows 2040 D.bz) := by
  rw [W17_of m ρ c main_v7 (by decide +kernel)]
  exact (at16_v7 ρ R)
theorem at18_v7 : IsV (a := 2048) (b := 4096) (W18 m ρ c main_v7) (rows 2040 D.bz) := by
  rw [W18_of m ρ c main_v7 (by decide +kernel)]
  exact (at17_v7 ρ R)
theorem at17_v30_2 : IsB (a := 1024) (b := 4096) (W17 m ρ c main_v30_2) D.e0x := by
  rw [W17_of m ρ c main_v30_2 (by decide +kernel)]
  exact (at16_v30_2 ρ R)
theorem at18_v30_2 : IsB (a := 1024) (b := 4096) (W18 m ρ c main_v30_2) D.e0x := by
  rw [W18_of m ρ c main_v30_2 (by decide +kernel)]
  exact (at17_v30_2 ρ R)
theorem at14_v0 : IsB (a := 1024) (b := 4096) (W14 m ρ c main_v0) D.nx := by
  rw [W14_of m ρ c main_v0 (by decide +kernel)]
  exact (host_v0 ρ R)
theorem at15_v0 : IsB (a := 1024) (b := 4096) (W15 m ρ c main_v0) D.nx := by
  rw [W15_of m ρ c main_v0 (by decide +kernel)]
  exact (at14_v0 ρ R)
theorem at16_v0 : IsB (a := 1024) (b := 4096) (W16 m ρ c main_v0) D.nx := by
  rw [W16_of m ρ c main_v0 (by decide +kernel)]
  exact (at15_v0 ρ R)
theorem at17_v0 : IsB (a := 1024) (b := 4096) (W17 m ρ c main_v0) D.nx := by
  rw [W17_of m ρ c main_v0 (by decide +kernel)]
  exact (at16_v0 ρ R)
theorem at18_v0 : IsB (a := 1024) (b := 4096) (W18 m ρ c main_v0) D.nx := by
  rw [W18_of m ρ c main_v0 (by decide +kernel)]
  exact (at17_v0 ρ R)
theorem at15_v30_0 : IsB (a := 1024) (b := 4096) (W15 m ρ c main_v30_0) D.xd := by
  rw [show W15 m ρ c main_v30_0 = _ from W15_arr m ρ c 7]
  exact arr1_7 (V14 m ρ) c (at14_v29_3 ρ R) (at14_v3 ρ R) (at14_arg2 ρ R) (at14_v0 ρ R)
theorem at16_v30_0 : IsB (a := 1024) (b := 4096) (W16 m ρ c main_v30_0) D.xd := by
  rw [W16_of m ρ c main_v30_0 (by decide +kernel)]
  exact (at15_v30_0 ρ R)
theorem at17_v30_0 : IsB (a := 1024) (b := 4096) (W17 m ρ c main_v30_0) D.xd := by
  rw [W17_of m ρ c main_v30_0 (by decide +kernel)]
  exact (at16_v30_0 ρ R)
theorem at18_v30_0 : IsB (a := 1024) (b := 4096) (W18 m ρ c main_v30_0) D.xd := by
  rw [W18_of m ρ c main_v30_0 (by decide +kernel)]
  exact (at17_v30_0 ρ R)
theorem at15_v3 : IsB (a := 2048) (b := 4096) (W15 m ρ c main_v3) D.hz := by
  rw [W15_of m ρ c main_v3 (by decide +kernel)]
  exact (at14_v3 ρ R)
theorem at14_v1 : IsB (a := 1024) (b := 4096) (W14 m ρ c main_v1) D.nz := by
  rw [W14_of m ρ c main_v1 (by decide +kernel)]
  exact (host_v1 ρ R)
theorem at15_v30_1 : IsB (a := 1024) (b := 4096) (W15 m ρ c main_v30_1) D.zd := by
  rw [show W15 m ρ c main_v30_1 = _ from W15_arr m ρ c 8]
  exact arr1_8 (V14 m ρ) c (at14_v29_2 ρ R) (at14_v2 ρ R) (at14_arg2 ρ R) (at14_v1 ρ R)
theorem at15_v2 : IsB (a := 2048) (b := 4096) (W15 m ρ c main_v2) D.hx := by
  rw [W15_of m ρ c main_v2 (by decide +kernel)]
  exact (at14_v2 ρ R)
theorem at16_v31 : ∀ j : S1024x128.Idx, IntOp.cmpi .sgt ((W16 m ρ c main_v31 : S1024x128.Idx → BitVec 32) j) 0#32 = bw 1 (bit (D.err (j 0).val)) := by
  rw [show W16 m ρ c main_v31 = _ from W16_arr m ρ c 4, arr2_4 (V15 m ρ) c (at15_v30_0 ρ R) (at15_v3 ρ R) (at15_v30_1 ρ R) (at15_v2 ρ R)]
  exact fun j => count_word _ _ _
theorem at17_v31 : ∀ j : S1024x128.Idx, IntOp.cmpi .sgt ((W17 m ρ c main_v31 : S1024x128.Idx → BitVec 32) j) 0#32 = bw 1 (bit (D.err (j 0).val)) := by
  rw [W17_of m ρ c main_v31 (by decide +kernel)]
  exact (at16_v31 ρ R)
theorem at18_v31 : ∀ j : S1024x128.Idx, IntOp.cmpi .sgt ((W18 m ρ c main_v31 : S1024x128.Idx → BitVec 32) j) 0#32 = bw 1 (bit (D.err (j 0).val)) := by
  rw [W18_of m ρ c main_v31 (by decide +kernel)]
  exact (at17_v31 ρ R)
theorem at14_v28 : IsV (a := 128) (b := 4096) (W14 m ρ c main_v28) (rows 16 D.lz) := by
  rw [W14_of m ρ c main_v28 (by decide +kernel)]
  exact (host_v28 ρ R)
theorem at15_v28 : IsV (a := 128) (b := 4096) (W15 m ρ c main_v28) (rows 16 D.lz) := by
  rw [W15_of m ρ c main_v28 (by decide +kernel)]
  exact (at14_v28 ρ R)
theorem at16_v28 : IsV (a := 128) (b := 4096) (W16 m ρ c main_v28) (rows 16 D.lz) := by
  rw [W16_of m ρ c main_v28 (by decide +kernel)]
  exact (at15_v28 ρ R)
theorem at17_v28 : IsV (a := 128) (b := 4096) (W17 m ρ c main_v28) (rows 16 D.lz) := by
  rw [W17_of m ρ c main_v28 (by decide +kernel)]
  exact (at16_v28 ρ R)
theorem at18_v28 : IsV (a := 128) (b := 4096) (W18 m ρ c main_v28) (rows 16 D.lz) := by
  rw [W18_of m ρ c main_v28 (by decide +kernel)]
  exact (at17_v28 ρ R)
/-- The logical operators of one kind on what is left, in the columns that carry them. -/
theorem seen_x (j : S1024x128.Idx) (hj : (j 1).val < 16) : (W19 m ρ c main_v35_0 : S1024x128.Idx → BitVec 32) j = bw 32 (D.outx (j 0).val (j 1).val) := by
  rw [show W19 m ρ c main_v35_0 = _ from W19_arr m ρ c 13, arr4_13 (V18 m ρ) c (at18_v34_1 ρ R) (at18_v7 ρ R) (at18_v30_2 ρ R) (at18_v0 ρ R) (at18_v30_0 ρ R) (at18_v31 ρ R) (at18_v28 ρ R)]
  refine congrArg (bw 32) ?_
  unfold Data.outx
  refine Finset.sum_congr rfl fun k _ => ?_
  unfold seenOf
  refine congrArg₂ (· * ·) (left_is D.err D.nx D.e0x D.xh D.xd D.rx _ D.bz _ k (fun i hi => reduced D.e0x D.sz D.bz D.pz R.pz_lt _ i hi) rfl) ?_
  unfold rows; exact if_pos hj
theorem at15_v30_3 : IsB (a := 1024) (b := 4096) (W15 m ρ c main_v30_3) D.e0z := by
  rw [show W15 m ρ c main_v30_3 = _ from W15_arr m ρ c 10]
  exact arr1_10 (V14 m ρ) c (at14_v29_2 ρ R) (at14_v2 ρ R) (at14_v29_3 ρ R) (at14_v3 ρ R) (at14_arg2 ρ R)
theorem at16_v30_3 : IsB (a := 1024) (b := 4096) (W16 m ρ c main_v30_3) D.e0z := by
  rw [W16_of m ρ c main_v30_3 (by decide +kernel)]
  exact (at15_v30_3 ρ R)
theorem at14_v29_0 : IsB (a := 1024) (b := 2048) (W14 m ρ c main_v29_0) D.sx := by
  rw [show W14 m ρ c main_v29_0 = _ from W14_arr m ρ c 4]
  exact arr0_4 (V13 m ρ) c (host_v1 ρ R) (host_v2 ρ R)
theorem at15_v29_0 : IsB (a := 1024) (b := 2048) (W15 m ρ c main_v29_0) D.sx := by
  rw [W15_of m ρ c main_v29_0 (by decide +kernel)]
  exact (at14_v29_0 ρ R)
theorem at16_v29_0 : IsB (a := 1024) (b := 2048) (W16 m ρ c main_v29_0) D.sx := by
  rw [W16_of m ρ c main_v29_0 (by decide +kernel)]
  exact (at15_v29_0 ρ R)
theorem at17_v32 : IsB (a := 1024) (b := 6144) (W17 m ρ c main_v32) (beside 4096 D.e0z D.sx) := by
  rw [show W17 m ρ c main_v32 = _ from read_v32 (W16 m ρ c)]
  exact beside_batch (at16_v30_3 ρ R) (at16_v29_0 ρ R) _
theorem at14_v23 : IsV (a := 2048) (b := 6144) (W14 m ρ c main_v23) (beside 4096 (rows 2040 D.bx) (ones D.px)) := by
  rw [W14_of m ρ c main_v23 (by decide +kernel)]
  exact (host_v23 ρ R)
theorem at15_v23 : IsV (a := 2048) (b := 6144) (W15 m ρ c main_v23) (beside 4096 (rows 2040 D.bx) (ones D.px)) := by
  rw [W15_of m ρ c main_v23 (by decide +kernel)]
  exact (at14_v23 ρ R)
theorem at16_v23 : IsV (a := 2048) (b := 6144) (W16 m ρ c main_v23) (beside 4096 (rows 2040 D.bx) (ones D.px)) := by
  rw [W16_of m ρ c main_v23 (by decide +kernel)]
  exact (at15_v23 ρ R)
theorem at17_v23 : IsV (a := 2048) (b := 6144) (W17 m ρ c main_v23) (beside 4096 (rows 2040 D.bx) (ones D.px)) := by
  rw [W17_of m ρ c main_v23 (by decide +kernel)]
  exact (at16_v23 ρ R)
theorem at18_v34_0 : IsB (a := 1024) (b := 2048) (W18 m ρ c main_v34_0) (dotT 6144 (beside 4096 D.e0z D.sx) (beside 4096 (rows 2040 D.bx) (ones D.px))) := by
  rw [show W18 m ρ c main_v34_0 = _ from W18_arr m ρ c 4]
  exact arr3_4 (V17 m ρ) c (at17_v32 ρ R) (at17_v23 ρ R)
theorem at14_v5 : IsV (a := 2048) (b := 4096) (W14 m ρ c main_v5) (rows 2040 D.bx) := by
  rw [W14_of m ρ c main_v5 (by decide +kernel)]
  exact (host_v5 ρ R)
theorem at15_v5 : IsV (a := 2048) (b := 4096) (W15 m ρ c main_v5) (rows 2040 D.bx) := by
  rw [W15_of m ρ c main_v5 (by decide +kernel)]
  exact (at14_v5 ρ R)
theorem at16_v5 : IsV (a := 2048) (b := 4096) (W16 m ρ c main_v5) (rows 2040 D.bx) := by
  rw [W16_of m ρ c main_v5 (by decide +kernel)]
  exact (at15_v5 ρ R)
theorem at17_v5 : IsV (a := 2048) (b := 4096) (W17 m ρ c main_v5) (rows 2040 D.bx) := by
  rw [W17_of m ρ c main_v5 (by decide +kernel)]
  exact (at16_v5 ρ R)
theorem at18_v5 : IsV (a := 2048) (b := 4096) (W18 m ρ c main_v5) (rows 2040 D.bx) := by
  rw [W18_of m ρ c main_v5 (by decide +kernel)]
  exact (at17_v5 ρ R)
theorem at17_v30_3 : IsB (a := 1024) (b := 4096) (W17 m ρ c main_v30_3) D.e0z := by
  rw [W17_of m ρ c main_v30_3 (by decide +kernel)]
  exact (at16_v30_3 ρ R)
theorem at18_v30_3 : IsB (a := 1024) (b := 4096) (W18 m ρ c main_v30_3) D.e0z := by
  rw [W18_of m ρ c main_v30_3 (by decide +kernel)]
  exact (at17_v30_3 ρ R)
theorem at15_v1 : IsB (a := 1024) (b := 4096) (W15 m ρ c main_v1) D.nz := by
  rw [W15_of m ρ c main_v1 (by decide +kernel)]
  exact (at14_v1 ρ R)
theorem at16_v1 : IsB (a := 1024) (b := 4096) (W16 m ρ c main_v1) D.nz := by
  rw [W16_of m ρ c main_v1 (by decide +kernel)]
  exact (at15_v1 ρ R)
theorem at17_v1 : IsB (a := 1024) (b := 4096) (W17 m ρ c main_v1) D.nz := by
  rw [W17_of m ρ c main_v1 (by decide +kernel)]
  exact (at16_v1 ρ R)
theorem at18_v1 : IsB (a := 1024) (b := 4096) (W18 m ρ c main_v1) D.nz := by
  rw [W18_of m ρ c main_v1 (by decide +kernel)]
  exact (at17_v1 ρ R)
theorem at16_v30_1 : IsB (a := 1024) (b := 4096) (W16 m ρ c main_v30_1) D.zd := by
  rw [W16_of m ρ c main_v30_1 (by decide +kernel)]
  exact (at15_v30_1 ρ R)
theorem at17_v30_1 : IsB (a := 1024) (b := 4096) (W17 m ρ c main_v30_1) D.zd := by
  rw [W17_of m ρ c main_v30_1 (by decide +kernel)]
  exact (at16_v30_1 ρ R)
theorem at18_v30_1 : IsB (a := 1024) (b := 4096) (W18 m ρ c main_v30_1) D.zd := by
  rw [W18_of m ρ c main_v30_1 (by decide +kernel)]
  exact (at17_v30_1 ρ R)
theorem at14_v26 : IsV (a := 128) (b := 4096) (W14 m ρ c main_v26) (rows 16 D.lx) := by
  rw [W14_of m ρ c main_v26 (by decide +kernel)]
  exact (host_v26 ρ R)
theorem at15_v26 : IsV (a := 128) (b := 4096) (W15 m ρ c main_v26) (rows 16 D.lx) := by
  rw [W15_of m ρ c main_v26 (by decide +kernel)]
  exact (at14_v26 ρ R)
theorem at16_v26 : IsV (a := 128) (b := 4096) (W16 m ρ c main_v26) (rows 16 D.lx) := by
  rw [W16_of m ρ c main_v26 (by decide +kernel)]
  exact (at15_v26 ρ R)
theorem at17_v26 : IsV (a := 128) (b := 4096) (W17 m ρ c main_v26) (rows 16 D.lx) := by
  rw [W17_of m ρ c main_v26 (by decide +kernel)]
  exact (at16_v26 ρ R)
theorem at18_v26 : IsV (a := 128) (b := 4096) (W18 m ρ c main_v26) (rows 16 D.lx) := by
  rw [W18_of m ρ c main_v26 (by decide +kernel)]
  exact (at17_v26 ρ R)
/-- The logical operators of one kind on what is left, in the columns that carry them. -/
theorem seen_z (j : S1024x128.Idx) (hj : (j 1).val < 16) : (W19 m ρ c main_v35_1 : S1024x128.Idx → BitVec 32) j = bw 32 (D.outz (j 0).val (j 1).val) := by
  rw [show W19 m ρ c main_v35_1 = _ from W19_arr m ρ c 14, arr4_14 (V18 m ρ) c (at18_v34_0 ρ R) (at18_v5 ρ R) (at18_v30_3 ρ R) (at18_v1 ρ R) (at18_v30_1 ρ R) (at18_v31 ρ R) (at18_v26 ρ R)]
  refine congrArg (bw 32) ?_
  unfold Data.outz
  refine Finset.sum_congr rfl fun k _ => ?_
  unfold seenOf
  refine congrArg₂ (· * ·) (left_is D.err D.nz D.e0z D.zh D.zd D.rz _ D.bx _ k (fun i hi => reduced D.e0z D.sx D.bx D.px R.px_lt _ i hi) rfl) ?_
  unfold rows; exact if_pos hj

/-- The kernel's second result. -/
theorem kernel_v38 : W20 m ρ c main_v38 = fun j : S1024x32.Idx => bw 32 (D.out (j 0).val (j 1).val) := by
  rw [show W20 m ρ c main_v38 = _ from read_v38 (W19 m ρ c)]
  have hx := seen_x ρ R
  have hz := seen_z ρ R
  generalize W19 m ρ c main_v35_0 = X at hx
  generalize W19 m ρ c main_v35_1 = Z at hz
  funext j
  pointwise
  unfold Data.out
  by_cases h : (j 1).val < 16
  · rw [if_pos h]; exact (dif_pos h).trans (hx _ h)
  · have h32 : (j 1).val < 32 := (j 1).isLt
    rw [if_neg h]; exact (dif_neg h).trans (hz _ (show (j 1).val - 16 < 16 by omega))

end Cert.Val
-- ==== Proof.Val.RefOps.lean ====
/-
  THE REFERENCE'S OPERATIONS READ AT AN INDEX: the remainder by two of an array, a sum of products, a gather of columns by an array
  of positions and of rows by a vector of positions, each under the guard that its positions are in range.
-/
module

public import proofs.«01_k».proof.Proof.Val.Bits
public import proofs.«01_k».proof.Proof.Gen.ReferenceIdeal.Run
public import Idealize.ShloMosaic.Lib.SortFacts
public import Idealize.ShloMosaic.Lib.ReduceAll
public import Idealize.ShloMosaic.Lib.WordCmp

@[expose] public section

set_option maxRecDepth 16384

noncomputable section

namespace Cert.Val

open Idealize.ShloMosaic Cert.ReferenceIdeal Cert.ReferenceIdeal.Gen
open scoped BigOperators

/-- The remainder by two, as the reference writes it, is the parity. -/
theorem mod2_vec {s : Shape} (X t z : IVec s 32) (b : IVec s 1) (j : s.Idx) (ht : t j = 2#32) (hz : z j = 0#32) (hb : b j = 0#1) :
    select (andi (cmpi .ne (cmpi .slt (Host.remsi X t) z) b) (cmpi .ne (Host.remsi X t) z)) (addi (Host.remsi X t) t) (Host.remsi X t) j
      = bw 32 (par (X j)) := mod2_word _ _ _ _ ht hz hb

theorem sum_fold {n : ℕ} (f : Fin n → BitVec 32) : Finset.fold IntOp.addi (0#32) f Finset.univ = ∑ k, f k := rfl

/-- The parity of a sum of products of words. -/
theorem par_fold {n : ℕ} (f g : Fin n → BitVec 32) (x y : ℕ → ZMod 2) (hf : ∀ k, par (f k) = x k.val) (hg : ∀ k, par (g k) = y k.val) :
    par (Finset.fold IntOp.addi (0#32) (fun k => IntOp.muli (f k) (g k)) Finset.univ) = ∑ k ∈ Finset.range n, x k * y k := by
  rw [sum_fold, par_sum, Finset.sum_range]
  exact Finset.sum_congr rfl fun k _ => (par_mul _ _).trans (by rw [hf, hg])

/-- A conjunction along an axis of bits that are all one is one; the guard of a gather whose positions are in range. -/
theorem select_guard {s : Shape} {α : Type} (g : IVec s 1) (x y : s.Idx → α) (j : s.Idx) (hg : g j = 1#1) : select g x y j = x j := by
  show Scalar.select (g j) (x j) (y j) = _
  rw [hg]; rfl

theorem toInt_ofNat {n : ℕ} (hn : n < 4096) : (BitVec.ofNat 32 n).toInt.toNat = n := by
  rw [BitVec.toInt_eq_toNat_of_lt] <;> rw [BitVec.toNat_ofNat, Nat.mod_eq_of_lt (by omega)] <;> omega

/-- A gather of columns, each row by its own positions. -/
theorem gather_cols {α : Type} (x : S1024x4096.Idx → α) (idx : IVec S1024x4096x1 32) (y : S1024x4096.Idx) (n : ℕ) (hn : n < 4096)
    (h : idx (ix3 (y 0) (y 1) (0 : Fin 1)) = BitVec.ofNat 32 n) :
    Host.gather gather_S1024x4096_S1024x4096x1_S1024x4096_n_1_0_0_1_2_11 x idx y = x (ix2 (n0 := 1024) (n1 := 4096) (y 0) ⟨n, hn⟩) := by
  unfold Host.gather
  congr 1
  funext a
  refine Fin.ext ?_
  show GatherDims.start _ y idx a + GatherDims.batchCoord _ y a + GatherDims.offCoord _ y a = _
  have h01 : a = 0 ∨ a = 1 := by
    match a with
    | ⟨0, _⟩ => exact Or.inl rfl
    | ⟨1, _⟩ => exact Or.inr rfl
  rcases h01 with rfl | rfl
  · rw [GatherDims.offCoord_eq_zero _ _ _ (by decide), GatherDims.start, dif_neg (by decide), GatherDims.batchCoord, dif_pos (by decide)]
    show 0 + _ + 0 = _
    rw [Nat.zero_add, Nat.add_zero]
    rfl
  · rw [GatherDims.offCoord_eq_zero _ _ _ (by decide), GatherDims.batchCoord_eq_zero _ _ _ (by decide), GatherDims.start, dif_pos (by decide)]
    have hsi : (gather_S1024x4096_S1024x4096x1_S1024x4096_n_1_0_0_1_2_11).siIdx y ⟨List.idxOf (1 : Fin S1024x4096.rank) [1], by decide⟩ = ix3 (y 0) (y 1) (0 : Fin 1) := by
      funext b; refine Fin.ext ?_
      match b with
      | ⟨0, _⟩ => rfl
      | ⟨1, _⟩ => rfl
      | ⟨2, _⟩ => rfl
    refine Eq.trans (congrArg (fun w : BitVec 32 => min w.toInt.toNat 4095 + 0 + 0) ((congrArg idx hsi).trans h)) ?_
    rw [toInt_ofNat hn]
    show min n 4095 = n
    omega

/-- A gather of rows by a vector of positions. -/
theorem gather_rows {α : Type} (x : S2048x1024.Idx → α) (idx : IVec S2040x1 32) (y : S2040x1024.Idx) (n : ℕ) (hn : n < 2048)
    (h : idx (ix2 (y 0) (0 : Fin 1)) = BitVec.ofNat 32 n) :
    Host.gather gather_S2048x1024_S2040x1_S2040x1024_1_0_n_n_0_1_11024 x idx y = x (ix2 (n0 := 2048) (n1 := 1024) ⟨n, hn⟩ (y 1)) := by
  unfold Host.gather
  congr 1
  funext a
  refine Fin.ext ?_
  show GatherDims.start _ y idx a + GatherDims.batchCoord _ y a + GatherDims.offCoord _ y a = _
  have h01 : a = 0 ∨ a = 1 := by
    match a with
    | ⟨0, _⟩ => exact Or.inl rfl
    | ⟨1, _⟩ => exact Or.inr rfl
  rcases h01 with rfl | rfl
  · rw [GatherDims.offCoord_eq_zero _ _ _ (by decide), GatherDims.batchCoord_eq_zero _ _ _ (by decide), GatherDims.start, dif_pos (by decide)]
    have hsi : (gather_S2048x1024_S2040x1_S2040x1024_1_0_n_n_0_1_11024).siIdx y ⟨List.idxOf (0 : Fin S2048x1024.rank) [0], by decide⟩ = ix2 (y 0) (0 : Fin 1) := by
      funext b; refine Fin.ext ?_
      match b with
      | ⟨0, _⟩ => rfl
      | ⟨1, _⟩ => rfl
    refine Eq.trans (congrArg (fun w : BitVec 32 => min w.toInt.toNat 2047 + 0 + 0) ((congrArg idx hsi).trans h)) ?_
    rw [toInt_ofNat (by omega)]
    show min n 2047 = n
    omega
  · rw [GatherDims.batchCoord_eq_zero _ _ _ (by decide), GatherDims.start, dif_neg (by decide), GatherDims.offCoord, dif_pos (by decide)]
    show 0 + 0 + _ = _
    rw [Nat.zero_add]
    rfl

/-- A word below 4096 is in range and is not moved by the wrapping of negative positions. -/
theorem in_range {n m : ℕ} (hm : m < 4096) (hn : n ≤ m) : IntOp.andi (IntOp.cmpi .sge (BitVec.ofNat 32 n) 0#32) (IntOp.cmpi .sle (BitVec.ofNat 32 n) (BitVec.ofNat 32 m)) = 1#1 := by
  have h1 : (BitVec.ofNat 32 n).toInt = n := by
    rw [BitVec.toInt_eq_toNat_of_lt] <;> rw [BitVec.toNat_ofNat, Nat.mod_eq_of_lt (by omega)] ; omega
  have h2 : (BitVec.ofNat 32 m).toInt = m := by
    rw [BitVec.toInt_eq_toNat_of_lt] <;> rw [BitVec.toNat_ofNat, Nat.mod_eq_of_lt (by omega)] ; omega
  have e1 : IntOp.cmpi .sge (BitVec.ofNat 32 n) 0#32 = 1#1 := IntOp.cmpi_sge.2 (by rw [h1]; simp)
  have e2 : IntOp.cmpi .sle (BitVec.ofNat 32 n) (BitVec.ofNat 32 m) = 1#1 := IntOp.cmpi_sle.2 (by rw [h1, h2]; exact_mod_cast hn)
  rw [e1, e2]; rfl

theorem no_wrap {n : ℕ} (hn : n < 4096) (a : BitVec 32) :
    Scalar.select (IntOp.cmpi .slt (BitVec.ofNat 32 n) 0#32) a (BitVec.ofNat 32 n) = BitVec.ofNat 32 n := by
  have h1 : (BitVec.ofNat 32 n).toInt = n := by
    rw [BitVec.toInt_eq_toNat_of_lt] <;> rw [BitVec.toNat_ofNat, Nat.mod_eq_of_lt (by omega)] ; omega
  have : IntOp.cmpi .slt (BitVec.ofNat 32 n) 0#32 = 0#1 := by
    have : ¬ IntOp.cmpi .slt (BitVec.ofNat 32 n) 0#32 = 1#1 := fun h => by
      have := IntOp.cmpi_slt.1 h
      rw [h1] at this
      simp at this
      omega
    generalize IntOp.cmpi .slt (BitVec.ofNat 32 n) 0#32 = w at *
    revert w; decide
  rw [this]; rfl

/-! ## Sorting positions twice -/

/-- Positions sorted by any key, then their positions sorted: the second order undoes the first. -/
theorem sorted_twice {n : ℕ} (hn : n ≤ 4096) (B : Fin n → Fin n → Bool) (i : Fin n) :
    sortedFrom B (sortedFrom (fun k k' => IntOp.cmpi .slt (BitVec.ofNat 32 (sortedFrom B k).val) (BitVec.ofNat 32 (sortedFrom B k').val) == 1#1) i) = i := by
  have e : (fun k k' : Fin n => IntOp.cmpi .slt (BitVec.ofNat 32 (sortedFrom B k).val) (BitVec.ofNat 32 (sortedFrom B k').val) == 1#1)
      = fun k k' => decide (sortedFrom B k < sortedFrom B k') := by
    funext k k'
    have hk := (sortedFrom B k).isLt
    have hk' := (sortedFrom B k').isLt
    rw [Bool.eq_iff_iff, beq_iff_eq, decide_eq_true_iff, WordCmp.cmpi_slt_ofNat_eq_one_iff (by omega) (by omega)]
    rfl
  rw [e]
  have hm : StrictMono (fun i => sortedFrom B (sortedFrom (fun k k' => decide (sortedFrom B k < sortedFrom B k')) i)) := by
    intro a b hab
    have h := sortedFrom_noInversion (fun k k' => decide (sortedFrom B k < sortedFrom B k')) (fun k k' => decide (sortedFrom B k < sortedFrom B k'))
      (fun a b h => decide_eq_false (not_lt.mpr (le_of_lt (of_decide_eq_true h)))) (fun a b h => h)
      (fun a b c h h' => decide_eq_false (not_lt.mpr (le_trans (not_lt.mp (of_decide_eq_false h')) (not_lt.mp (of_decide_eq_false h))))) a b hab
    refine lt_of_le_of_ne (not_lt.mp (of_decide_eq_false h)) fun h => ?_
    exact absurd (sortedFrom_injective _ (sortedFrom_injective _ h)) (ne_of_lt hab)
  have hs : Function.Surjective (fun i => sortedFrom B (sortedFrom (fun k k' => decide (sortedFrom B k < sortedFrom B k')) i)) :=
    (sortedFrom_surjective B).comp (sortedFrom_surjective _)
  exact congrArg (fun o : Fin n ≃o Fin n => o i) (Subsingleton.elim (hm.orderIsoOfSurjective _ hs) (OrderIso.refl _))

/-- The order of the row `b` by the keys `x`. -/
def rowOrder {α : Type} {n m : ℕ} (cmp : α × BitVec 32 → α × BitVec 32 → BitVec 1) (x : (Sh2 n m).Idx → α) (b : Fin n) : Fin m → Fin m :=
  sortedFrom (fun k k' => cmp (x (ix2 b k), BitVec.ofNat 32 k.val) (x (ix2 b k'), BitVec.ofNat 32 k'.val) == 1#1)

theorem along_row {n m : ℕ} (j : (Sh2 n m).Idx) (k : Fin m) : j.along (1 : Fin 2) k = ix2 (n0 := n) (n1 := m) (j 0) k := by
  funext a
  match a with
  | ⟨0, _⟩ => rfl
  | ⟨1, _⟩ => rfl

/-- The positions that sort every row by the keys `x`. -/
theorem sort_rows {α : Type} {n m : ℕ} (cmp : α × BitVec 32 → α × BitVec 32 → BitVec 1) (x : (Sh2 n m).Idx → α) (j : (Sh2 n m).Idx) :
    (Host.sort2 (Sh2 n m) 1 cmp x (iotaInDim (Sh2 n m) 32 1)).2 j = BitVec.ofNat 32 (rowOrder cmp x (j 0) (j 1)).val := by
  have e : (Host.sort2 (Sh2 n m) 1 cmp x (iotaInDim (Sh2 n m) 32 1)).2 j
      = iotaInDim (Sh2 n m) 32 1 (j.along (1 : Fin 2) (sortedFrom (fun k k' : Fin m => cmp (x (j.along (1 : Fin 2) k), iotaInDim (Sh2 n m) 32 1 (j.along (1 : Fin 2) k)) (x (j.along (1 : Fin 2) k'), iotaInDim (Sh2 n m) 32 1 (j.along (1 : Fin 2) k')) == 1#1) (j 1))) := rfl
  rw [e]
  simp only [along_row]
  rfl

theorem sort_positions {α : Type} (cmp : α × BitVec 32 → α × BitVec 32 → BitVec 1) (x : S1024x4096.Idx → α) (j : S1024x4096.Idx) :
    (Host.sort2 S1024x4096 1 cmp x (iotaInDim S1024x4096 32 1)).2 j = BitVec.ofNat 32 (rowOrder cmp x (j 0) (j 1)).val :=
  sort_rows cmp x j

/-- The positions as the gather reads them, negative ones wrapped. -/
def wrapped (p : IVec S1024x4096 32) : IVec S1024x4096x1 32 :=
  shapeCast _ (select (cmpi .slt p (broadcastInDim S1024x4096 ![] bcast_S_S1024x4096 (constantI S_ 32 0#32))) (addi p (broadcastInDim S1024x4096 ![] bcast_S_S1024x4096 (constantI S_ 32 4096#32))) p) shapeCasts_S1024x4096_S1024x4096x1

/-- The columns of `x` at the positions `i`, under the guard. -/
def taken (x : IVec S1024x4096 32) (i : IVec S1024x4096x1 32) : IVec S1024x4096 32 :=
  select (Host.reduce IntOp.andi (andi (cmpi .sge i (broadcastInDim S1024x4096x1 ![] bcast_S_S1024x4096x1 (constantI S_ 32 0#32))) (cmpi .sle i (broadcastInDim S1024x4096x1 ![0, 1, 2] bcast_S1x1x1_S1024x4096x1_0_1_2 (broadcastInDim S1x1x1 ![2] bcast_S1_S1x1x1_2 (constantI S1 32 4095#32))))) (constantI S_ 1 1#1) reducesTo_S1024x4096x1_S1024x4096_d2 h_S_) (Host.gather gather_S1024x4096_S1024x4096x1_S1024x4096_n_1_0_0_1_2_11 x i) (broadcastInDim S1024x4096 ![] bcast_S_S1024x4096 (constantI S_ 32 2147483648#32))

theorem wrapped_apply (p : IVec S1024x4096 32) (n : Fin 1024 → Fin 4096 → Fin 4096) (hp : ∀ j, p j = BitVec.ofNat 32 (n (j 0) (j 1)).val) (i : S1024x4096x1.Idx) :
    wrapped p i = BitVec.ofNat 32 (n (i 0) (i 1)).val := by
  unfold wrapped
  pointwise
  rw [hp]
  exact no_wrap (n (i 0) (i 1)).isLt _

theorem taken_apply (x p : IVec S1024x4096 32) (n : Fin 1024 → Fin 4096 → Fin 4096) (hp : ∀ j, p j = BitVec.ofNat 32 (n (j 0) (j 1)).val) (j : S1024x4096.Idx) :
    taken x (wrapped p) j = x (ix2 (n0 := 1024) (n1 := 4096) (j 0) (n (j 0) (j 1))) := by
  unfold taken
  rw [select_guard]
  · exact gather_cols _ _ _ _ _ (wrapped_apply p n hp _)
  · refine Host.reduce_andi_one _ _ _ _ _ rfl fun i => ?_
    show IntOp.andi (IntOp.cmpi .sge (wrapped p i) 0#32) (IntOp.cmpi .sle (wrapped p i) (BitVec.ofNat 32 4095)) = 1#1
    rw [wrapped_apply p n hp]
    exact in_range (by omega) (by omega)

/-- Columns taken in an order and then put back. -/
theorem taken_twice {α : Type} (cmp : α × BitVec 32 → α × BitVec 32 → BitVec 1) (key : S1024x4096.Idx → α) (x p q : IVec S1024x4096 32)
    (hp : p = (Host.sort2 S1024x4096 1 cmp key (iotaInDim S1024x4096 32 1)).2)
    (hq : q = (Host.sort2 S1024x4096 1 comparator_i32_i32_d1 p (iotaInDim S1024x4096 32 1)).2) :
    taken (taken x (wrapped p)) (wrapped q) = x := by
  funext j
  have h1 : ∀ j, p j = BitVec.ofNat 32 (rowOrder cmp key (j 0) (j 1)).val := fun j => by rw [hp]; exact sort_positions _ _ _
  rw [taken_apply _ q (rowOrder comparator_i32_i32_d1 p) (fun j => by rw [hq]; exact sort_positions _ _ _), taken_apply _ p _ h1]
  have e : rowOrder cmp key (j 0) (rowOrder comparator_i32_i32_d1 p (j 0) (j 1)) = j 1 := by
    unfold rowOrder comparator_i32_i32_d1
    simp only [h1]
    exact sorted_twice (by omega) _ _
  exact congrArg x ((congrArg (ix2 (n0 := 1024) (n1 := 4096) (j 0)) e).trans (eq_ix2 j).symm)

theorem fold_ori {m : ℕ} [Std.Commutative (IntOp.ori (w := 1))] [Std.Associative (IntOp.ori (w := 1))] (f : Fin m → BitVec 1) :
    Finset.fold IntOp.ori (0#1) f Finset.univ = 1#1 ↔ ∃ k, f k = 1#1 := by
  have h : ∀ s : Finset (Fin m), Finset.fold IntOp.ori (0#1) f s = 1#1 ↔ ∃ k ∈ s, f k = 1#1 := by
    intro s
    induction s using Finset.induction_on with
    | empty => simp
    | insert a s ha ih =>
      rw [Finset.fold_insert ha]
      have : ∀ x y : BitVec 1, IntOp.ori x y = 1#1 ↔ (x = 1#1 ∨ y = 1#1) := by decide
      rw [this, ih, Finset.exists_mem_insert]
  rw [h]; simp

/-- A disjunction along the second axis: one where a bit of the row is one. -/
theorem some_one {n m : ℕ} (X : (Sh2 n m).Idx → BitVec 1) (z : IVec S_ 1) (h : (Sh2 n m).ReducesTo [1] ⟨1, ![n]⟩) (hz : ∀ i, z i = 0#1) (j : (⟨1, ![n]⟩ : Shape).Idx) :
    Host.reduce IntOp.ori X z h h_S_ j = 1#1 ↔ ∃ k : Fin m, X (ix2 (n0 := n) (j 0) k) = 1#1 := by
  haveI : Std.Commutative (IntOp.ori (w := 1)) := ⟨fun a b => BitVec.or_comm a b⟩
  haveI : Std.Associative (IntOp.ori (w := 1)) := ⟨fun a b c => BitVec.or_assoc a b c⟩
  pointwise
  rw [hz]
  exact fold_ori _

end Cert.Val
-- ==== Proof.Val.Ref.lean ====
/-
  WHAT THE REFERENCE COMPUTES, value by value, on arguments that hold the data `D`.
-/
module

public import proofs.«01_k».proof.Proof.Val.Spec
public import proofs.«01_k».proof.Proof.Val.RefOps

@[expose] public section

set_option maxRecDepth 16384

noncomputable section

namespace Cert.Val

open Idealize.ShloMosaic Cert.ReferenceIdeal Cert.ReferenceIdeal.Gen Cert.ReferenceIdeal.Value
open scoped BigOperators
open Classical

theorem sum_coe {n : ℕ} (f : Fin n → ℝ) : (∑ k, ((f k : ℝ) : EReal)) = ((∑ k, f k : ℝ) : EReal) := by
  have h : ∀ s : Finset (Fin n), (∑ k ∈ s, ((f k : ℝ) : EReal)) = ((∑ k ∈ s, f k : ℝ) : EReal) := by
    intro s
    induction s using Finset.induction_on with
    | empty => simp
    | insert a s ha ih => rw [Finset.sum_insert ha, Finset.sum_insert ha, ih, EReal.coe_add]
  exact h _

/-- The weighted signs of the measured bits, over the extended reals. -/
theorem votes_coe (f g : Fin 2048 → BitVec 32) (h s : ℕ → ℕ → ZMod 2) (b n : ℕ) (hf : ∀ k, f k = bw 32 (h k.val n)) (hg : ∀ k, g k = bw 32 (s b k.val)) :
    (∑ k, (FloatOps.sitofp (F := Ideal) .f32 (f k) : EReal) * (1 - Ideal.ofBits .f32 1073741824#32 * (FloatOps.sitofp (F := Ideal) .f32 (g k) : EReal)))
      = ((votes h s b n : ℝ) : EReal) := by
  have e : ∀ k : Fin 2048, (FloatOps.sitofp (F := Ideal) .f32 (f k) : EReal) * (1 - Ideal.ofBits .f32 1073741824#32 * (FloatOps.sitofp (F := Ideal) .f32 (g k) : EReal))
      = (((1 - 2 * ((s b k.val).val : ℝ)) * ((h k.val n).val : ℝ) : ℝ) : EReal) := by
    intro k
    show (((f k).toInt : ℝ) : EReal) * (1 - Ideal.ofBits .f32 0x40000000#32 * (((g k).toInt : ℝ) : EReal)) = _
    rw [two_coe, hf, hg, toInt_bw32, toInt_bw32, ← EReal.coe_mul, ← EReal.coe_one, ← EReal.coe_sub, ← EReal.coe_mul, mul_comm]
    push_cast
    rfl
  rw [Finset.sum_congr rfl fun k _ => e k, sum_coe]
  unfold votes
  rw [Finset.sum_range]
  push_cast
  rfl

variable {D : Data} {V0 : Valuation τ sig (Elt Ideal)}

/-- The reference's arguments hold the data. -/
abbrev RefReads (D : Data) (V0 : Valuation τ sig (Elt Ideal)) : Prop :=
  Reads D (V0 (Proc.devRef .tc main_arg0)) (V0 (Proc.devRef .tc main_arg1)) (V0 (Proc.devRef .tc main_arg2)) (V0 (Proc.devRef .tc main_arg3))
    (V0 (Proc.devRef .tc main_arg4)) (V0 (Proc.devRef .tc main_arg5)) (V0 (Proc.devRef .tc main_arg6)) (V0 (Proc.devRef .tc main_arg7))
    (V0 (Proc.devRef .tc main_arg8)) (V0 (Proc.devRef .tc main_arg9)) (V0 (Proc.devRef .tc main_arg10))

theorem par_of {w : BitVec 32} {z : ZMod 2} (h : w = bw 32 z) : par w = z := by rw [h, par_bw]

theorem bw_congr {w : ℕ} {a b : ZMod 2} (h : a = b) : bw w a = bw w b := by rw [h]

theorem sum_swap {n : ℕ} (x y : ℕ → ZMod 2) : (∑ k ∈ Finset.range n, x k * y k) = ∑ k ∈ Finset.range n, y k * x k :=
  Finset.sum_congr rfl fun _ _ => mul_comm _ _

theorem v7 (R : RefReads D V0) (j : S2048x1024.Idx) : res_main_v7 V0 j = bw 32 (D.sx (j 1).val (j 0).val) := by
  unfold res_main_v7 res_main_call0_v4
  refine (mod2_vec _ _ _ _ _ rfl rfl rfl).trans (bw_congr ?_)
  pointwise
  exact (par_fold _ _ (fun k => D.hx (j 0).val k) (fun k => D.nz (j 1).val k) (fun k => par_of (R.hx _)) (fun k => par_of (R.nz _))).trans (sum_swap _ _)

theorem v15 (R : RefReads D V0) (j : S2048x1024.Idx) : res_main_v15 V0 j = bw 32 (D.sz (j 1).val (j 0).val) := by
  unfold res_main_v15 res_main_call1_v4
  refine (mod2_vec _ _ _ _ _ rfl rfl rfl).trans (bw_congr ?_)
  pointwise
  exact (par_fold _ _ (fun k => D.hz (j 0).val k) (fun k => D.nx (j 1).val k) (fun k => par_of (R.hz _)) (fun k => par_of (R.nx _))).trans (sum_swap _ _)

theorem v32 (R : RefReads D V0) (j : S1024x4096.Idx) : res_main_v32 V0 j = ((D.az (j 0).val (j 1).val : ℝ) : EReal) := by
  unfold res_main_v32
  pointwise
  refine (congrArg₂ (· + ·) (R.L j) (congrArg₂ (· * ·) tenth_coe (votes_coe _ _ D.hx D.sx (j 0).val (j 1).val (fun k => R.hx (ix2 k (j 1))) (fun k => v7 R (ix2 k (j 0)))))).trans ?_
  show ((_ : ℝ) : EReal) + ((_ : ℝ) : EReal) * ((_ : ℝ) : EReal) = _
  rw [← EReal.coe_mul, ← EReal.coe_add]
  rfl

theorem v39 (R : RefReads D V0) (j : S1024x4096.Idx) : res_main_v39 V0 j = ((D.ax (j 0).val (j 1).val : ℝ) : EReal) := by
  unfold res_main_v39
  pointwise
  refine (congrArg₂ (· + ·) (R.L j) (congrArg₂ (· * ·) tenth_coe (votes_coe _ _ D.hz D.sz (j 0).val (j 1).val (fun k => R.hz (ix2 k (j 1))) (fun k => v15 R (ix2 k (j 0)))))).trans ?_
  show ((_ : ℝ) : EReal) + ((_ : ℝ) : EReal) * ((_ : ℝ) : EReal) = _
  rw [← EReal.coe_mul, ← EReal.coe_add]
  rfl

theorem v42 (R : RefReads D V0) (j : S1024x4096.Idx) : res_main_v42 V0 j = ((D.ay (j 0).val (j 1).val : ℝ) : EReal) := by
  unfold res_main_v42
  pointwise
  rw [v39 R, v32 R, half_coe, ← EReal.coe_add, ← EReal.coe_mul]
  rfl

theorem v44 (R : RefReads D V0) (j : S1024x4096.Idx) : res_main_v44 V0 j = bw 1 (D.xh (j 0).val (j 1).val) := by
  unfold res_main_v44
  refine Eq.trans (congrArg₂ (FloatOps.cmpf (F := Ideal) (φ := .f32) .olt) (v39 R j) ?_) (lt_zero_word _)
  exact Ideal.ofBits_zero_f32

theorem v46 (R : RefReads D V0) (j : S1024x4096.Idx) : res_main_v46 V0 j = bw 1 (D.zh (j 0).val (j 1).val) := by
  unfold res_main_v46
  refine Eq.trans (congrArg₂ (FloatOps.cmpf (F := Ideal) (φ := .f32) .olt) (v32 R j) ?_) (lt_zero_word _)
  exact Ideal.ofBits_zero_f32

theorem v82 (R : RefReads D V0) (j : S1024x4096.Idx) :
    res_main_v82 V0 j = ((osd (D.ax (j 0).val (j 1).val) (D.az (j 0).val (j 1).val) (D.ay (j 0).val (j 1).val) : ℝ) : EReal) := by
  unfold res_main_v82 res_main_call4_v3 res_main_call4_cst res_main_v72
  pointwise
  rw [v39 R, v32 R, v42 R]
  rw [if_neg (not_not.mpr rfl), Fin.sum_univ_one, Fin.sum_univ_one, ← EReal.coe_neg, ← EReal.coe_neg, ← EReal.coe_neg]
  exact osd_coe _ _ _

theorem v93 (R : RefReads D V0) (j : S1024x4096.Idx) :
    res_main_v93 V0 j = ((osd (D.az (j 0).val (j 1).val) (D.ax (j 0).val (j 1).val) (D.ay (j 0).val (j 1).val) : ℝ) : EReal) := by
  unfold res_main_v93 res_main_call5_v3 res_main_call5_cst res_main_v83
  pointwise
  rw [v39 R, v32 R, v42 R]
  rw [if_neg (not_not.mpr rfl), Fin.sum_univ_one, Fin.sum_univ_one, ← EReal.coe_neg, ← EReal.coe_neg, ← EReal.coe_neg]
  exact osd_coe _ _ _

end Cert.Val
-- ==== Proof.Val.RefEnd.lean ====
/-
  THE REFERENCE'S LAST STAGES on arguments that hold the data `D`: the failed rows, the guess repaired on a basis, and the result.
-/
module

public import proofs.«01_k».proof.Proof.Val.Ref

@[expose] public section

set_option maxRecDepth 16384

noncomputable section

namespace Cert.Val

open Idealize.ShloMosaic Cert.ReferenceIdeal Cert.ReferenceIdeal.Gen Cert.ReferenceIdeal.Value
open scoped BigOperators
open Classical

variable {D : Data} {V0 : Valuation τ sig (Elt Ideal)}

/-- The remainder by the word `t`, with the sign of `t`, as the reference spells it. -/
def modTwo {s : Shape} (h : S_.BroadcastsInDim s ![]) (X : IVec s 32) (t : IVec S_ 32) : IVec s 32 :=
  select (andi (cmpi .ne (cmpi .slt (Host.remsi X (broadcastInDim s ![] h t)) (broadcastInDim s ![] h (constantI S_ 32 0#32)))
      (broadcastInDim s ![] h (cmpi .slt t (constantI S_ 32 0#32))))
    (cmpi .ne (Host.remsi X (broadcastInDim s ![] h t)) (broadcastInDim s ![] h (constantI S_ 32 0#32))))
    (addi (Host.remsi X (broadcastInDim s ![] h t)) (broadcastInDim s ![] h t)) (Host.remsi X (broadcastInDim s ![] h t))

theorem modTwo_apply {s : Shape} (h : S_.BroadcastsInDim s ![]) (X : IVec s 32) (t : IVec S_ 32) (ht : ∀ i, t i = 2#32) (j : s.Idx) :
    modTwo h X t j = bw 32 (par (X j)) := by
  have e : t = constantI S_ 32 2#32 := funext ht
  subst e
  exact mod2_vec _ _ _ _ _ rfl rfl rfl

/-- The rows of `x` at the positions `i`, under the guard. -/
def rowsTaken (x : IVec S2048x1024 32) (i : IVec S2040x1 32) : IVec S2040x1024 32 :=
  select (broadcastInDim S2040x1024 ![0] bcast_S2040_S2040x1024_0 (Host.reduce IntOp.andi (andi (cmpi .sge i (broadcastInDim S2040x1 ![] bcast_S_S2040x1 (constantI S_ 32 0#32))) (cmpi .sle i (broadcastInDim S2040x1 ![0, 1] bcast_S1x1_S2040x1_0_1 (broadcastInDim S1x1 ![1] bcast_S1_S1x1_1 (constantI S1 32 2047#32))))) (constantI S_ 1 1#1) reducesTo_S2040x1_S2040_d1 h_S_)) (Host.gather gather_S2048x1024_S2040x1_S2040x1024_1_0_n_n_0_1_11024 x i) (broadcastInDim S2040x1024 ![] bcast_S_S2040x1024 (constantI S_ 32 2147483648#32))

theorem rowsTaken_apply (x : IVec S2048x1024 32) (i : IVec S2040x1 32) (n : ℕ → ℕ) (hn : ∀ k, n k < 2048) (hi : ∀ j, i j = BitVec.ofNat 32 (n (j 0).val)) (j : S2040x1024.Idx) :
    rowsTaken x i j = x (ix2 (n0 := 2048) (n1 := 1024) ⟨n (j 0).val, hn _⟩ (j 1)) := by
  unfold rowsTaken
  rw [select_guard]
  · exact gather_rows _ _ _ _ _ (hi _)
  · refine Host.reduce_andi_one _ _ _ _ _ rfl fun k => ?_
    show IntOp.andi (IntOp.cmpi .sge (i k) 0#32) (IntOp.cmpi .sle (i k) (BitVec.ofNat 32 2047)) = 1#1
    rw [hi]
    exact in_range (by omega) (by have := hn (k 0).val; omega)

theorem pivots_apply (p : IVec S2040 32) (n : ℕ → ℕ) (hn : ∀ k, n k < 2048) (hp : ∀ j, p j = BitVec.ofNat 32 (n (j 0).val)) (j : S2040x1.Idx) :
    broadcastInDim S2040x1 ![0] bcast_S2040_S2040x1_0 (select (cmpi .slt p (broadcastInDim S2040 ![] bcast_S_S2040 (constantI S_ 32 0#32))) (addi p (broadcastInDim S2040 ![] bcast_S_S2040 (constantI S_ 32 2048#32))) p) j
      = BitVec.ofNat 32 (n (j 0).val) := by
  pointwise
  rw [hp]
  exact no_wrap (by have := hn (j 0).val; show n (j 0).val < 4096; omega) _

/-- The reference's failed rows: a disjunction over the rows of two check arrays, one after the other. -/
theorem fails_apply (A B : IVec S2048x1024 32) (a b : ℕ → ℕ → ZMod 2) (hA : ∀ j, A j = bw 32 (a (j 1).val (j 0).val)) (hB : ∀ j, B j = bw 32 (b (j 1).val (j 0).val)) (j : S1024.Idx) :
    Host.reduce IntOp.ori (cmpi .ne (transpose S1024x4096 [1, 0] (concatenate S4096x1024 0 [⟨S2048x1024, A⟩, ⟨S2048x1024, B⟩] concatenates_S2048x1024_S2048x1024_S4096x1024_d0) transposes_S4096x1024_S1024x4096_1_0) (broadcastInDim S1024x4096 ![] bcast_S_S1024x4096 (constantI S_ 32 0#32))) (constantI S_ 1 0#1) reducesTo_S1024x4096_S1024_d1 h_S_ j
      = bw 1 (bit ((∃ k < 2048, a (j 0).val k ≠ 0) ∨ (∃ k < 2048, b (j 0).val k ≠ 0))) := by
  have key := some_one (n := 1024) (m := 4096) (cmpi .ne (transpose S1024x4096 [1, 0] (concatenate S4096x1024 0 [⟨S2048x1024, A⟩, ⟨S2048x1024, B⟩] concatenates_S2048x1024_S2048x1024_S4096x1024_d0) transposes_S4096x1024_S1024x4096_1_0) (broadcastInDim S1024x4096 ![] bcast_S_S1024x4096 (constantI S_ 32 0#32)))
    (constantI S_ 1 0#1) reducesTo_S1024x4096_S1024_d1 (fun _ => rfl) j
  have hk : ∀ k : Fin 4096, (cmpi .ne (transpose S1024x4096 [1, 0] (concatenate S4096x1024 0 [⟨S2048x1024, A⟩, ⟨S2048x1024, B⟩] concatenates_S2048x1024_S2048x1024_S4096x1024_d0) transposes_S4096x1024_S1024x4096_1_0) (broadcastInDim S1024x4096 ![] bcast_S_S1024x4096 (constantI S_ 32 0#32)))
      (ix2 (n0 := 1024) (j 0) k) = bw 1 (if k.val < 2048 then a (j 0).val k.val else b (j 0).val (k.val - 2048)) := by
    intro k
    pointwise
    by_cases h : k.val < 2048
    · rw [if_pos h]
      refine Eq.trans (congrArg (fun w => IntOp.cmpi .ne w 0#32) ((dif_pos h).trans (hA _))) (bw_ne_zero _)
    · rw [if_neg h]
      refine Eq.trans (congrArg (fun w => IntOp.cmpi .ne w 0#32) ((dif_neg h).trans (hB _))) (bw_ne_zero _)
  simp only [hk] at key
  have hb : ∀ z : ZMod 2, bw 1 z = 1#1 ↔ z ≠ 0 := by decide
  simp only [hb] at key
  have hw : ∀ w : BitVec 1, ∀ P : Prop, (w = 1#1 ↔ P) → w = bw 1 (bit P) := by
    intro w P h
    unfold bit
    by_cases hP : P
    · rw [if_pos hP, h.mpr hP]; rfl
    · rw [if_neg hP]
      have h0 : ∀ w : BitVec 1, w ≠ 1#1 → w = bw 1 0 := by decide
      exact h0 w fun e => hP (h.mp e)
  refine hw _ _ (key.trans ?_)
  constructor
  · rintro ⟨k, hk⟩
    by_cases h : k.val < 2048
    · rw [if_pos h] at hk; exact Or.inl ⟨k.val, h, hk⟩
    · rw [if_neg h] at hk; exact Or.inr ⟨k.val - 2048, by have := k.isLt; omega, hk⟩
  · rintro (⟨k, h, hk⟩ | ⟨k, h, hk⟩)
    · exact ⟨⟨k, by omega⟩, by rw [if_pos (show (⟨k, _⟩ : Fin 4096).val < 2048 from h)]; exact hk⟩
    · refine ⟨⟨k + 2048, by omega⟩, ?_⟩
      rw [if_neg (show ¬ (⟨k + 2048, _⟩ : Fin 4096).val < 2048 from by show ¬ k + 2048 < 2048; omega)]
      show b (j 0).val (k + 2048 - 2048) ≠ 0
      rw [Nat.add_sub_cancel]; exact hk

theorem v102 (R : RefReads D V0) (j : S1024x4096.Idx) : res_main_v102 V0 j = bw 32 (D.e0z (j 0).val (j 1).val) := by
  unfold res_main_v102
  refine Eq.trans (congrArg (BitVec.setWidth 32) (Eq.trans (congrArg₂ (FloatOps.cmpf (F := Ideal) (φ := .f32) .olt) (v82 R j) ?_) (lt_zero_word _))) (zext_bw1 _)
  exact Ideal.ofBits_zero_f32

theorem v133 (R : RefReads D V0) (j : S1024x4096.Idx) : res_main_v133 V0 j = bw 32 (D.e0x (j 0).val (j 1).val) := by
  unfold res_main_v133
  refine Eq.trans (congrArg (BitVec.setWidth 32) (Eq.trans (congrArg₂ (FloatOps.cmpf (F := Ideal) (φ := .f32) .olt) (v93 R j) ?_) (lt_zero_word _))) (zext_bw1 _)
  exact Ideal.ofBits_zero_f32

theorem call2 (R : RefReads D V0) (j : S2048x1024.Idx) : modTwo bcast_S_S2048x1024 (Host.reduce IntOp.addi (muli (broadcastInDim S2048x4096x1024 ![0, 1, 2] bcast_S2048x4096x1_S2048x4096x1024_0_1_2 (broadcastInDim S2048x4096x1 ![0, 1] bcast_S2048x4096_S2048x4096x1_0_1 (V0 (Proc.devRef .tc main_arg4)))) (broadcastInDim S2048x4096x1024 ![0, 1, 2] bcast_S1x4096x1024_S2048x4096x1024_0_1_2 (broadcastInDim S1x4096x1024 ![1, 2] bcast_S4096x1024_S1x4096x1024_1_2 (transpose S4096x1024 [1, 0] (xori (V0 (Proc.devRef .tc main_arg0)) (extui 32 (res_main_v44 V0) natLt_1_32)) transposes_S1024x4096_S4096x1024_1_0)))) (constantI S_ 32 0#32) reducesTo_S2048x4096x1024_S2048x1024_d1 h_S_) (res_main_call2_v2 V0) j
    = bw 32 (syn D.hz D.xd (j 1).val (j 0).val) := by
  refine (modTwo_apply _ _ _ (fun _ => rfl) j).trans (bw_congr ?_)
  pointwise
  refine (par_fold _ _ (fun k => D.hz (j 0).val k) (fun k => D.xd (j 1).val k) (fun k => par_of (R.hz _)) (fun k => par_of ?_)).trans (sum_swap _ _)
  refine Eq.trans (congrArg₂ (· ^^^ ·) (R.nx (ix2 (j 1) k)) (Eq.trans (congrArg (BitVec.setWidth 32) (v44 R (ix2 (j 1) k))) (zext_bw1 _))) (xor_bw32 _ _)

theorem call3 (R : RefReads D V0) (j : S2048x1024.Idx) : modTwo bcast_S_S2048x1024 (Host.reduce IntOp.addi (muli (broadcastInDim S2048x4096x1024 ![0, 1, 2] bcast_S2048x4096x1_S2048x4096x1024_0_1_2 (broadcastInDim S2048x4096x1 ![0, 1] bcast_S2048x4096_S2048x4096x1_0_1 (V0 (Proc.devRef .tc main_arg3)))) (broadcastInDim S2048x4096x1024 ![0, 1, 2] bcast_S1x4096x1024_S2048x4096x1024_0_1_2 (broadcastInDim S1x4096x1024 ![1, 2] bcast_S4096x1024_S1x4096x1024_1_2 (transpose S4096x1024 [1, 0] (xori (V0 (Proc.devRef .tc main_arg1)) (extui 32 (res_main_v46 V0) natLt_1_32)) transposes_S1024x4096_S4096x1024_1_0)))) (constantI S_ 32 0#32) reducesTo_S2048x4096x1024_S2048x1024_d1 h_S_) (res_main_call3_v2 V0) j
    = bw 32 (syn D.hx D.zd (j 1).val (j 0).val) := by
  refine (modTwo_apply _ _ _ (fun _ => rfl) j).trans (bw_congr ?_)
  pointwise
  refine (par_fold _ _ (fun k => D.hx (j 0).val k) (fun k => D.zd (j 1).val k) (fun k => par_of (R.hx _)) (fun k => par_of ?_)).trans (sum_swap _ _)
  refine Eq.trans (congrArg₂ (· ^^^ ·) (R.nz (ix2 (j 1) k)) (Eq.trans (congrArg (BitVec.setWidth 32) (v46 R (ix2 (j 1) k))) (zext_bw1 _))) (xor_bw32 _ _)

theorem v71 (R : RefReads D V0) (j : S1024.Idx) : res_main_v71 V0 j = bw 1 (bit (D.err (j 0).val)) := by
  unfold res_main_v71
  exact fails_apply _ _ (syn D.hz D.xd) (syn D.hx D.zd) (call2 R) (call3 R) j

/-! ## The guess of the kind z -/

def redz (V0 : Valuation τ sig (Elt Ideal)) : IVec S2040x1024 32 :=
  modTwo bcast_S_S2040x1024 (addi (Host.reduce IntOp.addi (muli (broadcastInDim S2040x4096x1024 ![0, 1, 2] bcast_S2040x4096x1_S2040x4096x1024_0_1_2 (broadcastInDim S2040x4096x1 ![0, 1] bcast_S2040x4096_S2040x4096x1_0_1 (V0 (Proc.devRef .tc main_arg9)))) (broadcastInDim S2040x4096x1024 ![0, 1, 2] bcast_S1x4096x1024_S2040x4096x1024_0_1_2 (broadcastInDim S1x4096x1024 ![1, 2] bcast_S4096x1024_S1x4096x1024_1_2 (transpose S4096x1024 [1, 0] (res_main_v102 V0) transposes_S1024x4096_S4096x1024_1_0)))) (constantI S_ 32 0#32) reducesTo_S2040x4096x1024_S2040x1024_d1 h_S_)
    (rowsTaken (res_main_v7 V0) (res_main_call6_v5 V0))) (res_main_call10_v2 V0)

theorem redz_apply (R : RefReads D V0) (j : S2040x1024.Idx) : redz V0 j = bw 32 (D.rz (j 1).val (j 0).val) := by
  unfold redz
  refine (modTwo_apply _ _ _ (fun _ => rfl) j).trans (bw_congr ?_)
  refine ((par_add _ _).trans (congrArg₂ (· + ·) ?_ (par_of ?_)))
  · pointwise
    exact (par_fold _ _ (fun k => D.bx (j 0).val k) (fun k => D.e0z (j 1).val k) (fun k => R.bx (ix2 (j 0) k)) (fun k => par_of (v102 R (ix2 (j 1) k)))).trans (sum_swap _ _)
  · rw [rowsTaken_apply _ _ D.px R.px_lt (fun i => by unfold res_main_call6_v5; exact pivots_apply _ _ R.px_lt R.px i)]
    exact v7 R _

def flipz (V0 : Valuation τ sig (Elt Ideal)) : IVec S4096x1024 32 :=
  modTwo bcast_S_S4096x1024 (Host.reduce IntOp.addi (muli (broadcastInDim S4096x2040x1024 ![0, 1, 2] bcast_S4096x2040x1_S4096x2040x1024_0_1_2 (broadcastInDim S4096x2040x1 ![0, 1] bcast_S4096x2040_S4096x2040x1_0_1 (transpose S4096x2040 [1, 0] (V0 (Proc.devRef .tc main_arg9)) transposes_S2040x4096_S4096x2040_1_0))) (broadcastInDim S4096x2040x1024 ![0, 1, 2] bcast_S1x2040x1024_S4096x2040x1024_0_1_2 (broadcastInDim S1x2040x1024 ![1, 2] bcast_S2040x1024_S1x2040x1024_1_2 (redz V0)))) (constantI S_ 32 0#32) reducesTo_S4096x2040x1024_S4096x1024_d1 h_S_) (res_main_call11_v2 V0)

theorem flipz_apply (R : RefReads D V0) (j : S4096x1024.Idx) : flipz V0 j = bw 32 (flip D.bx D.rz (j 1).val (j 0).val) := by
  unfold flipz
  refine (modTwo_apply _ _ _ (fun _ => rfl) j).trans (bw_congr ?_)
  pointwise
  exact (par_fold _ _ (fun k => D.bx k (j 0).val) (fun k => D.rz (j 1).val k) (fun k => R.bx (ix2 k (j 0))) (fun k => par_of (redz_apply R (ix2 k (j 1))))).trans (sum_swap _ _)

/-- The repaired guess. -/
def repz (V0 : Valuation τ sig (Elt Ideal)) : IVec S1024x4096 32 :=
  xori (res_main_v102 V0) (transpose S1024x4096 [1, 0] (flipz V0) transposes_S4096x1024_S1024x4096_1_0)

theorem repz_apply (R : RefReads D V0) (j : S1024x4096.Idx) : repz V0 j = bw 32 (D.ez (j 0).val (j 1).val) := by
  unfold repz
  pointwise
  exact Eq.trans (congrArg₂ (· ^^^ ·) (v102 R j) (flipz_apply R (ix2 (j 1) (j 0)))) (xor_bw32 _ _)

/-- What is left of the noise. -/
def leftz (V0 : Valuation τ sig (Elt Ideal)) : IVec S1024x4096 32 :=
  xori (V0 (Proc.devRef .tc main_arg1)) (extui 32 (select (broadcastInDim S1024x4096 ![0, 1] bcast_S1024x1_S1024x4096_0_1 (broadcastInDim S1024x1 ![0] bcast_S1024_S1024x1_0 (res_main_v71 V0)))
    (id (cmpi .ne (taken (taken (repz V0) (wrapped (res_main_v98 V0))) (wrapped (res_main_v99 V0))) (broadcastInDim S1024x4096 ![] bcast_S_S1024x4096 (constantI S_ 32 0#32)))) (res_main_v46 V0)) natLt_1_32)

theorem select_bit (p : Prop) (x y : ZMod 2) : Scalar.select (bw 1 (bit p)) (bw 1 x) (bw 1 y) = bw 1 (if p then x else y) := by
  unfold bit
  by_cases h : p
  · rw [if_pos h, if_pos h]; rfl
  · rw [if_neg h, if_neg h]; rfl

theorem leftz_apply (R : RefReads D V0) (j : S1024x4096.Idx) : leftz V0 j = bw 32 (D.d2z (j 0).val (j 1).val) := by
  unfold leftz
  rw [taken_twice comparator_f32_i32_d1 (res_main_v97 V0) (repz V0) (res_main_v98 V0) (res_main_v99 V0) rfl rfl]
  pointwise
  refine Eq.trans (congrArg₂ (· ^^^ ·) (R.nz j) (Eq.trans (congrArg (BitVec.setWidth 32) ?_) (zext_bw1 _))) (xor_bw32 _ _)
  refine Eq.trans ?_ (select_bit (D.err (j 0).val) _ _)
  have h2 : IntOp.cmpi .ne (repz V0 j) 0#32 = bw 1 (D.ez (j 0).val (j 1).val) := by rw [repz_apply R, bw_ne_zero]
  exact congr (congr (congrArg Scalar.select (v71 R (ix1 (j 0)))) h2) (v46 R j)

theorem call23_text : res_main_call23_v4 V0 = Host.remsi (Host.reduce IntOp.addi (muli (broadcastInDim S16x4096x1024 ![0, 1, 2] bcast_S16x4096x1_S16x4096x1024_0_1_2 (broadcastInDim S16x4096x1 ![0, 1] bcast_S16x4096_S16x4096x1_0_1 (V0 (Proc.devRef .tc main_arg5)))) (broadcastInDim S16x4096x1024 ![0, 1, 2] bcast_S1x4096x1024_S16x4096x1024_0_1_2 (broadcastInDim S1x4096x1024 ![1, 2] bcast_S4096x1024_S1x4096x1024_1_2 (transpose S4096x1024 [1, 0] (leftz V0) transposes_S1024x4096_S4096x1024_1_0)))) (constantI S_ 32 0#32) reducesTo_S16x4096x1024_S16x1024_d1 h_S_) (broadcastInDim S16x1024 ![] bcast_S_S16x1024 (res_main_call23_v2 V0)) := rfl

theorem seenz (R : RefReads D V0) (j : S16x1024.Idx) :
    select (andi (cmpi .ne (cmpi .slt (res_main_call23_v4 V0) (broadcastInDim S16x1024 ![] bcast_S_S16x1024 (constantI S_ 32 0#32))) (broadcastInDim S16x1024 ![] bcast_S_S16x1024 (cmpi .slt (res_main_call23_v2 V0) (constantI S_ 32 0#32)))) (cmpi .ne (res_main_call23_v4 V0) (broadcastInDim S16x1024 ![] bcast_S_S16x1024 (constantI S_ 32 0#32)))) (addi (res_main_call23_v4 V0) (broadcastInDim S16x1024 ![] bcast_S_S16x1024 (res_main_call23_v2 V0))) (res_main_call23_v4 V0) j
      = bw 32 (D.outz (j 1).val (j 0).val) := by
  rw [call23_text]
  refine (mod2_vec _ _ _ _ _ rfl rfl rfl).trans (bw_congr ?_)
  pointwise
  exact (par_fold _ _ (fun k => D.lx (j 0).val k) (fun k => D.d2z (j 1).val k) (fun k => R.lx (ix2 (j 0) k)) (fun k => par_of (leftz_apply R (ix2 (j 1) k)))).trans (sum_swap _ _)

/-! ## The guess of the kind x -/

def redx (V0 : Valuation τ sig (Elt Ideal)) : IVec S2040x1024 32 :=
  modTwo bcast_S_S2040x1024 (addi (Host.reduce IntOp.addi (muli (broadcastInDim S2040x4096x1024 ![0, 1, 2] bcast_S2040x4096x1_S2040x4096x1024_0_1_2 (broadcastInDim S2040x4096x1 ![0, 1] bcast_S2040x4096_S2040x4096x1_0_1 (V0 (Proc.devRef .tc main_arg10)))) (broadcastInDim S2040x4096x1024 ![0, 1, 2] bcast_S1x4096x1024_S2040x4096x1024_0_1_2 (broadcastInDim S1x4096x1024 ![1, 2] bcast_S4096x1024_S1x4096x1024_1_2 (transpose S4096x1024 [1, 0] (res_main_v133 V0) transposes_S1024x4096_S4096x1024_1_0)))) (constantI S_ 32 0#32) reducesTo_S2040x4096x1024_S2040x1024_d1 h_S_)
    (rowsTaken (res_main_v15 V0) (res_main_call7_v5 V0))) (res_main_call16_v2 V0)

theorem redx_apply (R : RefReads D V0) (j : S2040x1024.Idx) : redx V0 j = bw 32 (D.rx (j 1).val (j 0).val) := by
  unfold redx
  refine (modTwo_apply _ _ _ (fun _ => rfl) j).trans (bw_congr ?_)
  refine ((par_add _ _).trans (congrArg₂ (· + ·) ?_ (par_of ?_)))
  · pointwise
    exact (par_fold _ _ (fun k => D.bz (j 0).val k) (fun k => D.e0x (j 1).val k) (fun k => R.bz (ix2 (j 0) k)) (fun k => par_of (v133 R (ix2 (j 1) k)))).trans (sum_swap _ _)
  · rw [rowsTaken_apply _ _ D.pz R.pz_lt (fun i => by unfold res_main_call7_v5; exact pivots_apply _ _ R.pz_lt R.pz i)]
    exact v15 R _

def flipx (V0 : Valuation τ sig (Elt Ideal)) : IVec S4096x1024 32 :=
  modTwo bcast_S_S4096x1024 (Host.reduce IntOp.addi (muli (broadcastInDim S4096x2040x1024 ![0, 1, 2] bcast_S4096x2040x1_S4096x2040x1024_0_1_2 (broadcastInDim S4096x2040x1 ![0, 1] bcast_S4096x2040_S4096x2040x1_0_1 (transpose S4096x2040 [1, 0] (V0 (Proc.devRef .tc main_arg10)) transposes_S2040x4096_S4096x2040_1_0))) (broadcastInDim S4096x2040x1024 ![0, 1, 2] bcast_S1x2040x1024_S4096x2040x1024_0_1_2 (broadcastInDim S1x2040x1024 ![1, 2] bcast_S2040x1024_S1x2040x1024_1_2 (redx V0)))) (constantI S_ 32 0#32) reducesTo_S4096x2040x1024_S4096x1024_d1 h_S_) (res_main_call17_v2 V0)

theorem flipx_apply (R : RefReads D V0) (j : S4096x1024.Idx) : flipx V0 j = bw 32 (flip D.bz D.rx (j 1).val (j 0).val) := by
  unfold flipx
  refine (modTwo_apply _ _ _ (fun _ => rfl) j).trans (bw_congr ?_)
  pointwise
  exact (par_fold _ _ (fun k => D.bz k (j 0).val) (fun k => D.rx (j 1).val k) (fun k => R.bz (ix2 k (j 0))) (fun k => par_of (redx_apply R (ix2 k (j 1))))).trans (sum_swap _ _)

/-- The repaired guess. -/
def repx (V0 : Valuation τ sig (Elt Ideal)) : IVec S1024x4096 32 :=
  xori (res_main_v133 V0) (transpose S1024x4096 [1, 0] (flipx V0) transposes_S4096x1024_S1024x4096_1_0)

theorem repx_apply (R : RefReads D V0) (j : S1024x4096.Idx) : repx V0 j = bw 32 (D.ex (j 0).val (j 1).val) := by
  unfold repx
  pointwise
  exact Eq.trans (congrArg₂ (· ^^^ ·) (v133 R j) (flipx_apply R (ix2 (j 1) (j 0)))) (xor_bw32 _ _)

/-- What is left of the noise. -/
def leftx (V0 : Valuation τ sig (Elt Ideal)) : IVec S1024x4096 32 :=
  xori (V0 (Proc.devRef .tc main_arg0)) (extui 32 (select (broadcastInDim S1024x4096 ![0, 1] bcast_S1024x1_S1024x4096_0_1 (broadcastInDim S1024x1 ![0] bcast_S1024_S1024x1_0 (res_main_v71 V0)))
    (id (cmpi .ne (taken (taken (repx V0) (wrapped (res_main_v129 V0))) (wrapped (res_main_v130 V0))) (broadcastInDim S1024x4096 ![] bcast_S_S1024x4096 (constantI S_ 32 0#32)))) (res_main_v44 V0)) natLt_1_32)

theorem leftx_apply (R : RefReads D V0) (j : S1024x4096.Idx) : leftx V0 j = bw 32 (D.d2x (j 0).val (j 1).val) := by
  unfold leftx
  rw [taken_twice comparator_f32_i32_d1 (res_main_v128 V0) (repx V0) (res_main_v129 V0) (res_main_v130 V0) rfl rfl]
  pointwise
  refine Eq.trans (congrArg₂ (· ^^^ ·) (R.nx j) (Eq.trans (congrArg (BitVec.setWidth 32) ?_) (zext_bw1 _))) (xor_bw32 _ _)
  refine Eq.trans ?_ (select_bit (D.err (j 0).val) _ _)
  have h2 : IntOp.cmpi .ne (repx V0 j) 0#32 = bw 1 (D.ex (j 0).val (j 1).val) := by rw [repx_apply R, bw_ne_zero]
  exact congr (congr (congrArg Scalar.select (v71 R (ix1 (j 0)))) h2) (v44 R j)

theorem call22_text : res_main_call22_v4 V0 = Host.remsi (Host.reduce IntOp.addi (muli (broadcastInDim S16x4096x1024 ![0, 1, 2] bcast_S16x4096x1_S16x4096x1024_0_1_2 (broadcastInDim S16x4096x1 ![0, 1] bcast_S16x4096_S16x4096x1_0_1 (V0 (Proc.devRef .tc main_arg6)))) (broadcastInDim S16x4096x1024 ![0, 1, 2] bcast_S1x4096x1024_S16x4096x1024_0_1_2 (broadcastInDim S1x4096x1024 ![1, 2] bcast_S4096x1024_S1x4096x1024_1_2 (transpose S4096x1024 [1, 0] (leftx V0) transposes_S1024x4096_S4096x1024_1_0)))) (constantI S_ 32 0#32) reducesTo_S16x4096x1024_S16x1024_d1 h_S_) (broadcastInDim S16x1024 ![] bcast_S_S16x1024 (res_main_call22_v2 V0)) := rfl

theorem seenx (R : RefReads D V0) (j : S16x1024.Idx) :
    select (andi (cmpi .ne (cmpi .slt (res_main_call22_v4 V0) (broadcastInDim S16x1024 ![] bcast_S_S16x1024 (constantI S_ 32 0#32))) (broadcastInDim S16x1024 ![] bcast_S_S16x1024 (cmpi .slt (res_main_call22_v2 V0) (constantI S_ 32 0#32)))) (cmpi .ne (res_main_call22_v4 V0) (broadcastInDim S16x1024 ![] bcast_S_S16x1024 (constantI S_ 32 0#32)))) (addi (res_main_call22_v4 V0) (broadcastInDim S16x1024 ![] bcast_S_S16x1024 (res_main_call22_v2 V0))) (res_main_call22_v4 V0) j
      = bw 32 (D.outx (j 1).val (j 0).val) := by
  rw [call22_text]
  refine (mod2_vec _ _ _ _ _ rfl rfl rfl).trans (bw_congr ?_)
  pointwise
  exact (par_fold _ _ (fun k => D.lz (j 0).val k) (fun k => D.d2x (j 1).val k) (fun k => R.lz (ix2 (j 0) k)) (fun k => par_of (leftx_apply R (ix2 (j 1) k)))).trans (sum_swap _ _)

/-- The result: by batch row, sixteen logical operators of the one kind and sixteen of the other. -/
theorem result (R : RefReads D V0) (A B : IVec S16x1024 32) (hA : ∀ j, A j = bw 32 (D.outx (j 1).val (j 0).val)) (hB : ∀ j, B j = bw 32 (D.outz (j 1).val (j 0).val)) :
    transpose S1024x32 [1, 0] (concatenate S32x1024 0 [⟨S16x1024, A⟩, ⟨S16x1024, B⟩] concatenates_S16x1024_S16x1024_S32x1024_d0) transposes_S32x1024_S1024x32_1_0
      = fun j => bw 32 (D.out (j 0).val (j 1).val) := by
  funext j
  pointwise
  unfold Data.out
  by_cases h : (j 1).val < 16
  · rw [if_pos h]; exact (dif_pos h).trans (hA _)
  · rw [if_neg h]; exact (dif_neg h).trans (hB _)

end Cert.Val
-- ==== Proof.Val.Pre.lean ====
/-
  THE PRECONDITION, READ. Where the noise and the check matrices are bits, the pivots are rows of the check matrices and
  every channel value is finite, the eleven arguments hold some data.
-/
module

public import proofs.«01_k».proof.Pre_drawn
public import proofs.«01_k».proof.Proof.Val.Spec
public import Idealize.ShloMosaic.Lib.Pointwise

@[expose] public section

set_option maxRecDepth 16384

noncomputable section

namespace Cert.Val

open Idealize.ShloMosaic Idealize.ShloMosaic.Tactic
open Cert.Pre_drawn

/-- The shape relations the precondition's operations take. -/
theorem pre_facts : Cert.Pre_drawn.Facts where
  bcast_S_S1024x4096 := by decide
  bcast_S_S2048x4096 := by decide
  bcast_S_S2040 := by decide

/-- A word from zero up to below `n`, as the precondition tests it. -/
def within (n : BitVec 32) (x : BitVec 32) : BitVec 1 := IntOp.andi (IntOp.cmpi .sge x 0#32) (IntOp.cmpi .slt x n)

theorem within_lt {n : ℕ} (hn : n < 2 ^ 31) {x : BitVec 32} (h : within (BitVec.ofNat 32 n) x = 1#1) : x.toNat < n := by
  unfold within IntOp.andi IntOp.cmpi at h
  have ht : (BitVec.ofNat 32 n).toInt = n := by
    rw [BitVec.toInt_eq_toNat_cond, BitVec.toNat_ofNat]; split <;> omega
  cases h1 : BitVec.sle 0#32 x <;> cases h2 : BitVec.slt x (BitVec.ofNat 32 n) <;> simp only [h1, h2] at h
  · exact absurd h (by decide)
  · exact absurd h (by decide)
  · exact absurd h (by decide)
  · rw [BitVec.sle, decide_eq_true_eq, show (0#32).toInt = 0 from rfl] at h1
    rw [BitVec.slt, decide_eq_true_eq, ht] at h2
    rw [BitVec.toInt_eq_toNat_cond] at h1 h2
    split at h1 <;> rename_i hc
    · rw [if_pos hc] at h2; omega
    · have := x.isLt; omega

theorem within_bit {x : BitVec 32} (h : within 2#32 x = 1#1) : x = bw 32 (par x) := by
  have hx := within_lt (n := 2) (by norm_num) h
  have : x = BitVec.ofNat 32 x.toNat := by simp
  rw [this]
  generalize x.toNat = n at hx
  interval_cases n <;> rfl

/-- A channel value whose size is below infinity is a real number. -/
theorem finite_coe (x : EReal) (h : FloatOps.cmpf (F := Ideal) (φ := .f32) .olt (FloatOps.hostAbsf (F := Ideal) (φ := .f32) x) (FloatOps.ofBits (F := Ideal) .f32 0x7F800000#32) = 1#1) :
    x = ((x.toReal : ℝ) : EReal) := by
  have hinf : Ideal.ofBits .f32 0x7F800000#32 = (⊤ : EReal) := by
    simp [Ideal.ofBits, Ideal.ieee]
  have h' : Ideal.cmp .olt (max x (-x)) (Ideal.ofBits .f32 0x7F800000#32) = 1#1 := h
  rw [hinf] at h'
  induction x using EReal.rec with
  | bot => exact absurd h' (by simp [Ideal.cmp])
  | coe x => rw [EReal.toReal_coe]
  | top => exact absurd h' (by simp [Ideal.cmp])

/-- An array as a function of natural coordinates, `z` outside. -/
def held {α : Type} {a b : ℕ} (z : α) (X : (Sh2 a b).Idx → α) (i k : ℕ) : α :=
  if h : i < a ∧ k < b then X (ix2 ⟨i, h.1⟩ ⟨k, h.2⟩) else z

theorem held_at {α : Type} {a b : ℕ} (z : α) (X : (Sh2 a b).Idx → α) (j : (Sh2 a b).Idx) : held z X (j 0).val (j 1).val = X j := by
  unfold held
  rw [dif_pos ⟨(j 0).isLt, (j 1).isLt⟩]
  exact congrArg X (ix2_eta j)

/-- The bits of an array. -/
def bitsOf {a b : ℕ} (X : (Sh2 a b).Idx → BitVec 32) (i k : ℕ) : ZMod 2 := par (held 0#32 X i k)

theorem bitsOf_is {a b : ℕ} {X : (Sh2 a b).Idx → BitVec 32} (h : ∀ j, within 2#32 (X j) = 1#1) : IsB X (bitsOf X) := by
  intro j
  unfold bitsOf
  rw [held_at]
  exact within_bit (h j)

theorem bitsOf_parity {a b : ℕ} (X : (Sh2 a b).Idx → BitVec 32) : IsV X (bitsOf X) := by
  intro j
  unfold bitsOf
  rw [held_at]
  rfl

/-- The pivots of an array. -/
def pivotsOf (X : IVec ⟨1, ![2040]⟩ 32) (i : ℕ) : ℕ := if h : i < 2040 then (X (ix1 ⟨i, h⟩)).toNat % 2048 else 0

theorem pivotsOf_lt (X : IVec ⟨1, ![2040]⟩ 32) (i : ℕ) : pivotsOf X i < 2048 := by
  unfold pivotsOf; split
  · exact Nat.mod_lt _ (by norm_num)
  · norm_num

theorem pivotsOf_is {X : IVec ⟨1, ![2040]⟩ 32} (h : ∀ j, within 2048#32 (X j) = 1#1) (j) : X j = BitVec.ofNat 32 (pivotsOf X (j 0).val) := by
  have hj : (j 0).val < 2040 := (j 0).isLt
  unfold pivotsOf
  rw [dif_pos hj, show (ix1 ⟨(j 0).val, hj⟩ : (⟨1, ![2040]⟩ : Shape).Idx) = j from ix1_eta j, Nat.mod_eq_of_lt (within_lt (n := 2048) (by norm_num) (h j))]
  simp

variable [Facts]

/-- The precondition in its parts. -/
theorem pre_parts (x0 x1 : IVec S1024x4096 32) (x2 : FVec Ideal S1024x4096 .f32) (x3 x4 : IVec S2048x4096 32) (x5 x6 : IVec S16x4096 32)
    (x7 x8 : IVec S2040 32) (x9 x10 : IVec S2040x4096 32) :
    Cert.Pre_drawn.fn (F := Ideal) x0 x1 x2 x3 x4 x5 x6 x7 x8 x9 x10
      = ((fun j => FloatOps.cmpf .olt (FloatOps.hostAbsf (x2 j)) (FloatOps.ofBits (F := Ideal) .f32 0x7F800000#32)),
        (fun j => within 2#32 (x0 j)), (fun j => within 2#32 (x1 j)), (fun j => within 2#32 (x3 j)), (fun j => within 2#32 (x4 j)),
        (fun j => within 2048#32 (x7 j)), (fun j => within 2048#32 (x8 j))) := rfl

/-- The data the arguments hold. -/
def dataOf (x0 x1 : IVec S1024x4096 32) (x2 : FVec Ideal S1024x4096 .f32) (x3 x4 : IVec S2048x4096 32) (x5 x6 : IVec S16x4096 32)
    (x7 x8 : IVec S2040 32) (x9 x10 : IVec S2040x4096 32) : Data where
  nx := bitsOf x0
  nz := bitsOf x1
  L i k := EReal.toReal (held (a := 1024) (b := 4096) (0 : EReal) x2 i k)
  hx := bitsOf x3
  hz := bitsOf x4
  lx := bitsOf x5
  lz := bitsOf x6
  px := pivotsOf x7
  pz := pivotsOf x8
  bx := bitsOf x9
  bz := bitsOf x10

theorem reads_of (x0 x1 : IVec S1024x4096 32) (x2 : FVec Ideal S1024x4096 .f32) (x3 x4 : IVec S2048x4096 32) (x5 x6 : IVec S16x4096 32)
    (x7 x8 : IVec S2040 32) (x9 x10 : IVec S2040x4096 32)
    (h2 : (Cert.Pre_drawn.fn (F := Ideal) x0 x1 x2 x3 x4 x5 x6 x7 x8 x9 x10).1 = fun _ => 1#1)
    (h0 : (Cert.Pre_drawn.fn (F := Ideal) x0 x1 x2 x3 x4 x5 x6 x7 x8 x9 x10).2.1 = fun _ => 1#1)
    (h1 : (Cert.Pre_drawn.fn (F := Ideal) x0 x1 x2 x3 x4 x5 x6 x7 x8 x9 x10).2.2.1 = fun _ => 1#1)
    (h3 : (Cert.Pre_drawn.fn (F := Ideal) x0 x1 x2 x3 x4 x5 x6 x7 x8 x9 x10).2.2.2.1 = fun _ => 1#1)
    (h4 : (Cert.Pre_drawn.fn (F := Ideal) x0 x1 x2 x3 x4 x5 x6 x7 x8 x9 x10).2.2.2.2.1 = fun _ => 1#1)
    (h7 : (Cert.Pre_drawn.fn (F := Ideal) x0 x1 x2 x3 x4 x5 x6 x7 x8 x9 x10).2.2.2.2.2.1 = fun _ => 1#1)
    (h8 : (Cert.Pre_drawn.fn (F := Ideal) x0 x1 x2 x3 x4 x5 x6 x7 x8 x9 x10).2.2.2.2.2.2 = fun _ => 1#1) :
    Reads (dataOf x0 x1 x2 x3 x4 x5 x6 x7 x8 x9 x10) x0 x1 x2 x3 x4 x5 x6 x7 x8 x9 x10 := by
  rw [pre_parts] at h0 h1 h2 h3 h4 h7 h8
  exact {
    nx := bitsOf_is fun j => congrFun h0 j
    nz := bitsOf_is fun j => congrFun h1 j
    L := fun j => by
      show x2 j = ((EReal.toReal (held (a := 1024) (b := 4096) (0 : EReal) x2 (j 0).val (j 1).val) : ℝ) : EReal)
      rw [held_at]
      exact finite_coe (x2 j) (congrFun h2 j)
    hx := bitsOf_is fun j => congrFun h3 j
    hz := bitsOf_is fun j => congrFun h4 j
    lx := bitsOf_parity x5
    lz := bitsOf_parity x6
    px := pivotsOf_is fun j => congrFun h7 j
    px_lt := pivotsOf_lt x7
    pz := pivotsOf_is fun j => congrFun h8 j
    pz_lt := pivotsOf_lt x8
    bx := bitsOf_parity x9
    bz := bitsOf_parity x10 }

end Cert.Val
-- ==== Proof.Val.Agree.lean ====
/-
  THE TWO PROGRAMS AGREE. The kernel's second result and the reference's are the same bits of the data the arguments hold; the
  first result of either is zeros.
-/
module

public import proofs.«01_k».proof.Defs
public import proofs.«01_k».proof.Proof.Run.Whole
public import proofs.«01_k».proof.Proof.Val.KerEnd
public import proofs.«01_k».proof.Proof.Val.RefEnd
public import proofs.«01_k».proof.Proof.Val.Pre

@[expose] public section

set_option maxRecDepth 16384

noncomputable section

namespace Cert.Val

open Idealize.ShloMosaic Idealize.ShloMosaic.TcCoe Idealize.SL.Sem

/-- Equal arguments hold the same data. -/
theorem reads_congr {D : Data} {x0 y0 x1 y1 : IVec (Sh2 1024 4096) 32} {x2 y2 : (Sh2 1024 4096).Idx → EReal} {x3 y3 x4 y4 : IVec (Sh2 2048 4096) 32}
    {x5 y5 x6 y6 : IVec (Sh2 16 4096) 32} {x7 y7 x8 y8 : IVec ⟨1, ![2040]⟩ 32} {x9 y9 x10 y10 : IVec (Sh2 2040 4096) 32}
    (h : Reads D x0 x1 x2 x3 x4 x5 x6 x7 x8 x9 x10) (e : y0 = x0 ∧ y1 = x1 ∧ y2 = x2 ∧ y3 = x3 ∧ y4 = x4 ∧ y5 = x5 ∧ y6 = x6 ∧ y7 = x7 ∧ y8 = x8 ∧ y9 = x9 ∧ y10 = x10) :
    Reads D y0 y1 y2 y3 y4 y5 y6 y7 y8 y9 y10 := by
  obtain ⟨rfl, rfl, rfl, rfl, rfl, rfl, rfl, rfl, rfl, rfl, rfl⟩ := e
  exact h

section
open Cert.KernelIdeal Cert.KernelIdeal.Run
variable (m : (ℓ : Loc nD τ sig) → Buf (Elt Ideal) ℓ) (ρ : Dev nD → PrngReg)

/-- The data device `c` holds. -/
def devData (c : Dev nD) : Data := dataOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))

theorem devData_reads [hPre_drawn : Cert.Pre_drawn.Facts] (h : Cert.Pre_KernelIdeal_drawn m) (c : Dev nD) : KerReads (devData m c) m c := by
  obtain ⟨h2, h0, h1, h3, h4, h7, h8⟩ := h c
  exact reads_of _ _ _ _ _ _ _ _ _ _ _ h2 h0 h1 h3 h4 h7 h8

/-- The kernel ends with zeros in its first result, the data's bits in its second, and its arguments as they were. -/
theorem kernel_run (D : Dev nD → Data) (R : ∀ c, KerReads (D c) m c) :
    θ_run (defs (F := Ideal)) (onTc (τ := τ) (main (F := Ideal))) ⟨m, fun _ => 0, ρ⟩ (fun r => ∀ c : Dev nD,
      r.2.mem ((c.tc : Thread nD τ).loc main_v39) = (fun _ : S1024x32.Idx => 0#32)
      ∧ r.2.mem ((c.tc : Thread nD τ).loc main_v38) = (fun j : S1024x32.Idx => bw 32 ((D c).out (j 0).val (j 1).val))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    have a : ∀ b ∈ argRefs, ¬ (Proc.devRef .tc b : DevRef τ sig).isScoped → r.2.mem ((c.tc : Thread nD τ).loc b) = m ((c.tc : Thread nD τ).loc b) :=
      fun b hb hs => (h.1 c _ (mem_uc b hs)).trans (W20_args m ρ c b hb)
    ⟨(h.1 c _ (mem_uc main_v39 (by decide))).trans ((read_v39 (W19 m ρ c)).trans rfl),
      (h.1 c _ (mem_uc main_v38 (by decide))).trans (kernel_v38 ρ (R c)),
      a main_arg0 (by decide) (by decide), a main_arg1 (by decide) (by decide), a main_arg2 (by decide) (by decide), a main_arg3 (by decide) (by decide), a main_arg4 (by decide) (by decide), a main_arg5 (by decide) (by decide), a main_arg6 (by decide) (by decide), a main_arg7 (by decide) (by decide), a main_arg8 (by decide) (by decide), a main_arg9 (by decide) (by decide), a main_arg10 (by decide) (by decide)⟩) (whole m ρ)

end

section
open Cert.ReferenceIdeal StableHlo
variable (m : (ℓ : Loc nD τ sig) → Buf (Elt Ideal) ℓ) (ρ : Dev nD → PrngReg)

/-- The reference ends with the same. -/
theorem reference_run (D : Dev nD → Data) (R : ∀ c, RefReads (D c) (launchContents m c)) :
    θ_run (defs (F := Ideal)) (onTc (τ := τ) (main (F := Ideal))) ⟨m, fun _ => 0, ρ⟩ (fun r => ∀ c : Dev nD,
      r.2.mem ((c.tc : Thread nD τ).loc main_v184) = (fun _ : S1024x32.Idx => 0#32)
      ∧ r.2.mem ((c.tc : Thread nD τ).loc main_v183) = (fun j : S1024x32.Idx => bw 32 ((D c).out (j 0).val (j 1).val))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans rfl, (h c).2.1.trans (result (R c) _ _ (seenx (R c)) (seenz (R c))), (h c).2.2⟩)
    (Cert.ReferenceIdeal.Value.run (F := Ideal) m ρ)

end

end Cert.Val
-- ==== Proof.lean ====
/-
  The certificate: each program runs to its end with its arguments unchanged and every counter back at zero, and over the
  reals the kernel and the reference end with the same two results.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run.Whole
public import proofs.«01_k».proof.Proof.Word.Whole
public import proofs.«01_k».proof.Proof.Val.Agree
public import Idealize.ShloMosaic.Lib.Quiescent

@[expose] public section

noncomputable section

namespace Cert.Proof

open Idealize.ShloMosaic Idealize.SL.Sem

/-- The reference's frame. -/
theorem reference_frame : Cert.quiescent_ReferenceIdeal (hReferenceIdeal := Cert.ReferenceIdeal.Gen.facts) :=
  fun m g _ => (θ_run _ _ _).mono (fun r h => ⟨fun c => (h c).2.2, sem_eq_zero_of_no_sems rfl r.2⟩)
    (Cert.ReferenceIdeal.Value.run (F := Ideal) m g)

/-- Over the reals the kernel's results are the reference's. -/
theorem algebraic : Cert.algebraic_KernelIdeal_ReferenceIdeal_pre_drawn (hKernelIdeal := Cert.KernelIdeal.Gen.facts)
    (hReferenceIdeal := Cert.ReferenceIdeal.Gen.facts) (hPre_drawn := Cert.Val.pre_facts) :=
  fun m g m' g' hpre heq =>
    have K := fun c => Cert.Val.devData_reads (hPre_drawn := Cert.Val.pre_facts) m hpre c
    ⟨fun _ _ => 0#32, fun c j => Cert.Val.bw 32 ((Cert.Val.devData m c).out (j 0).val (j 1).val),
      Cert.Val.kernel_run m g (Cert.Val.devData m) K,
      Cert.Val.reference_run m' g' (Cert.Val.devData m) fun c => Cert.Val.reads_congr (K c) (heq c)⟩

theorem claim : Cert.Claim :=
  ⟨Cert.Kernel.Gen.facts, Cert.KernelIdeal.Gen.facts, Cert.ReferenceIdeal.Gen.facts, Cert.Val.pre_facts,
    fun m ρ _ => Cert.Kernel.Run.frame m ρ, fun m ρ _ => Cert.KernelIdeal.Run.frame m ρ, fun m ρ _ => Cert.KernelIdeal.Run.frame m ρ,
    reference_frame, fun m g _ => reference_frame m g trivial, trivial, algebraic⟩

end Cert.Proof

end
